-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layout [hPre_layout : Cert.Pre_layout.Facts] (m : (ℓ : Loc Cert.KernelIdeal.nD Cert.KernelIdeal.τ Cert.KernelIdeal.sig) → Buf (Elt Ideal) ℓ) : Prop :=
  ∀ c : Dev Cert.KernelIdeal.nD,
    (Cert.Pre_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layout [hPre_layout : Cert.Pre_layout.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_layout [hKernelIdeal : Cert.KernelIdeal.Facts] [hPre_layout : Cert.Pre_layout.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layout m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_layout [hReferenceIdeal : Cert.ReferenceIdeal.Facts] [hPre_layout : Cert.Pre_layout.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layout m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "bias" .f32 0xC61C4000#32 ⊥

def algebraic_KernelIdeal_ReferenceIdeal_pre_layout [hKernelIdeal : Cert.KernelIdeal.Facts] [hReferenceIdeal : Cert.ReferenceIdeal.Facts] [hPre_layout : Cert.Pre_layout.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layout m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)) (v5 : (c : Dev Cert.Kernel2Ideal.nD) → Buf (Elt Ideal) ((c.tc : Thread Cert.Kernel2Ideal.nD Cert.Kernel2Ideal.τ).loc Cert.Kernel2Ideal.main_v14_5)) (v6 : (c : Dev Cert.Kernel2Ideal.nD) → Buf (Elt Ideal) ((c.tc : Thread Cert.Kernel2Ideal.nD Cert.Kernel2Ideal.τ).loc Cert.Kernel2Ideal.main_v14_6)) (v7 : (c : Dev Cert.Kernel2Ideal.nD) → Buf (Elt Ideal) ((c.tc : Thread Cert.Kernel2Ideal.nD Cert.Kernel2Ideal.τ).loc Cert.Kernel2Ideal.main_v14_7)) (v8 : (c : Dev Cert.Kernel2Ideal.nD) → Buf (Elt Ideal) ((c.tc : Thread Cert.Kernel2Ideal.nD Cert.Kernel2Ideal.τ).loc Cert.Kernel2Ideal.main_v14_8)) (v9 : (c : Dev Cert.Kernel2Ideal.nD) → Buf (Elt Ideal) ((c.tc : Thread Cert.Kernel2Ideal.nD Cert.Kernel2Ideal.τ).loc Cert.Kernel2Ideal.main_v14_9)) (v10 : (c : Dev Cert.Kernel2Ideal.nD) → Buf (Elt Ideal) ((c.tc : Thread Cert.Kernel2Ideal.nD Cert.Kernel2Ideal.τ).loc Cert.Kernel2Ideal.main_v14_10)) (v11 : (c : Dev Cert.Kernel2Ideal.nD) → Buf (Elt Ideal) ((c.tc : Thread Cert.Kernel2Ideal.nD Cert.Kernel2Ideal.τ).loc Cert.Kernel2Ideal.main_v14_11)) (v12 : (c : Dev Cert.Kernel2Ideal.nD) → Buf (Elt Ideal) ((c.tc : Thread Cert.Kernel2Ideal.nD Cert.Kernel2Ideal.τ).loc Cert.Kernel2Ideal.main_v14_12)) (v13 : (c : Dev Cert.Kernel2Ideal.nD) → Buf (Elt Ideal) ((c.tc : Thread Cert.Kernel2Ideal.nD Cert.Kernel2Ideal.τ).loc Cert.Kernel2Ideal.main_v14_13)) (v14 : (c : Dev Cert.Kernel2Ideal.nD) → Buf (Elt Ideal) ((c.tc : Thread Cert.Kernel2Ideal.nD Cert.Kernel2Ideal.τ).loc Cert.Kernel2Ideal.main_v14_14)) (v15 : (c : Dev Cert.Kernel2Ideal.nD) → Buf (Elt Ideal) ((c.tc : Thread Cert.Kernel2Ideal.nD Cert.Kernel2Ideal.τ).loc Cert.Kernel2Ideal.main_v14_15)) (v16 : (c : Dev Cert.Kernel2Ideal.nD) → Buf (Elt Ideal) ((c.tc : Thread Cert.Kernel2Ideal.nD Cert.Kernel2Ideal.τ).loc Cert.Kernel2Ideal.main_v14_16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_v14_5) = v5 c
          ∧ r.2.mem ((c.tc : Thread Cert.Kernel2Ideal.nD Cert.Kernel2Ideal.τ).loc Cert.Kernel2Ideal.main_v14_6) = v6 c
          ∧ r.2.mem ((c.tc : Thread Cert.Kernel2Ideal.nD Cert.Kernel2Ideal.τ).loc Cert.Kernel2Ideal.main_v14_7) = v7 c
          ∧ r.2.mem ((c.tc : Thread Cert.Kernel2Ideal.nD Cert.Kernel2Ideal.τ).loc Cert.Kernel2Ideal.main_v14_8) = v8 c
          ∧ r.2.mem ((c.tc : Thread Cert.Kernel2Ideal.nD Cert.Kernel2Ideal.τ).loc Cert.Kernel2Ideal.main_v14_9) = v9 c
          ∧ r.2.mem ((c.tc : Thread Cert.Kernel2Ideal.nD Cert.Kernel2Ideal.τ).loc Cert.Kernel2Ideal.main_v14_10) = v10 c
          ∧ r.2.mem ((c.tc : Thread Cert.Kernel2Ideal.nD Cert.Kernel2Ideal.τ).loc Cert.Kernel2Ideal.main_v14_11) = v11 c
          ∧ r.2.mem ((c.tc : Thread Cert.Kernel2Ideal.nD Cert.Kernel2Ideal.τ).loc Cert.Kernel2Ideal.main_v14_12) = v12 c
          ∧ r.2.mem ((c.tc : Thread Cert.Kernel2Ideal.nD Cert.Kernel2Ideal.τ).loc Cert.Kernel2Ideal.main_v14_13) = v13 c
          ∧ r.2.mem ((c.tc : Thread Cert.Kernel2Ideal.nD Cert.Kernel2Ideal.τ).loc Cert.Kernel2Ideal.main_v14_14) = v14 c
          ∧ r.2.mem ((c.tc : Thread Cert.Kernel2Ideal.nD Cert.Kernel2Ideal.τ).loc Cert.Kernel2Ideal.main_v14_15) = v15 c
          ∧ r.2.mem ((c.tc : Thread Cert.Kernel2Ideal.nD Cert.Kernel2Ideal.τ).loc Cert.Kernel2Ideal.main_v14_16) = v16 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v55) = v4 c
          ∧ r.2.mem ((c.tc : Thread Cert.Reference2Ideal.nD Cert.Reference2Ideal.τ).loc Cert.Reference2Ideal.main_v56) = v5 c
          ∧ r.2.mem ((c.tc : Thread Cert.Reference2Ideal.nD Cert.Reference2Ideal.τ).loc Cert.Reference2Ideal.main_v57) = v6 c
          ∧ r.2.mem ((c.tc : Thread Cert.Reference2Ideal.nD Cert.Reference2Ideal.τ).loc Cert.Reference2Ideal.main_v58) = v7 c
          ∧ r.2.mem ((c.tc : Thread Cert.Reference2Ideal.nD Cert.Reference2Ideal.τ).loc Cert.Reference2Ideal.main_v60) = v8 c
          ∧ r.2.mem ((c.tc : Thread Cert.Reference2Ideal.nD Cert.Reference2Ideal.τ).loc Cert.Reference2Ideal.main_v68) = v9 c
          ∧ r.2.mem ((c.tc : Thread Cert.Reference2Ideal.nD Cert.Reference2Ideal.τ).loc Cert.Reference2Ideal.main_v70) = v10 c
          ∧ r.2.mem ((c.tc : Thread Cert.Reference2Ideal.nD Cert.Reference2Ideal.τ).loc Cert.Reference2Ideal.main_v77) = v11 c
          ∧ r.2.mem ((c.tc : Thread Cert.Reference2Ideal.nD Cert.Reference2Ideal.τ).loc Cert.Reference2Ideal.main_v84) = v12 c
          ∧ r.2.mem ((c.tc : Thread Cert.Reference2Ideal.nD Cert.Reference2Ideal.τ).loc Cert.Reference2Ideal.main_v85) = v13 c
          ∧ r.2.mem ((c.tc : Thread Cert.Reference2Ideal.nD Cert.Reference2Ideal.τ).loc Cert.Reference2Ideal.main_v92) = v14 c
          ∧ r.2.mem ((c.tc : Thread Cert.Reference2Ideal.nD Cert.Reference2Ideal.τ).loc Cert.Reference2Ideal.main_v99) = v15 c
          ∧ r.2.mem ((c.tc : Thread Cert.Reference2Ideal.nD Cert.Reference2Ideal.τ).loc Cert.Reference2Ideal.main_v106) = v16 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v281) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_layout : Cert.Pre_layout.Facts),
    quiescent_Kernel (hKernel := hKernel)
    ∧ quiescent_KernelIdeal (hKernelIdeal := hKernelIdeal)
    ∧ quiescent_KernelIdeal_pre_layout (hKernelIdeal := hKernelIdeal) (hPre_layout := hPre_layout)
    ∧ quiescent_ReferenceIdeal (hReferenceIdeal := hReferenceIdeal)
    ∧ quiescent_ReferenceIdeal_pre_layout (hReferenceIdeal := hReferenceIdeal) (hPre_layout := hPre_layout)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_layout (hKernelIdeal := hKernelIdeal) (hReferenceIdeal := hReferenceIdeal) (hPre_layout := hPre_layout)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_layout.lean ====
abbrev S8x8x2048x128 : Shape := ⟨4, ![8, 8, 2048, 128]⟩
abbrev S8x2048x128 : Shape := ⟨3, ![8, 2048, 128]⟩
abbrev S8x2x128x128 : Shape := ⟨4, ![8, 2, 128, 128]⟩
abbrev S8x2x2048x128 : Shape := ⟨4, ![8, 2, 2048, 128]⟩
abbrev S128x128 : Shape := ⟨2, ![128, 128]⟩
abbrev S2048 : Shape := ⟨1, ![2048]⟩
abbrev S_ : Shape := ⟨0, ![]⟩
abbrev S2048x1 : Shape := ⟨2, ![2048, 1]⟩
abbrev S64 : Shape := ⟨1, ![64]⟩
abbrev S1x64 : Shape := ⟨2, ![1, 64]⟩
abbrev S2048x64 : Shape := ⟨2, ![2048, 64]⟩
abbrev S8x8x2048x64 : Shape := ⟨4, ![8, 8, 2048, 64]⟩
abbrev S8x2x2048x64 : Shape := ⟨4, ![8, 2, 2048, 64]⟩
abbrev S1x1x2048x64 : Shape := ⟨4, ![1, 1, 2048, 64]⟩

class Facts : Prop where
  bitsLt_bf16_f32 : FTy.bits .bf16 < FTy.bits .f32
  bcast_S_S2048 : S_.BroadcastsInDim S2048 (![] : Fin 0 → Fin S2048.rank)
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  bcast_S_S8x8x2048x128 : S_.BroadcastsInDim S8x8x2048x128 (![] : Fin 0 → Fin S8x8x2048x128.rank)
  reducesTo_S8x8x2048x128_S_d0_1_2_3 : S8x8x2048x128.ReducesTo [0, 1, 2, 3] S_
  h_S_ : 0 < S_.numel
  slices_S8x8x2048x128_S8x8x2048x64_0_0_0_64 : S8x8x2048x128.Slices ![0, 0, 0, 64] S8x8x2048x64
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  bcast_S_S8x2x2048x128 : S_.BroadcastsInDim S8x2x2048x128 (![] : Fin 0 → Fin S8x2x2048x128.rank)
  reducesTo_S8x2x2048x128_S_d0_1_2_3 : S8x2x2048x128.ReducesTo [0, 1, 2, 3] S_
  slices_S8x2x2048x128_S8x2x2048x64_0_0_0_64 : S8x2x2048x128.Slices ![0, 0, 0, 64] S8x2x2048x64
  bcast_S2048x64_S1x1x2048x64_2_3 : S2048x64.BroadcastsInDim S1x1x2048x64 (![2, 3] : Fin 2 → Fin S1x1x2048x64.rank)
  bcast_S1x1x2048x64_S8x2x2048x64_0_1_2_3 : S1x1x2048x64.BroadcastsInDim S8x2x2048x64 (![0, 1, 2, 3] : Fin 4 → Fin S8x2x2048x64.rank)
  reducesTo_S8x2x2048x64_S_d0_1_2_3 : S8x2x2048x64.ReducesTo [0, 1, 2, 3] S_

variable [Facts]

def fn_part1 {F : FTy → Type} [FloatOps F] (main_v1 : FVec F S8x2x2048x128 .f32) (main_v12 : FVec F S2048x64 .f32) (main_v16 : IVec S_ 1) (main_v19 : IVec S8x8x2048x64 1) : IVec S_ 1 :=
  let main_c_2 : IVec S_ 1 := constantI S_ 1 1#1
  let main_v20 : IVec S_ 1 := (fun x v => Host.reduce IntOp.andi x v reducesTo_S8x8x2048x64_S_d0_1_2_3 h_S_) main_v19 main_c_2
  let main_v21 : IVec S_ 1 := andi main_v16 main_v20
  let main_v22 : FVec F S8x2x2048x128 .f32 := Host.absf main_v1
  let main_cst_3 : FVec F S_ .f32 := constant S_ .f32 0x7F800000#32
  let main_v23 : FVec F S8x2x2048x128 .f32 := broadcastInDim S8x2x2048x128 ![] bcast_S_S8x2x2048x128 main_cst_3
  let main_v24 : IVec S8x2x2048x128 1 := cmpf .olt main_v22 main_v23
  let main_c_4 : IVec S_ 1 := constantI S_ 1 1#1
  let main_v25 : IVec S_ 1 := (fun x v => Host.reduce IntOp.andi x v reducesTo_S8x2x2048x128_S_d0_1_2_3 h_S_) main_v24 main_c_4
  let main_v26 : IVec S_ 1 := andi main_v21 main_v25
  let main_v27 : FVec F S8x2x2048x64 .f32 := (extractStridedSlice S8x2x2048x64 ![0, 0, 0, 64] · slices_S8x2x2048x128_S8x2x2048x64_0_0_0_64) main_v1
  let main_v28 : FVec F S1x1x2048x64 .f32 := broadcastInDim S1x1x2048x64 ![2, 3] bcast_S2048x64_S1x1x2048x64_2_3 main_v12
  let main_v29 : FVec F S8x2x2048x64 .f32 := broadcastInDim S8x2x2048x64 ![0, 1, 2, 3] bcast_S1x1x2048x64_S8x2x2048x64_0_1_2_3 main_v28
  let main_v30 : IVec S8x2x2048x64 1 := cmpf .oeq main_v27 main_v29
  let main_c_5 : IVec S_ 1 := constantI S_ 1 1#1
  let main_v31 : IVec S_ 1 := (fun x v => Host.reduce IntOp.andi x v reducesTo_S8x2x2048x64_S_d0_1_2_3 h_S_) main_v30 main_c_5
  let main_v32 : IVec S_ 1 := andi main_v26 main_v31
  main_v32

def fn {F : FTy → Type} [FloatOps F] (main_arg0 : FVec F S8x8x2048x128 .bf16) (main_arg1 : FVec F S8x2048x128 .f32) (main_arg2 : FVec F S8x2x128x128 .bf16) (main_arg3 : FVec F S8x2x128x128 .bf16) (main_arg4 : FVec F S8x2x2048x128 .bf16) (main_arg5 : FVec F S8x2x2048x128 .bf16) (main_arg6 : FVec F S8x2x2048x128 .bf16) (main_arg7 : FVec F S8x2x2048x128 .bf16) (main_arg8 : FVec F S128x128 .bf16) : IVec S_ 1 :=
  let main_v0 : FVec F S8x8x2048x128 .f32 := (extf .f32 · bitsLt_bf16_f32) main_arg0
  let main_v1 : FVec F S8x2x2048x128 .f32 := (extf .f32 · bitsLt_bf16_f32) main_arg4
  let main_v2 : IVec S2048 32 := iotaInDim S2048 32 0
  let main_c : IVec S_ 32 := constantI S_ 32 64#32
  let main_v3 : IVec S2048 32 := broadcastInDim S2048 ![] bcast_S_S2048 main_c
  let main_v4 : IVec S2048 32 := Host.divsi main_v2 main_v3
  let main_v5 : IVec S2048x1 32 := broadcastInDim S2048x1 ![0] bcast_S2048_S2048x1_0 main_v4
  let main_v6 : IVec S64 32 := iotaInDim S64 32 0
  let main_v7 : IVec S1x64 32 := broadcastInDim S1x64 ![1] bcast_S64_S1x64_1 main_v6
  let main_v8 : IVec S2048x64 32 := broadcastInDim S2048x64 ![0, 1] bcast_S2048x1_S2048x64_0_1 main_v5
  let main_v9 : IVec S2048x64 32 := broadcastInDim S2048x64 ![0, 1] bcast_S1x64_S2048x64_0_1 main_v7
  let main_v10 : IVec S2048x64 1 := cmpi .eq main_v8 main_v9
  let main_v11 : IVec S2048x64 32 := (extui 32 · natLt_1_32) main_v10
  let main_v12 : FVec F S2048x64 .f32 := sitofp .f32 main_v11
  let main_v13 : FVec F S8x8x2048x128 .f32 := Host.absf main_v0
  let main_cst : FVec F S_ .f32 := constant S_ .f32 0x7F800000#32
  let main_v14 : FVec F S8x8x2048x128 .f32 := broadcastInDim S8x8x2048x128 ![] bcast_S_S8x8x2048x128 main_cst
  let main_v15 : IVec S8x8x2048x128 1 := cmpf .olt main_v13 main_v14
  let main_c_0 : IVec S_ 1 := constantI S_ 1 1#1
  let main_v16 : IVec S_ 1 := (fun x v => Host.reduce IntOp.andi x v reducesTo_S8x8x2048x128_S_d0_1_2_3 h_S_) main_v15 main_c_0
  let main_v17 : FVec F S8x8x2048x64 .f32 := (extractStridedSlice S8x8x2048x64 ![0, 0, 0, 64] · slices_S8x8x2048x128_S8x8x2048x64_0_0_0_64) main_v0
  let main_cst_1 : FVec F S_ .f32 := constant S_ .f32 0x00000000#32
  let main_v18 : FVec F S8x8x2048x64 .f32 := broadcastInDim S8x8x2048x64 ![] bcast_S_S8x8x2048x64 main_cst_1
  let main_v19 : IVec S8x8x2048x64 1 := cmpf .oeq main_v17 main_v18
  fn_part1 (F := F) main_v1 main_v12 main_v16 main_v19
-- ==== Kernel.lean ====
abbrev S8x8x2048x128 : Shape := ⟨4, ![8, 8, 2048, 128]⟩
abbrev S8x2048x128 : Shape := ⟨3, ![8, 2048, 128]⟩
abbrev S8x2x128x128 : Shape := ⟨4, ![8, 2, 128, 128]⟩
abbrev S8x2x2048x128 : Shape := ⟨4, ![8, 2, 2048, 128]⟩
abbrev S128x128 : Shape := ⟨2, ![128, 128]⟩
abbrev S8x2048x512 : Shape := ⟨3, ![8, 2048, 512]⟩
abbrev S1x8x256x128 : Shape := ⟨4, ![1, 8, 256, 128]⟩
abbrev S1x256x128 : Shape := ⟨3, ![1, 256, 128]⟩
abbrev S1x2x128x128 : Shape := ⟨4, ![1, 2, 128, 128]⟩
abbrev S1x2x2048x128 : Shape := ⟨4, ![1, 2, 2048, 128]⟩
abbrev S1x256x512 : Shape := ⟨3, ![1, 256, 512]⟩
abbrev S256x128 : Shape := ⟨2, ![256, 128]⟩
abbrev S1024x128 : Shape := ⟨2, ![1024, 128]⟩
abbrev S1024x768 : Shape := ⟨2, ![1024, 768]⟩
abbrev S1024x256 : Shape := ⟨2, ![1024, 256]⟩
abbrev S1x4x256x128 : Shape := ⟨4, ![1, 4, 256, 128]⟩
abbrev S4x256x128 : Shape := ⟨3, ![4, 256, 128]⟩
abbrev S1x1x128x128 : Shape := ⟨4, ![1, 1, 128, 128]⟩
abbrev S1024 : Shape := ⟨1, ![1024]⟩
abbrev S1024x1 : Shape := ⟨2, ![1024, 1]⟩
abbrev S256x1 : Shape := ⟨2, ![256, 1]⟩
abbrev S1x1x256x128 : Shape := ⟨4, ![1, 1, 256, 128]⟩
abbrev S1x1x768x128 : Shape := ⟨4, ![1, 1, 768, 128]⟩
abbrev S768x128 : Shape := ⟨2, ![768, 128]⟩

abbrev nBuf : Space → Nat
  | .hbm => 10
  | .vmem => 19
  | .smem => 0
  | _ => 0

abbrev bufTy : (tb : Table) → Fin (tcTables nBuf tb) → BufTy
  | .hbm, ⟨0, _⟩ => ⟨S8x8x2048x128, .bf16⟩
  | .hbm, ⟨1, _⟩ => ⟨S8x2048x128, .f32⟩
  | .hbm, ⟨2, _⟩ => ⟨S8x2x128x128, .bf16⟩
  | .hbm, ⟨3, _⟩ => ⟨S8x2x128x128, .bf16⟩
  | .hbm, ⟨4, _⟩ => ⟨S8x2x2048x128, .bf16⟩
  | .hbm, ⟨5, _⟩ => ⟨S8x2x2048x128, .bf16⟩
  | .hbm, ⟨6, _⟩ => ⟨S8x2x2048x128, .bf16⟩
  | .hbm, ⟨7, _⟩ => ⟨S8x2x2048x128, .bf16⟩
  | .hbm, ⟨8, _⟩ => ⟨S128x128, .bf16⟩
  | .hbm, ⟨9, _⟩ => ⟨S8x2048x512, .f32⟩
  | .local _ .vmem, ⟨0, _⟩ => ⟨S1x8x256x128, .bf16⟩
  | .local _ .vmem, ⟨1, _⟩ => ⟨S1x8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x2x128x128, .bf16⟩
  | .local _ .vmem, ⟨5, _⟩ => ⟨S1x2x128x128, .bf16⟩
  | .local _ .vmem, ⟨6, _⟩ => ⟨S1x2x128x128, .bf16⟩
  | .local _ .vmem, ⟨7, _⟩ => ⟨S1x2x128x128, .bf16⟩
  | .local _ .vmem, ⟨8, _⟩ => ⟨S1x2x2048x128, .bf16⟩
  | .local _ .vmem, ⟨9, _⟩ => ⟨S1x2x2048x128, .bf16⟩
  | .local _ .vmem, ⟨10, _⟩ => ⟨S1x2x2048x128, .bf16⟩
  | .local _ .vmem, ⟨11, _⟩ => ⟨S1x2x2048x128, .bf16⟩
  | .local _ .vmem, ⟨12, _⟩ => ⟨S1x2x2048x128, .bf16⟩
  | .local _ .vmem, ⟨13, _⟩ => ⟨S1x2x2048x128, .bf16⟩
  | .local _ .vmem, ⟨14, _⟩ => ⟨S1x2x2048x128, .bf16⟩
  | .local _ .vmem, ⟨15, _⟩ => ⟨S1x2x2048x128, .bf16⟩
  | .local _ .vmem, ⟨16, _⟩ => ⟨S128x128, .bf16⟩
  | .local _ .vmem, ⟨17, _⟩ => ⟨S1x256x512, .f32⟩
  | .local _ .vmem, ⟨18, _⟩ => ⟨S1x256x512, .f32⟩
  | _, _ => ⟨S8x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c512_i32 : BitVec 32 := 512#32
  let v26 : BitVec 32 := Scalar.subi v0 c512_i32
  let c0_i32_2 : BitVec 32 := 0#32
  let v27 : BitVec 32 := Scalar.maxsi v26 c0_i32_2
  v27
@[reducible] def k0_t1_loop (i : grid0.Coords) : Scf.Loop 32 :=
  let c0_i32_112 : BitVec 32 := 0#32
  let arg1 : BitVec 32 := BitVec.ofNat 32 (i 1).val
  let v545 : BitVec 32 := Scalar.subi arg1 c0_i32_112
  let c1_i32_113 : BitVec 32 := 1#32
  let v547 : BitVec 32 := Scalar.divsi v545 c1_i32_113
  let v548 : BitVec 32 := Scalar.muli v547 c1_i32_113
  let v549 : BitVec 32 := Scalar.addi c0_i32_112 v548
  let c1_i32_114 : BitVec 32 := 1#32
  ⟨c0_i32_112, v549, c1_i32_114⟩
def k0_mult2 (i : grid0.Coords) (k0_t1 : Fin (k0_t1_loop i).trips) : BitVec 32 :=
  let c0_i32_112 : BitVec 32 := 0#32
  let c1_i32_114 : BitVec 32 := 1#32
  let arg12 : BitVec 32 := Scf.iv c0_i32_112 c1_i32_114 k0_t1
  let c256_i32_321 : BitVec 32 := 256#32
  let v1305 : BitVec 32 := Scalar.muli arg12 c256_i32_321
  v1305
def k0_off1 (i : grid0.Coords) (k0_t1 : Fin (k0_t1_loop i).trips) : Fin 4 → Nat :=
  let c0_322 : Index := 0#32
  let c0_323 : Index := 0#32
  let c0_i32_112 : BitVec 32 := 0#32
  let c1_i32_114 : BitVec 32 := 1#32
  let arg12 : BitVec 32 := Scf.iv c0_i32_112 c1_i32_114 k0_t1
  let c256_i32_321 : BitVec 32 := 256#32
  let v1305 : BitVec 32 := Scalar.muli arg12 c256_i32_321
  let v1306 : BitVec 32 := v1305
  let v1307 : Index := Scalar.indexCast v1306
  let c0_324 : Index := 0#32
  ![0, 0, v1307.toNat, 0]
@[reducible] def k0_t2_loop (i : grid0.Coords) : Scf.Loop 32 :=
  let c0_i32_112 : BitVec 32 := 0#32
  let arg1 : BitVec 32 := BitVec.ofNat 32 (i 1).val
  let v545 : BitVec 32 := Scalar.subi arg1 c0_i32_112
  let c1_i32_113 : BitVec 32 := 1#32
  let v547 : BitVec 32 := Scalar.divsi v545 c1_i32_113
  let v548 : BitVec 32 := Scalar.muli v547 c1_i32_113
  let v549 : BitVec 32 := Scalar.addi c0_i32_112 v548
  let v546 : BitVec 32 := Scalar.addi c0_i32_112 v545
  let c1_i32_115 : BitVec 32 := 1#32
  ⟨v549, v546, c1_i32_115⟩
def k0_mult3 (i : grid0.Coords) (k0_t2 : Fin (k0_t2_loop i).trips) : BitVec 32 :=
  let c0_i32_112 : BitVec 32 := 0#32
  let arg1 : BitVec 32 := BitVec.ofNat 32 (i 1).val
  let v545 : BitVec 32 := Scalar.subi arg1 c0_i32_112
  let c1_i32_113 : BitVec 32 := 1#32
  let v547 : BitVec 32 := Scalar.divsi v545 c1_i32_113
  let v548 : BitVec 32 := Scalar.muli v547 c1_i32_113
  let v549 : BitVec 32 := Scalar.addi c0_i32_112 v548
  let c1_i32_115 : BitVec 32 := 1#32
  let arg12 : BitVec 32 := Scf.iv v549 c1_i32_115 k0_t2
  let c256_i32_321 : BitVec 32 := 256#32
  let v1305 : BitVec 32 := Scalar.muli arg12 c256_i32_321
  v1305
def k0_off2 (i : grid0.Coords) (k0_t2 : Fin (k0_t2_loop i).trips) : Fin 4 → Nat :=
  let c0_322 : Index := 0#32
  let c0_323 : Index := 0#32
  let c0_i32_112 : BitVec 32 := 0#32
  let arg1 : BitVec 32 := BitVec.ofNat 32 (i 1).val
  let v545 : BitVec 32 := Scalar.subi arg1 c0_i32_112
  let c1_i32_113 : BitVec 32 := 1#32
  let v547 : BitVec 32 := Scalar.divsi v545 c1_i32_113
  let v548 : BitVec 32 := Scalar.muli v547 c1_i32_113
  let v549 : BitVec 32 := Scalar.addi c0_i32_112 v548
  let c1_i32_115 : BitVec 32 := 1#32
  let arg12 : BitVec 32 := Scf.iv v549 c1_i32_115 k0_t2
  let c256_i32_321 : BitVec 32 := 256#32
  let v1305 : BitVec 32 := Scalar.muli arg12 c256_i32_321
  let v1306 : BitVec 32 := v1305
  let v1307 : Index := Scalar.indexCast v1306
  let c0_324 : Index := 0#32
  ![0, 0, v1307.toNat, 0]
def k0_mult4 (i : grid0.Coords) : BitVec 32 :=
  let arg1 : BitVec 32 := BitVec.ofNat 32 (i 1).val
  let c256_i32_116 : BitVec 32 := 256#32
  let v552 : BitVec 32 := Scalar.muli arg1 c256_i32_116
  v552
def k0_off3 (i : grid0.Coords) : Fin 4 → Nat :=
  let c0_117 : Index := 0#32
  let c0_118 : Index := 0#32
  let arg1 : BitVec 32 := BitVec.ofNat 32 (i 1).val
  let c256_i32_116 : BitVec 32 := 256#32
  let v552 : BitVec 32 := Scalar.muli arg1 c256_i32_116
  let v553 : BitVec 32 := v552
  let v554 : Index := Scalar.indexCast v553
  let c0_119 : Index := 0#32
  ![0, 0, v554.toNat, 0]
def k0_off4 (i : grid0.Coords) : Fin 4 → Nat :=
  let c0_128 : Index := 0#32
  let c0_129 : Index := 0#32
  let arg1 : BitVec 32 := BitVec.ofNat 32 (i 1).val
  let c256_i32 : BitVec 32 := 256#32
  let v0 : BitVec 32 := Scalar.muli arg1 c256_i32
  let c512_i32 : BitVec 32 := 512#32
  let v26 : BitVec 32 := Scalar.subi v0 c512_i32
  let c0_i32_2 : BitVec 32 := 0#32
  let v27 : BitVec 32 := Scalar.maxsi v26 c0_i32_2
  let v28 : BitVec 32 := v27
  let v582 : Index := Scalar.indexCast v28
  let c0_130 : Index := 0#32
  ![0, 0, v582.toNat, 0]
@[reducible] def k0_t3_loop (i : grid0.Coords) : Scf.Loop 32 :=
  let c0_i32_284 : BitVec 32 := 0#32
  let arg1 : BitVec 32 := BitVec.ofNat 32 (i 1).val
  let v1172 : BitVec 32 := Scalar.subi arg1 c0_i32_284
  let c1_i32_285 : BitVec 32 := 1#32
  let v1174 : BitVec 32 := Scalar.divsi v1172 c1_i32_285
  let v1175 : BitVec 32 := Scalar.muli v1174 c1_i32_285
  let v1176 : BitVec 32 := Scalar.addi c0_i32_284 v1175
  let c1_i32_286 : BitVec 32 := 1#32
  ⟨c0_i32_284, v1176, c1_i32_286⟩
def k0_mult5 (i : grid0.Coords) (k0_t3 : Fin (k0_t3_loop i).trips) : BitVec 32 :=
  let c0_i32_284 : BitVec 32 := 0#32
  let c1_i32_286 : BitVec 32 := 1#32
  let arg12 : BitVec 32 := Scf.iv c0_i32_284 c1_i32_286 k0_t3
  let c256_i32_321 : BitVec 32 := 256#32
  let v1305 : BitVec 32 := Scalar.muli arg12 c256_i32_321
  v1305
def k0_off5 (i : grid0.Coords) (k0_t3 : Fin (k0_t3_loop i).trips) : Fin 4 → Nat :=
  let c0_322 : Index := 0#32
  let c1_323 : Index := 1#32
  let c0_i32_284 : BitVec 32 := 0#32
  let c1_i32_286 : BitVec 32 := 1#32
  let arg12 : BitVec 32 := Scf.iv c0_i32_284 c1_i32_286 k0_t3
  let c256_i32_321 : BitVec 32 := 256#32
  let v1305 : BitVec 32 := Scalar.muli arg12 c256_i32_321
  let v1306 : BitVec 32 := v1305
  let v1307 : Index := Scalar.indexCast v1306
  let c0_324 : Index := 0#32
  ![0, 1, v1307.toNat, 0]
@[reducible] def k0_t4_loop (i : grid0.Coords) : Scf.Loop 32 :=
  let c0_i32_284 : BitVec 32 := 0#32
  let arg1 : BitVec 32 := BitVec.ofNat 32 (i 1).val
  let v1172 : BitVec 32 := Scalar.subi arg1 c0_i32_284
  let c1_i32_285 : BitVec 32 := 1#32
  let v1174 : BitVec 32 := Scalar.divsi v1172 c1_i32_285
  let v1175 : BitVec 32 := Scalar.muli v1174 c1_i32_285
  let v1176 : BitVec 32 := Scalar.addi c0_i32_284 v1175
  let v1173 : BitVec 32 := Scalar.addi c0_i32_284 v1172
  let c1_i32_287 : BitVec 32 := 1#32
  ⟨v1176, v1173, c1_i32_287⟩
def k0_mult6 (i : grid0.Coords) (k0_t4 : Fin (k0_t4_loop i).trips) : BitVec 32 :=
  let c0_i32_284 : BitVec 32 := 0#32
  let arg1 : BitVec 32 := BitVec.ofNat 32 (i 1).val
  let v1172 : BitVec 32 := Scalar.subi arg1 c0_i32_284
  let c1_i32_285 : BitVec 32 := 1#32
  let v1174 : BitVec 32 := Scalar.divsi v1172 c1_i32_285
  let v1175 : BitVec 32 := Scalar.muli v1174 c1_i32_285
  let v1176 : BitVec 32 := Scalar.addi c0_i32_284 v1175
  let c1_i32_287 : BitVec 32 := 1#32
  let arg12 : BitVec 32 := Scf.iv v1176 c1_i32_287 k0_t4
  let c256_i32_321 : BitVec 32 := 256#32
  let v1305 : BitVec 32 := Scalar.muli arg12 c256_i32_321
  v1305
def k0_off6 (i : grid0.Coords) (k0_t4 : Fin (k0_t4_loop i).trips) : Fin 4 → Nat :=
  let c0_322 : Index := 0#32
  let c1_323 : Index := 1#32
  let c0_i32_284 : BitVec 32 := 0#32
  let arg1 : BitVec 32 := BitVec.ofNat 32 (i 1).val
  let v1172 : BitVec 32 := Scalar.subi arg1 c0_i32_284
  let c1_i32_285 : BitVec 32 := 1#32
  let v1174 : BitVec 32 := Scalar.divsi v1172 c1_i32_285
  let v1175 : BitVec 32 := Scalar.muli v1174 c1_i32_285
  let v1176 : BitVec 32 := Scalar.addi c0_i32_284 v1175
  let c1_i32_287 : BitVec 32 := 1#32
  let arg12 : BitVec 32 := Scf.iv v1176 c1_i32_287 k0_t4
  let c256_i32_321 : BitVec 32 := 256#32
  let v1305 : BitVec 32 := Scalar.muli arg12 c256_i32_321
  let v1306 : BitVec 32 := v1305
  let v1307 : Index := Scalar.indexCast v1306
  let c0_324 : Index := 0#32
  ![0, 1, v1307.toNat, 0]
def k0_mult7 (i : grid0.Coords) : BitVec 32 :=
  let arg1 : BitVec 32 := BitVec.ofNat 32 (i 1).val
  let c256_i32_288 : BitVec 32 := 256#32
  let v1179 : BitVec 32 := Scalar.muli arg1 c256_i32_288
  v1179
def k0_off7 (i : grid0.Coords) : Fin 4 → Nat :=
  let c0_289 : Index := 0#32
  let c1_290 : Index := 1#32
  let arg1 : BitVec 32 := BitVec.ofNat 32 (i 1).val
  let c256_i32_288 : BitVec 32 := 256#32
  let v1179 : BitVec 32 := Scalar.muli arg1 c256_i32_288
  let v1180 : BitVec 32 := v1179
  let v1181 : Index := Scalar.indexCast v1180
  let c0_291 : Index := 0#32
  ![0, 1, v1181.toNat, 0]
def k0_off8 (i : grid0.Coords) : Fin 4 → Nat :=
  let c0_300 : Index := 0#32
  let c1_301 : Index := 1#32
  let arg1 : BitVec 32 := BitVec.ofNat 32 (i 1).val
  let c256_i32 : BitVec 32 := 256#32
  let v0 : BitVec 32 := Scalar.muli arg1 c256_i32
  let c512_i32 : BitVec 32 := 512#32
  let v26 : BitVec 32 := Scalar.subi v0 c512_i32
  let c0_i32_2 : BitVec 32 := 0#32
  let v27 : BitVec 32 := Scalar.maxsi v26 c0_i32_2
  let v28 : BitVec 32 := v27
  let v1209 : Index := Scalar.indexCast v28
  let c0_302 : Index := 0#32
  ![0, 1, v1209.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "bias" => some ⊥
  | "mask" => some ⊥
  | _ => none
-- ==== ReferenceIdeal.lean ====
abbrev S8x8x2048x128 : Shape := ⟨4, ![8, 8, 2048, 128]⟩
abbrev S8x2048x128 : Shape := ⟨3, ![8, 2048, 128]⟩
abbrev S8x2x128x128 : Shape := ⟨4, ![8, 2, 128, 128]⟩
abbrev S8x2x2048x128 : Shape := ⟨4, ![8, 2, 2048, 128]⟩
abbrev S128x128 : Shape := ⟨2, ![128, 128]⟩
abbrev S8x8x2048x64 : Shape := ⟨4, ![8, 8, 2048, 64]⟩
abbrev S8x2x4x2048x64 : Shape := ⟨5, ![8, 2, 4, 2048, 64]⟩
abbrev S8x2x128x64 : Shape := ⟨4, ![8, 2, 128, 64]⟩
abbrev S8x2x2048x64 : Shape := ⟨4, ![8, 2, 2048, 64]⟩
abbrev S2048 : Shape := ⟨1, ![2048]⟩
abbrev S128 : Shape := ⟨1, ![128]⟩
abbrev S_ : Shape := ⟨0, ![]⟩
abbrev S8x2x4x2048x128 : Shape := ⟨5, ![8, 2, 4, 2048, 128]⟩
abbrev S1x128 : Shape := ⟨2, ![1, 128]⟩
abbrev S2048x1 : Shape := ⟨2, ![2048, 1]⟩
abbrev S2048x128 : Shape := ⟨2, ![2048, 128]⟩
abbrev S8x2x4x2048 : Shape := ⟨4, ![8, 2, 4, 2048]⟩
abbrev S8x2x4x2048x1 : Shape := ⟨5, ![8, 2, 4, 2048, 1]⟩
abbrev S128x32 : Shape := ⟨2, ![128, 32]⟩
abbrev S8x2x2048x32 : Shape := ⟨4, ![8, 2, 2048, 32]⟩
abbrev S32 : Shape := ⟨1, ![32]⟩
abbrev S1x32 : Shape := ⟨2, ![1, 32]⟩
abbrev S2048x32 : Shape := ⟨2, ![2048, 32]⟩
abbrev S8x2x2048x16 : Shape := ⟨4, ![8, 2, 2048, 16]⟩
abbrev S8x2x2048x16x1 : Shape := ⟨5, ![8, 2, 2048, 16, 1]⟩
abbrev S1x1x1x1x32 : Shape := ⟨5, ![1, 1, 1, 1, 32]⟩
abbrev S8x2x2048x16x32 : Shape := ⟨5, ![8, 2, 2048, 16, 32]⟩
abbrev S8x2x2048x32x1 : Shape := ⟨5, ![8, 2, 2048, 32, 1]⟩
abbrev S8x2x2048x32x64 : Shape := ⟨5, ![8, 2, 2048, 32, 64]⟩
abbrev S8x2x2048x2048 : Shape := ⟨4, ![8, 2, 2048, 2048]⟩
abbrev S1x2048 : Shape := ⟨2, ![1, 2048]⟩
abbrev S2048x2048 : Shape := ⟨2, ![2048, 2048]⟩
abbrev S8x2x4x2048x2048 : Shape := ⟨5, ![8, 2, 4, 2048, 2048]⟩
abbrev S1x1x2048x2048 : Shape := ⟨4, ![1, 1, 2048, 2048]⟩
abbrev S8x2x1x2048x2048 : Shape := ⟨5, ![8, 2, 1, 2048, 2048]⟩
abbrev S8x2048x24 : Shape := ⟨3, ![8, 2048, 24]⟩
abbrev S8x2048x2x4x3 : Shape := ⟨5, ![8, 2048, 2, 4, 3]⟩
abbrev S8x2x4x2048x3 : Shape := ⟨5, ![8, 2, 4, 2048, 3]⟩
abbrev S8x2048x2x4x64 : Shape := ⟨5, ![8, 2048, 2, 4, 64]⟩
abbrev S8x2048x512 : Shape := ⟨3, ![8, 2048, 512]⟩

abbrev nBuf : Space → Nat
  | .hbm => 213
  | .vmem => 0
  | .smem => 0
  | _ => 0

abbrev hbmTy0_0 (i : Nat) : BufTy := match i % 128 with
  | 0 => ⟨S8x8x2048x128, .bf16⟩
  | 1 => ⟨S8x2048x128, .f32⟩
  | 2 => ⟨S8x2x128x128, .bf16⟩
  | 3 => ⟨S8x2x128x128, .bf16⟩
  | 4 => ⟨S8x2x2048x128, .bf16⟩
  | 5 => ⟨S8x2x2048x128, .bf16⟩
  | 6 => ⟨S8x2x2048x128, .bf16⟩
  | 7 => ⟨S8x2x2048x128, .bf16⟩
  | 8 => ⟨S128x128, .bf16⟩
  | 9 => ⟨S8x8x2048x128, .f32⟩
  | 10 => ⟨S8x8x2048x64, .f32⟩
  | 11 => ⟨S8x2x4x2048x64, .f32⟩
  | 12 => ⟨S8x2x128x128, .f32⟩
  | 13 => ⟨S8x2x128x64, .f32⟩
  | 14 => ⟨S8x2x128x128, .f32⟩
  | 15 => ⟨S8x2x128x64, .f32⟩
  | 16 => ⟨S8x2x2048x128, .f32⟩
  | 17 => ⟨S8x2x2048x64, .f32⟩
  | 18 => ⟨S8x2x2048x128, .f32⟩
  | 19 => ⟨S8x2x2048x64, .f32⟩
  | 20 => ⟨S8x2x2048x128, .f32⟩
  | 21 => ⟨S8x2x2048x64, .f32⟩
  | 22 => ⟨S8x2x2048x128, .f32⟩
  | 23 => ⟨S8x2x2048x64, .f32⟩
  | 24 => ⟨S2048, .i32⟩
  | 25 => ⟨S128, .i32⟩
  | 26 => ⟨S_, .i32⟩
  | 27 => ⟨S128, .i32⟩
  | 28 => ⟨S128, .i32⟩
  | 29 => ⟨S_, .i32⟩
  | 30 => ⟨S128, .i32⟩
  | 31 => ⟨S128, .i32⟩
  | 32 => ⟨S8x2x4x2048x128, .f32⟩
  | 33 => ⟨S1x128, .i32⟩
  | 34 => ⟨S2048x1, .i32⟩
  | 35 => ⟨S2048x128, .i32⟩
  | 36 => ⟨S2048x128, .i32⟩
  | 37 => ⟨S2048x128, .i1⟩
  | 38 => ⟨S_, .f32⟩
  | 39 => ⟨S_, .f32⟩
  | 40 => ⟨S8x2x4x2048x128, .i1⟩
  | 41 => ⟨S8x2x4x2048x128, .f32⟩
  | 42 => ⟨S8x2x4x2048x128, .f32⟩
  | 43 => ⟨S_, .f32⟩
  | 44 => ⟨S8x2x4x2048, .f32⟩
  | 45 => ⟨S8x2x4x2048x1, .f32⟩
  | 46 => ⟨S8x2x4x2048x128, .f32⟩
  | 47 => ⟨S8x2x4x2048x128, .f32⟩
  | 48 => ⟨S8x2x4x2048x128, .f32⟩
  | 49 => ⟨S_, .f32⟩
  | 50 => ⟨S_, .f32⟩
  | 51 => ⟨S8x2x4x2048x128, .i1⟩
  | 52 => ⟨S8x2x4x2048x128, .f32⟩
  | 53 => ⟨S8x2x4x2048x128, .f32⟩
  | 54 => ⟨S_, .f32⟩
  | 55 => ⟨S8x2x4x2048, .f32⟩
  | 56 => ⟨S8x2x4x2048x1, .f32⟩
  | 57 => ⟨S_, .f32⟩
  | 58 => ⟨S8x2x4x2048x1, .f32⟩
  | 59 => ⟨S8x2x4x2048x1, .f32⟩
  | 60 => ⟨S8x2x4x2048x128, .f32⟩
  | 61 => ⟨S8x2x4x2048x128, .f32⟩
  | 62 => ⟨S8x2x4x2048x64, .f32⟩
  | 63 => ⟨S_, .f32⟩
  | 64 => ⟨S8x2x2048x128, .f32⟩
  | 65 => ⟨S128x128, .f32⟩
  | 66 => ⟨S128x32, .f32⟩
  | 67 => ⟨S8x2x2048x32, .f32⟩
  | 68 => ⟨S32, .i32⟩
  | 69 => ⟨S1x32, .i32⟩
  | 70 => ⟨S_, .i32⟩
  | 71 => ⟨S2048, .i32⟩
  | 72 => ⟨S2048, .i32⟩
  | 73 => ⟨S2048x1, .i32⟩
  | 74 => ⟨S_, .i32⟩
  | 75 => ⟨S1x32, .i32⟩
  | 76 => ⟨S1x32, .i32⟩
  | 77 => ⟨S2048x1, .i32⟩
  | 78 => ⟨S2048x32, .i32⟩
  | 79 => ⟨S2048x32, .i32⟩
  | 80 => ⟨S2048x32, .i1⟩
  | 81 => ⟨S_, .i32⟩
  | 82 => ⟨S1x32, .i32⟩
  | 83 => ⟨S1x32, .i1⟩
  | 84 => ⟨S2048x32, .i32⟩
  | 85 => ⟨S2048x32, .i32⟩
  | 86 => ⟨S2048x32, .i1⟩
  | 87 => ⟨S2048x32, .i1⟩
  | 88 => ⟨S2048x32, .i1⟩
  | 89 => ⟨S_, .i32⟩
  | 90 => ⟨S2048x1, .i32⟩
  | 91 => ⟨S2048x1, .i32⟩
  | 92 => ⟨S2048x32, .i32⟩
  | 93 => ⟨S2048x32, .i32⟩
  | 94 => ⟨S2048x32, .i1⟩
  | 95 => ⟨S2048x32, .i1⟩
  | 96 => ⟨S_, .f32⟩
  | 97 => ⟨S_, .f32⟩
  | 98 => ⟨S8x2x2048x32, .i1⟩
  | 99 => ⟨S8x2x2048x32, .f32⟩
  | 100 => ⟨S8x2x2048x32, .f32⟩
  | 101 => ⟨S_, .f32⟩
  | 102 => ⟨S_, .f32⟩
  | 103 => ⟨S8x2x2048x32, .i1⟩
  | 104 => ⟨S8x2x2048x32, .f32⟩
  | 105 => ⟨S8x2x2048x32, .f32⟩
  | 106 => ⟨S8x2x2048x16, .f32⟩
  | 107 => ⟨S8x2x2048x16, .i32⟩
  | 108 => ⟨S8x2x2048x16x1, .i32⟩
  | 109 => ⟨S32, .i32⟩
  | 110 => ⟨S1x1x1x1x32, .i32⟩
  | 111 => ⟨S8x2x2048x16x32, .i32⟩
  | 112 => ⟨S8x2x2048x16x32, .i32⟩
  | 113 => ⟨S8x2x2048x16x32, .i1⟩
  | 114 => ⟨S_, .i1⟩
  | 115 => ⟨S8x2x2048x32, .i1⟩
  | 116 => ⟨S8x2x2048x32x1, .i1⟩
  | 117 => ⟨S8x2x2048x32x64, .i1⟩
  | 118 => ⟨S8x2x2048x2048, .i1⟩
  | 119 => ⟨S1x2048, .i32⟩
  | 120 => ⟨S2048x1, .i32⟩
  | 121 => ⟨S2048x2048, .i32⟩
  | 122 => ⟨S2048x2048, .i32⟩
  | 123 => ⟨S2048x2048, .i1⟩
  | 124 => ⟨S8x2x4x2048x2048, .f32⟩
  | 125 => ⟨S1x1x2048x2048, .i1⟩
  | 126 => ⟨S8x2x2048x2048, .i1⟩
  | 127 => ⟨S8x2x2048x2048, .i1⟩
  | _ => ⟨S8x8x2048x128, .bf16⟩

abbrev hbmTy0_1 (i : Nat) : BufTy := match i % 128 with
  | 0 => ⟨S8x2x1x2048x2048, .i1⟩
  | 1 => ⟨S_, .f32⟩
  | 2 => ⟨S_, .f32⟩
  | 3 => ⟨S8x2x4x2048x2048, .i1⟩
  | 4 => ⟨S8x2x4x2048x2048, .f32⟩
  | 5 => ⟨S8x2x4x2048x2048, .f32⟩
  | 6 => ⟨S_, .f32⟩
  | 7 => ⟨S8x2x4x2048, .f32⟩
  | 8 => ⟨S8x2x4x2048x1, .f32⟩
  | 9 => ⟨S8x2x4x2048x2048, .f32⟩
  | 10 => ⟨S8x2x4x2048x2048, .f32⟩
  | 11 => ⟨S8x2x4x2048x2048, .f32⟩
  | 12 => ⟨S_, .f32⟩
  | 13 => ⟨S_, .f32⟩
  | 14 => ⟨S8x2x4x2048x2048, .i1⟩
  | 15 => ⟨S8x2x4x2048x2048, .f32⟩
  | 16 => ⟨S8x2x4x2048x2048, .f32⟩
  | 17 => ⟨S_, .f32⟩
  | 18 => ⟨S8x2x4x2048, .f32⟩
  | 19 => ⟨S8x2x4x2048x1, .f32⟩
  | 20 => ⟨S_, .f32⟩
  | 21 => ⟨S8x2x4x2048x1, .f32⟩
  | 22 => ⟨S8x2x4x2048x1, .f32⟩
  | 23 => ⟨S8x2x4x2048x2048, .f32⟩
  | 24 => ⟨S8x2x4x2048x2048, .f32⟩
  | 25 => ⟨S8x2x4x2048x64, .f32⟩
  | 26 => ⟨S1x2048, .i32⟩
  | 27 => ⟨S2048x1, .i32⟩
  | 28 => ⟨S_, .i32⟩
  | 29 => ⟨S2048x1, .i32⟩
  | 30 => ⟨S2048x1, .i32⟩
  | 31 => ⟨S2048x2048, .i32⟩
  | 32 => ⟨S2048x2048, .i32⟩
  | 33 => ⟨S2048x2048, .i1⟩
  | 34 => ⟨S2048x2048, .i1⟩
  | 35 => ⟨S8x2x4x2048x2048, .f32⟩
  | 36 => ⟨S_, .f32⟩
  | 37 => ⟨S_, .f32⟩
  | 38 => ⟨S8x2x4x2048x2048, .i1⟩
  | 39 => ⟨S8x2x4x2048x2048, .f32⟩
  | 40 => ⟨S8x2x4x2048x2048, .f32⟩
  | 41 => ⟨S_, .f32⟩
  | 42 => ⟨S8x2x4x2048, .f32⟩
  | 43 => ⟨S8x2x4x2048x1, .f32⟩
  | 44 => ⟨S8x2x4x2048x2048, .f32⟩
  | 45 => ⟨S8x2x4x2048x2048, .f32⟩
  | 46 => ⟨S8x2x4x2048x2048, .f32⟩
  | 47 => ⟨S_, .f32⟩
  | 48 => ⟨S_, .f32⟩
  | 49 => ⟨S8x2x4x2048x2048, .i1⟩
  | 50 => ⟨S8x2x4x2048x2048, .f32⟩
  | 51 => ⟨S8x2x4x2048x2048, .f32⟩
  | 52 => ⟨S_, .f32⟩
  | 53 => ⟨S8x2x4x2048, .f32⟩
  | 54 => ⟨S8x2x4x2048x1, .f32⟩
  | 55 => ⟨S_, .f32⟩
  | 56 => ⟨S8x2x4x2048x1, .f32⟩
  | 57 => ⟨S8x2x4x2048x1, .f32⟩
  | 58 => ⟨S8x2x4x2048x2048, .f32⟩
  | 59 => ⟨S8x2x4x2048x2048, .f32⟩
  | 60 => ⟨S8x2x4x2048x64, .f32⟩
  | 61 => ⟨S8x2048x24, .f32⟩
  | 62 => ⟨S8x2048x24, .f32⟩
  | 63 => ⟨S8x2048x24, .f32⟩
  | 64 => ⟨S_, .f32⟩
  | 65 => ⟨S8x2048x24, .f32⟩
  | 66 => ⟨S8x2048x24, .f32⟩
  | 67 => ⟨S_, .f32⟩
  | 68 => ⟨S8x2048x24, .f32⟩
  | 69 => ⟨S8x2048x24, .f32⟩
  | 70 => ⟨S8x2048x2x4x3, .f32⟩
  | 71 => ⟨S8x2x4x2048x3, .f32⟩
  | 72 => ⟨S8x2x4x2048x1, .f32⟩
  | 73 => ⟨S8x2x4x2048x64, .f32⟩
  | 74 => ⟨S8x2x4x2048x64, .f32⟩
  | 75 => ⟨S8x2x4x2048x1, .f32⟩
  | 76 => ⟨S8x2x4x2048x64, .f32⟩
  | 77 => ⟨S8x2x4x2048x64, .f32⟩
  | 78 => ⟨S8x2x4x2048x64, .f32⟩
  | 79 => ⟨S8x2x4x2048x1, .f32⟩
  | 80 => ⟨S8x2x4x2048x64, .f32⟩
  | 81 => ⟨S8x2x4x2048x64, .f32⟩
  | 82 => ⟨S8x2x4x2048x64, .f32⟩
  | 83 => ⟨S8x2048x2x4x64, .f32⟩
  | 84 => ⟨S8x2048x512, .f32⟩
  | _ => ⟨S8x8x2048x128, .bf16⟩

abbrev hbmTy (i : Nat) : BufTy := match i / 128 with
  | 0 => hbmTy0_0 i
  | 1 => hbmTy0_1 i
  | _ => ⟨S8x8x2048x128, .bf16⟩

abbrev bufTy : (tb : Table) → Fin (tcTables nBuf tb) → BufTy
  | .hbm, ⟨i, _⟩ => hbmTy i
  | _, _ => ⟨S8x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v69 : Ref sig .tc := ⟨.hbm, 100, rfl⟩
abbrev main_cst_11 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v70 : Ref sig .tc := ⟨.hbm, 105, rfl⟩
abbrev main_values : Ref sig .tc := ⟨.hbm, 106, rfl⟩
abbrev main_indices : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_12 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_13 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v91 : Ref sig .tc := ⟨.hbm, 133, rfl⟩
abbrev main_cst_14 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_15 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v97 : Ref sig .tc := ⟨.hbm, 144, rfl⟩
abbrev main_cst_16 : Ref sig .tc := ⟨.hbm, 145, rfl⟩
abbrev main_v98 : Ref sig .tc := ⟨.hbm, 146, rfl⟩
abbrev main_v99 : Ref sig .tc := ⟨.hbm, 147, rfl⟩
abbrev main_cst_17 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_18 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_19 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_v114 : Ref sig .tc := ⟨.hbm, 168, rfl⟩
abbrev main_cst_20 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_21 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_v120 : Ref sig .tc := ⟨.hbm, 179, rfl⟩
abbrev main_cst_22 : Ref sig .tc := ⟨.hbm, 180, rfl⟩
abbrev main_v121 : Ref sig .tc := ⟨.hbm, 181, rfl⟩
abbrev main_v122 : Ref sig .tc := ⟨.hbm, 182, rfl⟩
abbrev main_cst_23 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_24 : Ref sig .tc := ⟨.hbm, 192, rfl⟩
abbrev main_v131 : Ref sig .tc := ⟨.hbm, 193, rfl⟩
abbrev main_v132 : Ref sig .tc := ⟨.hbm, 194, rfl⟩
abbrev main_cst_25 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x5400 : Shape := ⟨3, ![1, 1024, 5400]⟩
abbrev S16384x1024 : Shape := ⟨2, ![16384, 1024]⟩
abbrev S1024 : Shape := ⟨1, ![1024]⟩
abbrev S1024x5400 : Shape := ⟨2, ![1024, 5400]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x768 : Shape := ⟨2, ![1024, 768]⟩
abbrev S1024x24 : Shape := ⟨2, ![1024, 24]⟩
abbrev S1024x128 : Shape := ⟨2, ![1024, 128]⟩
abbrev S1024x4096 : Shape := ⟨2, ![1024, 4096]⟩
abbrev S1024x6016 : Shape := ⟨2, ![1024, 6016]⟩
abbrev S8x8x2048x128 : Shape := ⟨4, ![8, 8, 2048, 128]⟩
abbrev S16384x128 : Shape := ⟨2, ![16384, 128]⟩
abbrev S16384x512 : Shape := ⟨2, ![16384, 512]⟩
abbrev S8x2x2048x128 : Shape := ⟨4, ![8, 2, 2048, 128]⟩
abbrev S256x1024 : Shape := ⟨2, ![256, 1024]⟩
abbrev S1x8x256x128 : Shape := ⟨4, ![1, 8, 256, 128]⟩
abbrev S256x128 : Shape := ⟨2, ![256, 128]⟩
abbrev S256x512 : Shape := ⟨2, ![256, 512]⟩
abbrev S1x2x256x128 : Shape := ⟨4, ![1, 2, 256, 128]⟩
abbrev S256 : Shape := ⟨1, ![256]⟩
abbrev S256x1 : Shape := ⟨2, ![256, 1]⟩
abbrev S1x1x256x128 : Shape := ⟨4, ![1, 1, 256, 128]⟩
abbrev S256x768 : Shape := ⟨2, ![256, 768]⟩
abbrev S1024x2048 : Shape := ⟨2, ![1024, 2048]⟩
abbrev S256x2048 : Shape := ⟨2, ![256, 2048]⟩

abbrev nBuf : Space → Nat
  | .hbm => 38
  | .vmem => 38
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5400, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x5400, .f32⟩
  | .hbm, ⟨7, _⟩ => ⟨S1024x512, .f32⟩
  | .hbm, ⟨8, _⟩ => ⟨S1024x8x64, .f32⟩
  | .hbm, ⟨9, _⟩ => ⟨S_, .i32⟩
  | .hbm, ⟨10, _⟩ => ⟨S_, .f32⟩
  | .hbm, ⟨11, _⟩ => ⟨S1024x8x128, .f32⟩
  | .hbm, ⟨12, _⟩ => ⟨S1024x1024, .f32⟩
  | .hbm, ⟨13, _⟩ => ⟨S1024x768, .f32⟩
  | .hbm, ⟨14, _⟩ => ⟨S1024x24, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x4096, .f32⟩
  | .hbm, ⟨19, _⟩ => ⟨S1024x6016, .f32⟩
  | .hbm, ⟨20, _⟩ => ⟨S1024x6016, .bf16⟩
  | .hbm, ⟨21, _⟩ => ⟨S8x8x2048x128, .bf16⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x1024, .f32⟩
  | .hbm, ⟨33, _⟩ => ⟨S16384x1024, .f32⟩
  | .hbm, ⟨34, _⟩ => ⟨S8x2x2048x128, .bf16⟩
  | .hbm, ⟨35, _⟩ => ⟨S8x2x2048x128, .bf16⟩
  | .hbm, ⟨36, _⟩ => ⟨S8x2x2048x128, .bf16⟩
  | .hbm, ⟨37, _⟩ => ⟨S8x2x2048x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6016, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x2x256x128, .bf16⟩
  | .local _ .vmem, ⟨31, _⟩ => ⟨S1x2x256x128, .bf16⟩
  | .local _ .vmem, ⟨32, _⟩ => ⟨S1x2x256x128, .bf16⟩
  | .local _ .vmem, ⟨33, _⟩ => ⟨S1x2x256x128, .bf16⟩
  | .local _ .vmem, ⟨34, _⟩ => ⟨S1x2x256x128, .bf16⟩
  | .local _ .vmem, ⟨35, _⟩ => ⟨S1x2x256x128, .bf16⟩
  | .local _ .vmem, ⟨36, _⟩ => ⟨S1x2x256x128, .bf16⟩
  | .local _ .vmem, ⟨37, _⟩ => ⟨S1x2x256x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev main_v14_6 : Ref sig .tc := ⟨.hbm, 27, rfl⟩
abbrev main_v14_7 : Ref sig .tc := ⟨.hbm, 28, rfl⟩
abbrev main_v14_8 : Ref sig .tc := ⟨.hbm, 29, rfl⟩
abbrev main_v14_9 : Ref sig .tc := ⟨.hbm, 30, rfl⟩
abbrev main_v14_10 : Ref sig .tc := ⟨.hbm, 31, rfl⟩
abbrev main_v14_11 : Ref sig .tc := ⟨.hbm, 32, rfl⟩
abbrev main_v14_12 : Ref sig .tc := ⟨.hbm, 33, rfl⟩
abbrev main_v14_13 : Ref sig .tc := ⟨.hbm, 34, rfl⟩
abbrev main_v14_14 : Ref sig .tc := ⟨.hbm, 35, rfl⟩
abbrev main_v14_15 : Ref sig .tc := ⟨.hbm, 36, rfl⟩
abbrev main_v14_16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6016 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S8x2048x1024 : Shape := ⟨3, ![8, 2048, 1024]⟩
abbrev S1x1024 : Shape := ⟨2, ![1, 1024]⟩
abbrev S1x1024x5400 : Shape := ⟨3, ![1, 1024, 5400]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x5400 : Shape := ⟨2, ![1024, 5400]⟩
abbrev S8x2048x5400 : Shape := ⟨3, ![8, 2048, 5400]⟩
abbrev S8x2048x512 : Shape := ⟨3, ![8, 2048, 512]⟩
abbrev S8x2048x128 : Shape := ⟨3, ![8, 2048, 128]⟩
abbrev S8x2048x24 : Shape := ⟨3, ![8, 2048, 24]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S2048x64 : Shape := ⟨2, ![2048, 64]⟩
abbrev S8x2048x8x64 : Shape := ⟨4, ![8, 2048, 8, 64]⟩
abbrev S8x8x2048x64 : Shape := ⟨4, ![8, 8, 2048, 64]⟩
abbrev S8x8x2048x128 : Shape := ⟨4, ![8, 8, 2048, 128]⟩
abbrev S8x2048x2x64 : Shape := ⟨4, ![8, 2048, 2, 64]⟩
abbrev S8x2x2048x64 : Shape := ⟨4, ![8, 2, 2048, 64]⟩
abbrev S8x2x2048x128 : Shape := ⟨4, ![8, 2, 2048, 128]⟩
abbrev S16384x128 : Shape := ⟨2, ![16384, 128]⟩
abbrev S16384x512 : Shape := ⟨2, ![16384, 512]⟩
abbrev S16384x1024 : Shape := ⟨2, ![16384, 1024]⟩

abbrev nBuf : Space → Nat
  | .hbm => 141
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x5400, .f32⟩
  | 3 => ⟨S8x2048x1024, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x1024, .f32⟩
  | 15 => ⟨S8x2048x1024, .f32⟩
  | 16 => ⟨S1024, .f32⟩
  | 17 => ⟨S1x1x1024, .f32⟩
  | 18 => ⟨S8x2048x1024, .f32⟩
  | 19 => ⟨S8x2048x1024, .f32⟩
  | 20 => ⟨S1024x5400, .f32⟩
  | 21 => ⟨S8x2048x5400, .f32⟩
  | 22 => ⟨S8x2048x512, .f32⟩
  | 23 => ⟨S8x2048x128, .f32⟩
  | 24 => ⟨S8x2048x128, .f32⟩
  | 25 => ⟨S8x2048x128, .f32⟩
  | 26 => ⟨S8x2048x128, .f32⟩
  | 27 => ⟨S8x2048x128, .f32⟩
  | 28 => ⟨S8x2048x128, .f32⟩
  | 29 => ⟨S8x2048x24, .f32⟩
  | 30 => ⟨S8x2048x512, .f32⟩
  | 31 => ⟨S8x2048x512, .f32⟩
  | 32 => ⟨S8x2048x512, .f32⟩
  | 33 => ⟨S8x2048x512, .f32⟩
  | 34 => ⟨S8x2048x1024, .f32⟩
  | 35 => ⟨S8x2048x1024, .f32⟩
  | 36 => ⟨S2048, .i32⟩
  | 37 => ⟨S_, .i32⟩
  | 38 => ⟨S2048, .i32⟩
  | 39 => ⟨S2048, .i32⟩
  | 40 => ⟨S2048x1, .i32⟩
  | 41 => ⟨S64, .i32⟩
  | 42 => ⟨S1x64, .i32⟩
  | 43 => ⟨S2048x64, .i32⟩
  | 44 => ⟨S2048x64, .i32⟩
  | 45 => ⟨S2048x64, .i1⟩
  | 46 => ⟨S2048x64, .i32⟩
  | 47 => ⟨S2048x64, .f32⟩
  | 48 => ⟨S8x2048x8x64, .f32⟩
  | 49 => ⟨S8x8x2048x64, .f32⟩
  | 50 => ⟨S_, .f32⟩
  | 51 => ⟨S8x8x2048x64, .f32⟩
  | 52 => ⟨S8x8x2048x64, .f32⟩
  | 53 => ⟨S_, .i32⟩
  | 54 => ⟨S_, .f32⟩
  | 55 => ⟨S8x8x2048x128, .f32⟩
  | 56 => ⟨S_, .i32⟩
  | 57 => ⟨S_, .f32⟩
  | 58 => ⟨S8x2048x128, .f32⟩
  | 59 => ⟨S8x2048x2x64, .f32⟩
  | 60 => ⟨S8x2x2048x64, .f32⟩
  | 61 => ⟨S8x2x2048x64, .f32⟩
  | 62 => ⟨S8x2x2048x128, .f32⟩
  | 63 => ⟨S8x8x2048x128, .bf16⟩
  | 64 => ⟨S16384x128, .f32⟩
  | 65 => ⟨S16384x128, .f32⟩
  | 66 => ⟨S16384x128, .f32⟩
  | 67 => ⟨S16384x128, .f32⟩
  | 68 => ⟨S16384x128, .f32⟩
  | 69 => ⟨S16384x128, .f32⟩
  | 70 => ⟨S16384x128, .f32⟩
  | 71 => ⟨S8x2048x512, .f32⟩
  | 72 => ⟨S8x2048x512, .f32⟩
  | 73 => ⟨S_, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S8x2048x512, .f32⟩
  | 80 => ⟨S16384x512, .f32⟩
  | 81 => ⟨S8x2048x512, .f32⟩
  | 82 => ⟨S8x2048x512, .f32⟩
  | 83 => ⟨S_, .f32⟩
  | 84 => ⟨S8x2048x512, .f32⟩
  | 85 => ⟨S8x2048x512, .f32⟩
  | 86 => ⟨S_, .f32⟩
  | 87 => ⟨S8x2048x512, .f32⟩
  | 88 => ⟨S8x2048x512, .f32⟩
  | 89 => ⟨S8x2048x512, .f32⟩
  | 90 => ⟨S16384x512, .f32⟩
  | 91 => ⟨S8x2048x512, .f32⟩
  | 92 => ⟨S8x2048x512, .f32⟩
  | 93 => ⟨S_, .f32⟩
  | 94 => ⟨S8x2048x512, .f32⟩
  | 95 => ⟨S8x2048x512, .f32⟩
  | 96 => ⟨S_, .f32⟩
  | 97 => ⟨S8x2048x512, .f32⟩
  | 98 => ⟨S8x2048x512, .f32⟩
  | 99 => ⟨S8x2048x512, .f32⟩
  | 100 => ⟨S16384x512, .f32⟩
  | 101 => ⟨S8x2048x1024, .f32⟩
  | 102 => ⟨S8x2048x1024, .f32⟩
  | 103 => ⟨S_, .f32⟩
  | 104 => ⟨S8x2048x1024, .f32⟩
  | 105 => ⟨S8x2048x1024, .f32⟩
  | 106 => ⟨S_, .f32⟩
  | 107 => ⟨S8x2048x1024, .f32⟩
  | 108 => ⟨S8x2048x1024, .f32⟩
  | 109 => ⟨S16384x1024, .f32⟩
  | 110 => ⟨S8x2048x1024, .f32⟩
  | 111 => ⟨S8x2048x1024, .f32⟩
  | 112 => ⟨S_, .f32⟩
  | 113 => ⟨S8x2048x1024, .f32⟩
  | 114 => ⟨S8x2048x1024, .f32⟩
  | 115 => ⟨S_, .f32⟩
  | 116 => ⟨S8x2048x1024, .f32⟩
  | 117 => ⟨S8x2048x1024, .f32⟩
  | 118 => ⟨S16384x1024, .f32⟩
  | 119 => ⟨S8x2x2048x128, .bf16⟩
  | 120 => ⟨S8x2048x2x64, .f32⟩
  | 121 => ⟨S8x2x2048x64, .f32⟩
  | 122 => ⟨S8x2048x2x64, .f32⟩
  | 123 => ⟨S8x2x2048x64, .f32⟩
  | 124 => ⟨S8x2x2048x64, .f32⟩
  | 125 => ⟨S8x2x2048x128, .f32⟩
  | 126 => ⟨S8x2x2048x128, .bf16⟩
  | 127 => ⟨S8x2048x2x64, .f32⟩
  | _ => ⟨S8x2048x1024, .f32⟩

abbrev hbmTy0_1 (i : Nat) : BufTy := match i % 128 with
  | 0 => ⟨S8x2x2048x64, .f32⟩
  | 1 => ⟨S8x2048x2x64, .f32⟩
  | 2 => ⟨S8x2x2048x64, .f32⟩
  | 3 => ⟨S8x2x2048x64, .f32⟩
  | 4 => ⟨S8x2x2048x128, .f32⟩
  | 5 => ⟨S8x2x2048x128, .bf16⟩
  | 6 => ⟨S8x2048x2x64, .f32⟩
  | 7 => ⟨S8x2x2048x64, .f32⟩
  | 8 => ⟨S8x2048x2x64, .f32⟩
  | 9 => ⟨S8x2x2048x64, .f32⟩
  | 10 => ⟨S8x2x2048x64, .f32⟩
  | 11 => ⟨S8x2x2048x128, .f32⟩
  | 12 => ⟨S8x2x2048x128, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_c_3 : Ref sig .tc := ⟨.hbm, 53, rfl⟩
abbrev main_call0_v0 : Ref sig .tc := ⟨.hbm, 54, rfl⟩
abbrev main_v45 : Ref sig .tc := ⟨.hbm, 55, rfl⟩
abbrev main_c_4 : Ref sig .tc := ⟨.hbm, 56, rfl⟩
abbrev main_call1_v0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_7 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_9 : Ref sig .tc := ⟨.hbm, 112, rfl⟩
abbrev main_v80 : Ref sig .tc := ⟨.hbm, 113, rfl⟩
abbrev main_v81 : Ref sig .tc := ⟨.hbm, 114, rfl⟩
abbrev main_cst_10 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S1x31x512 : Shape := ⟨3, ![1, 31, 512]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1024 : Shape := ⟨1, ![1024]⟩
abbrev S31x512 : Shape := ⟨2, ![31, 512]⟩
abbrev S_ : Shape := ⟨0, ![]⟩
abbrev S32x512 : Shape := ⟨2, ![32, 512]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1x1024 : Shape := ⟨2, ![1, 1024]⟩
abbrev S1x256x1024 : Shape := ⟨3, ![1, 256, 1024]⟩
abbrev S1x256x512 : Shape := ⟨3, ![1, 256, 512]⟩
abbrev S288x512 : Shape := ⟨2, ![288, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 39
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x1024, .f32⟩
  | .hbm, ⟨6, _⟩ => ⟨S8x2048x1024, .f32⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512x512, .f32⟩
  | .hbm, ⟨12, _⟩ => ⟨S1x512, .f32⟩
  | .hbm, ⟨13, _⟩ => ⟨S1x512x1024, .f32⟩
  | .hbm, ⟨14, _⟩ => ⟨S1x512x1024, .f32⟩
  | .hbm, ⟨15, _⟩ => ⟨S1x1024x1024, .f32⟩
  | .hbm, ⟨16, _⟩ => ⟨S1024, .f32⟩
  | .hbm, ⟨17, _⟩ => ⟨S31x512, .f32⟩
  | .hbm, ⟨18, _⟩ => ⟨S_, .i32⟩
  | .hbm, ⟨19, _⟩ => ⟨S_, .f32⟩
  | .hbm, ⟨20, _⟩ => ⟨S32x512, .f32⟩
  | .hbm, ⟨21, _⟩ => ⟨S512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S512x512, .f32⟩
  | .hbm, ⟨28, _⟩ => ⟨S512x512, .bf16⟩
  | .hbm, ⟨29, _⟩ => ⟨S512, .f32⟩
  | .hbm, ⟨30, _⟩ => ⟨S1x512, .f32⟩
  | .hbm, ⟨31, _⟩ => ⟨S512x1024, .f32⟩
  | .hbm, ⟨32, _⟩ => ⟨S512x1024, .bf16⟩
  | .hbm, ⟨33, _⟩ => ⟨S512x1024, .f32⟩
  | .hbm, ⟨34, _⟩ => ⟨S512x1024, .bf16⟩
  | .hbm, ⟨35, _⟩ => ⟨S1024x1024, .f32⟩
  | .hbm, ⟨36, _⟩ => ⟨S1024x1024, .bf16⟩
  | .hbm, ⟨37, _⟩ => ⟨S1x1024, .f32⟩
  | .hbm, ⟨38, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S32x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | .local _ .vmem, ⟨26, _⟩ => ⟨S288x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S8x2048x1024 : Shape := ⟨3, ![8, 2048, 1024]⟩
abbrev S8x2048x512 : Shape := ⟨3, ![8, 2048, 512]⟩
abbrev S1x31x512 : Shape := ⟨3, ![1, 31, 512]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S8x30x512 : Shape := ⟨3, ![8, 30, 512]⟩
abbrev S8x2078x512 : Shape := ⟨3, ![8, 2078, 512]⟩
abbrev S1x1x512 : Shape := ⟨3, ![1, 1, 512]⟩
abbrev S512 : Shape := ⟨1, ![512]⟩
abbrev S8x2048 : Shape := ⟨2, ![8, 2048]⟩
abbrev S8x2048x1 : Shape := ⟨3, ![8, 2048, 1]⟩
abbrev S512x512 : Shape := ⟨2, ![512, 512]⟩
abbrev S512x1024 : Shape := ⟨2, ![512, 1024]⟩
abbrev S1024x1024 : Shape := ⟨2, ![1024, 1024]⟩
abbrev S1x1x1024 : Shape := ⟨3, ![1, 1, 1024]⟩

abbrev nBuf : Space → Nat
  | .hbm => 317
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S8x2048x512, .f32⟩
  | 4 => ⟨S8x2048x512, .f32⟩
  | 5 => ⟨S8x2048x1024, .f32⟩
  | 6 => ⟨S8x2048x1024, .f32⟩
  | 7 => ⟨S1x31x512, .f32⟩
  | 8 => ⟨S1x512, .f32⟩
  | 9 => ⟨S1x512, .f32⟩
  | 10 => ⟨S1x512, .f32⟩
  | 11 => ⟨S1x512x512, .f32⟩
  | 12 => ⟨S1x512, .f32⟩
  | 13 => ⟨S1x512x1024, .f32⟩
  | 14 => ⟨S1x512x1024, .f32⟩
  | 15 => ⟨S1x1024x1024, .f32⟩
  | 16 => ⟨S1024, .f32⟩
  | 17 => ⟨S_, .f32⟩
  | 18 => ⟨S8x30x512, .f32⟩
  | 19 => ⟨S8x2078x512, .f32⟩
  | 20 => ⟨S8x2048x512, .f32⟩
  | 21 => ⟨S1x1x512, .f32⟩
  | 22 => ⟨S512, .f32⟩
  | 23 => ⟨S1x1x512, .f32⟩
  | 24 => ⟨S8x2048x512, .f32⟩
  | 25 => ⟨S8x2048x512, .f32⟩
  | 26 => ⟨S_, .f32⟩
  | 27 => ⟨S8x2048x512, .f32⟩
  | 28 => ⟨S8x2048x512, .f32⟩
  | 29 => ⟨S8x2048x512, .f32⟩
  | 30 => ⟨S1x1x512, .f32⟩
  | 31 => ⟨S512, .f32⟩
  | 32 => ⟨S1x1x512, .f32⟩
  | 33 => ⟨S8x2048x512, .f32⟩
  | 34 => ⟨S8x2048x512, .f32⟩
  | 35 => ⟨S8x2048x512, .f32⟩
  | 36 => ⟨S8x2048x512, .f32⟩
  | 37 => ⟨S1x1x512, .f32⟩
  | 38 => ⟨S512, .f32⟩
  | 39 => ⟨S1x1x512, .f32⟩
  | 40 => ⟨S8x2048x512, .f32⟩
  | 41 => ⟨S8x2048x512, .f32⟩
  | 42 => ⟨S8x2048x512, .f32⟩
  | 43 => ⟨S8x2048x512, .f32⟩
  | 44 => ⟨S1x1x512, .f32⟩
  | 45 => ⟨S512, .f32⟩
  | 46 => ⟨S1x1x512, .f32⟩
  | 47 => ⟨S8x2048x512, .f32⟩
  | 48 => ⟨S8x2048x512, .f32⟩
  | 49 => ⟨S8x2048x512, .f32⟩
  | 50 => ⟨S8x2048x512, .f32⟩
  | 51 => ⟨S1x1x512, .f32⟩
  | 52 => ⟨S512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S1x1x512, .f32⟩
  | 59 => ⟨S512, .f32⟩
  | 60 => ⟨S1x1x512, .f32⟩
  | 61 => ⟨S8x2048x512, .f32⟩
  | 62 => ⟨S8x2048x512, .f32⟩
  | 63 => ⟨S8x2048x512, .f32⟩
  | 64 => ⟨S8x2048x512, .f32⟩
  | 65 => ⟨S1x1x512, .f32⟩
  | 66 => ⟨S512, .f32⟩
  | 67 => ⟨S1x1x512, .f32⟩
  | 68 => ⟨S8x2048x512, .f32⟩
  | 69 => ⟨S8x2048x512, .f32⟩
  | 70 => ⟨S8x2048x512, .f32⟩
  | 71 => ⟨S8x2048x512, .f32⟩
  | 72 => ⟨S1x1x512, .f32⟩
  | 73 => ⟨S512, .f32⟩
  | 74 => ⟨S1x1x512, .f32⟩
  | 75 => ⟨S8x2048x512, .f32⟩
  | 76 => ⟨S8x2048x512, .f32⟩
  | 77 => ⟨S8x2048x512, .f32⟩
  | 78 => ⟨S8x2048x512, .f32⟩
  | 79 => ⟨S1x1x512, .f32⟩
  | 80 => ⟨S512, .f32⟩
  | 81 => ⟨S1x1x512, .f32⟩
  | 82 => ⟨S8x2048x512, .f32⟩
  | 83 => ⟨S8x2048x512, .f32⟩
  | 84 => ⟨S8x2048x512, .f32⟩
  | 85 => ⟨S8x2048x512, .f32⟩
  | 86 => ⟨S1x1x512, .f32⟩
  | 87 => ⟨S512, .f32⟩
  | 88 => ⟨S1x1x512, .f32⟩
  | 89 => ⟨S8x2048x512, .f32⟩
  | 90 => ⟨S8x2048x512, .f32⟩
  | 91 => ⟨S8x2048x512, .f32⟩
  | 92 => ⟨S8x2048x512, .f32⟩
  | 93 => ⟨S1x1x512, .f32⟩
  | 94 => ⟨S512, .f32⟩
  | 95 => ⟨S1x1x512, .f32⟩
  | 96 => ⟨S8x2048x512, .f32⟩
  | 97 => ⟨S8x2048x512, .f32⟩
  | 98 => ⟨S8x2048x512, .f32⟩
  | 99 => ⟨S8x2048x512, .f32⟩
  | 100 => ⟨S1x1x512, .f32⟩
  | 101 => ⟨S512, .f32⟩
  | 102 => ⟨S1x1x512, .f32⟩
  | 103 => ⟨S8x2048x512, .f32⟩
  | 104 => ⟨S8x2048x512, .f32⟩
  | 105 => ⟨S8x2048x512, .f32⟩
  | 106 => ⟨S8x2048x512, .f32⟩
  | 107 => ⟨S1x1x512, .f32⟩
  | 108 => ⟨S512, .f32⟩
  | 109 => ⟨S1x1x512, .f32⟩
  | 110 => ⟨S8x2048x512, .f32⟩
  | 111 => ⟨S8x2048x512, .f32⟩
  | 112 => ⟨S8x2048x512, .f32⟩
  | 113 => ⟨S8x2048x512, .f32⟩
  | 114 => ⟨S1x1x512, .f32⟩
  | 115 => ⟨S512, .f32⟩
  | 116 => ⟨S1x1x512, .f32⟩
  | 117 => ⟨S8x2048x512, .f32⟩
  | 118 => ⟨S8x2048x512, .f32⟩
  | 119 => ⟨S8x2048x512, .f32⟩
  | 120 => ⟨S8x2048x512, .f32⟩
  | 121 => ⟨S1x1x512, .f32⟩
  | 122 => ⟨S512, .f32⟩
  | 123 => ⟨S1x1x512, .f32⟩
  | 124 => ⟨S8x2048x512, .f32⟩
  | 125 => ⟨S8x2048x512, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S1x1x512, .f32⟩
  | 1 => ⟨S512, .f32⟩
  | 2 => ⟨S1x1x512, .f32⟩
  | 3 => ⟨S8x2048x512, .f32⟩
  | 4 => ⟨S8x2048x512, .f32⟩
  | 5 => ⟨S8x2048x512, .f32⟩
  | 6 => ⟨S8x2048x512, .f32⟩
  | 7 => ⟨S1x1x512, .f32⟩
  | 8 => ⟨S512, .f32⟩
  | 9 => ⟨S1x1x512, .f32⟩
  | 10 => ⟨S8x2048x512, .f32⟩
  | 11 => ⟨S8x2048x512, .f32⟩
  | 12 => ⟨S8x2048x512, .f32⟩
  | 13 => ⟨S8x2048x512, .f32⟩
  | 14 => ⟨S1x1x512, .f32⟩
  | 15 => ⟨S512, .f32⟩
  | 16 => ⟨S1x1x512, .f32⟩
  | 17 => ⟨S8x2048x512, .f32⟩
  | 18 => ⟨S8x2048x512, .f32⟩
  | 19 => ⟨S8x2048x512, .f32⟩
  | 20 => ⟨S8x2048x512, .f32⟩
  | 21 => ⟨S1x1x512, .f32⟩
  | 22 => ⟨S512, .f32⟩
  | 23 => ⟨S1x1x512, .f32⟩
  | 24 => ⟨S8x2048x512, .f32⟩
  | 25 => ⟨S8x2048x512, .f32⟩
  | 26 => ⟨S8x2048x512, .f32⟩
  | 27 => ⟨S8x2048x512, .f32⟩
  | 28 => ⟨S1x1x512, .f32⟩
  | 29 => ⟨S512, .f32⟩
  | 30 => ⟨S1x1x512, .f32⟩
  | 31 => ⟨S8x2048x512, .f32⟩
  | 32 => ⟨S8x2048x512, .f32⟩
  | 33 => ⟨S8x2048x512, .f32⟩
  | 34 => ⟨S8x2048x512, .f32⟩
  | 35 => ⟨S1x1x512, .f32⟩
  | 36 => ⟨S512, .f32⟩
  | 37 => ⟨S1x1x512, .f32⟩
  | 38 => ⟨S8x2048x512, .f32⟩
  | 39 => ⟨S8x2048x512, .f32⟩
  | 40 => ⟨S8x2048x512, .f32⟩
  | 41 => ⟨S8x2048x512, .f32⟩
  | 42 => ⟨S1x1x512, .f32⟩
  | 43 => ⟨S512, .f32⟩
  | 44 => ⟨S1x1x512, .f32⟩
  | 45 => ⟨S8x2048x512, .f32⟩
  | 46 => ⟨S8x2048x512, .f32⟩
  | 47 => ⟨S8x2048x512, .f32⟩
  | 48 => ⟨S8x2048x512, .f32⟩
  | 49 => ⟨S1x1x512, .f32⟩
  | 50 => ⟨S512, .f32⟩
  | 51 => ⟨S1x1x512, .f32⟩
  | 52 => ⟨S8x2048x512, .f32⟩
  | 53 => ⟨S8x2048x512, .f32⟩
  | 54 => ⟨S8x2048x512, .f32⟩
  | 55 => ⟨S8x2048x512, .f32⟩
  | 56 => ⟨S1x1x512, .f32⟩
  | 57 => ⟨S512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S1x1x512, .f32⟩
  | 64 => ⟨S512, .f32⟩
  | 65 => ⟨S1x1x512, .f32⟩
  | 66 => ⟨S8x2048x512, .f32⟩
  | 67 => ⟨S8x2048x512, .f32⟩
  | 68 => ⟨S8x2048x512, .f32⟩
  | 69 => ⟨S8x2048x512, .f32⟩
  | 70 => ⟨S1x1x512, .f32⟩
  | 71 => ⟨S512, .f32⟩
  | 72 => ⟨S1x1x512, .f32⟩
  | 73 => ⟨S8x2048x512, .f32⟩
  | 74 => ⟨S8x2048x512, .f32⟩
  | 75 => ⟨S8x2048x512, .f32⟩
  | 76 => ⟨S8x2048x512, .f32⟩
  | 77 => ⟨S1x1x512, .f32⟩
  | 78 => ⟨S512, .f32⟩
  | 79 => ⟨S1x1x512, .f32⟩
  | 80 => ⟨S8x2048x512, .f32⟩
  | 81 => ⟨S8x2048x512, .f32⟩
  | 82 => ⟨S8x2048x512, .f32⟩
  | 83 => ⟨S8x2048x512, .f32⟩
  | 84 => ⟨S1x1x512, .f32⟩
  | 85 => ⟨S512, .f32⟩
  | 86 => ⟨S1x1x512, .f32⟩
  | 87 => ⟨S8x2048x512, .f32⟩
  | 88 => ⟨S8x2048x512, .f32⟩
  | 89 => ⟨S8x2048x512, .f32⟩
  | 90 => ⟨S8x2048x512, .f32⟩
  | 91 => ⟨S1x1x512, .f32⟩
  | 92 => ⟨S512, .f32⟩
  | 93 => ⟨S1x1x512, .f32⟩
  | 94 => ⟨S8x2048x512, .f32⟩
  | 95 => ⟨S8x2048x512, .f32⟩
  | 96 => ⟨S8x2048x512, .f32⟩
  | 97 => ⟨S8x2048x512, .f32⟩
  | 98 => ⟨S1x1x512, .f32⟩
  | 99 => ⟨S512, .f32⟩
  | 100 => ⟨S1x1x512, .f32⟩
  | 101 => ⟨S8x2048x512, .f32⟩
  | 102 => ⟨S8x2048x512, .f32⟩
  | 103 => ⟨S8x2048x512, .f32⟩
  | 104 => ⟨S8x2048x512, .f32⟩
  | 105 => ⟨S1x1x512, .f32⟩
  | 106 => ⟨S512, .f32⟩
  | 107 => ⟨S1x1x512, .f32⟩
  | 108 => ⟨S8x2048x512, .f32⟩
  | 109 => ⟨S8x2048x512, .f32⟩
  | 110 => ⟨S8x2048x512, .f32⟩
  | 111 => ⟨S512, .f32⟩
  | 112 => ⟨S1x1x512, .f32⟩
  | 113 => ⟨S8x2048x512, .f32⟩
  | 114 => ⟨S8x2048x512, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S8x2048x512, .f32⟩
  | 122 => ⟨S8x2048x512, .f32⟩
  | 123 => ⟨S8x2048x512, .f32⟩
  | 124 => ⟨S_, .f32⟩
  | 125 => ⟨S8x2048, .f32⟩
  | 126 => ⟨S8x2048x1, .f32⟩
  | 127 => ⟨S_, .f32⟩
  | _ => ⟨S8x2048x1024, .f32⟩

abbrev hbmTy0_2 (i : Nat) : BufTy := match i % 128 with
  | 0 => ⟨S8x2048x1, .f32⟩
  | 1 => ⟨S8x2048x1, .f32⟩
  | 2 => ⟨S8x2048x512, .f32⟩
  | 3 => ⟨S8x2048x512, .f32⟩
  | 4 => ⟨S_, .f32⟩
  | 5 => ⟨S8x2048x1, .f32⟩
  | 6 => ⟨S8x2048x1, .f32⟩
  | 7 => ⟨S8x2048x1, .f32⟩
  | 8 => ⟨S8x2048x512, .f32⟩
  | 9 => ⟨S8x2048x512, .f32⟩
  | 10 => ⟨S512, .f32⟩
  | 11 => ⟨S1x1x512, .f32⟩
  | 12 => ⟨S8x2048x512, .f32⟩
  | 13 => ⟨S8x2048x512, .f32⟩
  | 14 => ⟨S512, .f32⟩
  | 15 => ⟨S1x1x512, .f32⟩
  | 16 => ⟨S8x2048x512, .f32⟩
  | 17 => ⟨S8x2048x512, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S_, .f32⟩
  | 24 => ⟨S8x2048x512, .f32⟩
  | 25 => ⟨S8x2048x512, .f32⟩
  | 26 => ⟨S8x2048x512, .f32⟩
  | 27 => ⟨S512x512, .f32⟩
  | 28 => ⟨S8x2048x512, .f32⟩
  | 29 => ⟨S512, .f32⟩
  | 30 => ⟨S1x1x512, .f32⟩
  | 31 => ⟨S8x2048x512, .f32⟩
  | 32 => ⟨S8x2048x512, .f32⟩
  | 33 => ⟨S8x2048x512, .f32⟩
  | 34 => ⟨S512x1024, .f32⟩
  | 35 => ⟨S8x2048x1024, .f32⟩
  | 36 => ⟨S8x2048x512, .f32⟩
  | 37 => ⟨S512x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1024x1024, .f32⟩
  | 43 => ⟨S8x2048x1024, .f32⟩
  | 44 => ⟨S8x2048x1024, .f32⟩
  | 45 => ⟨S8x2048x1024, .f32⟩
  | 46 => ⟨S_, .f32⟩
  | 47 => ⟨S8x2048, .f32⟩
  | 48 => ⟨S8x2048x1, .f32⟩
  | 49 => ⟨S_, .f32⟩
  | 50 => ⟨S8x2048x1, .f32⟩
  | 51 => ⟨S8x2048x1, .f32⟩
  | 52 => ⟨S_, .f32⟩
  | 53 => ⟨S8x2048x1, .f32⟩
  | 54 => ⟨S8x2048x1, .f32⟩
  | 55 => ⟨S8x2048x1, .f32⟩
  | 56 => ⟨S8x2048x1024, .f32⟩
  | 57 => ⟨S8x2048x1024, .f32⟩
  | 58 => ⟨S1x1x1024, .f32⟩
  | 59 => ⟨S8x2048x1024, .f32⟩
  | 60 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_cst_1 : Ref sig .tc := ⟨.hbm, 243, rfl⟩
abbrev main_v224 : Ref sig .tc := ⟨.hbm, 244, rfl⟩
abbrev main_v225 : Ref sig .tc := ⟨.hbm, 245, rfl⟩
abbrev main_cst_2 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_cst_3 : Ref sig .tc := ⟨.hbm, 252, rfl⟩
abbrev main_v231 : Ref sig .tc := ⟨.hbm, 253, rfl⟩
abbrev main_v232 : Ref sig .tc := ⟨.hbm, 254, rfl⟩
abbrev main_cst_4 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_cst_5 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_cst_6 : Ref sig .tc := ⟨.hbm, 302, rfl⟩
abbrev main_v270 : Ref sig .tc := ⟨.hbm, 303, rfl⟩
abbrev main_v271 : Ref sig .tc := ⟨.hbm, 304, rfl⟩
abbrev main_cst_7 : Ref sig .tc := ⟨.hbm, 305, rfl⟩
abbrev main_v272 : Ref sig .tc := ⟨.hbm, 306, rfl⟩
abbrev main_v273 : Ref sig .tc := ⟨.hbm, 307, rfl⟩
abbrev main_cst_8 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩

abbrev nD : Nat := 1
abbrev τ : Topo := Topo.v7x

variable {F : FTy → Type} [FloatOps F]
-- ==== Proof.Spec.lean ====
module
public import Idealize.ShloMosaic.Lib.Pointwise
@[expose] public section
/-! # The attention layer as functions on extended reals

One token of one batch element and one key group (four query heads share it). Every definition is over plain
index functions; neither program is mentioned here. Masks are one-bit words, as both programs have them. -/
noncomputable section
open Idealize.ShloMosaic
namespace Attn

/-- The bit of a decidable statement. -/
abbrev bit (p : Prop) [Decidable p] : BitVec 1 := BitVec.ofBool (decide p)

/-- The product of two rows of 64. -/
def dot (x y : Fin 64 → EReal) : EReal := ∑ d, x d * y d

/-- The least divisor of a softmax, the word of `1e-30`. -/
def tiny : EReal := Ideal.ofBits .f32 228737632#32
/-- The score of a block that is always selected, the word of `1e4`. -/
def forcedScore : EReal := Ideal.ofBits .f32 1176256512#32
/-- The score of a block that lies after the token, the word of `-1`. -/
def lateScore : EReal := Ideal.ofBits .f32 3212836864#32

section softmax
variable {n : ℕ} (M : Fin n → BitVec 1) (s : Fin n → EReal)

/-- A score where the mask holds, `-∞` elsewhere. -/
def masked (x : Fin n) : EReal := Scalar.select (M x) (s x) ⊥
/-- The greatest masked score. -/
def top : EReal := Finset.univ.fold max ⊥ (masked M s)
/-- The exponential of a masked score less the greatest, zero off the mask. -/
def ex (x : Fin n) : EReal := Scalar.select (M x) (Ideal.exp (masked M s x - top M s)) 0
/-- The masked softmax. -/
def prob (x : Fin n) : EReal := Ideal.div (ex M s x) (max (∑ y, ex M s y) tiny)
/-- The masked softmax's average of `v`. -/
def attend (v : Fin n → EReal) : EReal := ∑ x, prob M s x * v x
end softmax

/-- Token `t` sees compressed block `c`: its last key, `16 c + 31`, is not after `t`. -/
def cmBit (t : ℕ) (c : Fin 128) : BitVec 1 := bit (16 * c.val + 31 ≤ t)
/-- Token `t` sees key `k` of its window: not after it, and at most 512 before it. -/
def winBit (t : ℕ) (k : Fin 2048) : BitVec 1 := bit (k.val ≤ t ∧ t ≤ k.val + 512)

/-- The score of selection block `j` (64 keys) at token `t` from its importance. -/
def score (imp : Fin 32 → EReal) (t : ℕ) (j : Fin 32) : EReal :=
  Scalar.select (bit (64 * j.val ≤ t))
    (Scalar.select (bit (j.val = 0 ∨ j.val = t / 64 ∨ j.val + 1 = t / 64)) forcedScore (imp j)) lateScore

/-- Block `n` is taken before block `j`: it scores higher, or the same and comes first. -/
def ahead {m : ℕ} (s : Fin m → EReal) (j n : Fin m) : Prop := s j < s n ∨ (s n = s j ∧ n < j)
open Classical in
/-- How many blocks are taken before block `j`. -/
def rank {m : ℕ} (s : Fin m → EReal) (j : Fin m) : ℕ := (Finset.univ.filter fun n => ahead s j n).card
/-- Block `j` is one of the sixteen best. -/
def pick (s : Fin 32 → EReal) (j : Fin 32) : BitVec 1 := bit (rank s j < 16)
/-- Token `t` sees key `k` of the selected blocks: its block is picked and it is not after `t`. -/
def selBit (s : Fin 32 → EReal) (t : ℕ) (k : Fin 2048) : BitVec 1 :=
  IntOp.andi (pick s ⟨k.val / 64, by omega⟩) (bit (k.val ≤ t))

/-- What one token of one key group reads: its four query rows, the compressed, selected and window keys and
    values, and the weights taking compressed blocks to selection blocks. -/
structure Row where
  t : ℕ
  q : Fin 4 → Fin 64 → EReal
  kc : Fin 128 → Fin 64 → EReal
  vc : Fin 128 → Fin 64 → EReal
  ks : Fin 2048 → Fin 64 → EReal
  vs : Fin 2048 → Fin 64 → EReal
  kw : Fin 2048 → Fin 64 → EReal
  vw : Fin 2048 → Fin 64 → EReal
  agg : Fin 128 → Fin 32 → EReal

namespace Row
variable (R : Row)
/-- Head `h`'s probabilities over the compressed blocks. -/
def pc (h : Fin 4) : Fin 128 → EReal := prob (cmBit R.t) fun c => dot (R.q h) (R.kc c)
/-- The importance of selection block `j`: the four heads' probabilities, weighted. -/
def imp (j : Fin 32) : EReal := ∑ c, (∑ h, R.pc h c) * R.agg c j
/-- The blocks' scores. -/
def sc : Fin 32 → EReal := score R.imp R.t
/-- The compressed branch. -/
def oc (h : Fin 4) (d : Fin 64) : EReal := ∑ c, R.pc h c * R.vc c d
/-- The selected branch. -/
def os (h : Fin 4) (d : Fin 64) : EReal :=
  attend (selBit R.sc R.t) (fun k => dot (R.q h) (R.ks k)) fun k => R.vs k d
/-- The window branch. -/
def ow (h : Fin 4) (d : Fin 64) : EReal :=
  attend (winBit R.t) (fun k => dot (R.q h) (R.kw k)) fun k => R.vw k d
/-- The three branches, gated. -/
def out (g : Fin 3 → EReal) (h : Fin 4) (d : Fin 64) : EReal :=
  g 0 * R.oc h d + g 1 * R.os h d + g 2 * R.ow h d
end Row

end Attn
end
-- ==== Proof.Online.lean ====
module
public import proofs.«01_k».proof.Proof.Spec
@[expose] public section
/-! # A softmax taken chunk by chunk

Facts about extended reals: the running maximum, sum and weighted sum of a softmax, kept up as keys come in chunks,
are those of all keys so far; and a masked softmax is unmoved by keys outside its mask. -/
noncomputable section
open Idealize.ShloMosaic
namespace Attn

theorem exp_nonneg (x : EReal) : 0 ≤ Ideal.exp x := by
  induction x using EReal.rec with
  | bot => simp
  | coe r => rw [Ideal.exp_coe]; exact_mod_cast (Real.exp_pos r).le
  | top => simp

theorem exp_ne_top {x : EReal} (h : x ≠ ⊤) : Ideal.exp x ≠ ⊤ := by
  induction x using EReal.rec with
  | bot => simp
  | coe r => rw [Ideal.exp_coe]; exact EReal.coe_ne_top _
  | top => exact absurd rfl h

/-- A nonnegative finite factor goes into a sum. -/
theorem mul_sum {ι : Type} (S : Finset ι) (c : EReal) (h0 : 0 ≤ c) (ht : c ≠ ⊤) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 ht, ih]

/-- The exponential of a score less a greater one is finite. -/
theorem exp_sub_ne_top {a b : EReal} (h : a ≤ b) : Ideal.exp (a - b) ≠ ⊤ := by
  apply exp_ne_top; intro hh
  induction a using EReal.rec <;> induction b using EReal.rec <;> simp_all [← EReal.coe_sub]

/-- Rescaling an exponential from the old maximum to the new one. -/
theorem exp_rescale {s m m' : EReal} (hs : s ≤ m) (hm : m ≤ m') (ht : m' ≠ ⊤) :
    Ideal.exp (m - m') * Ideal.exp (s - m) = Ideal.exp (s - m') := by
  have hmt : m ≠ ⊤ := fun h => ht (top_le_iff.mp (h ▸ hm))
  induction s using EReal.rec with
  | top => exact absurd (top_le_iff.mp hs) hmt
  | bot => simp [EReal.bot_sub]
  | coe a =>
    induction m using EReal.rec with
    | top => exact absurd rfl hmt
    | bot => exact absurd (le_bot_iff.mp hs) (EReal.coe_ne_bot _)
    | coe b =>
      induction m' using EReal.rec with
      | top => exact absurd rfl ht
      | bot => exact absurd (le_bot_iff.mp hm) (EReal.coe_ne_bot _)
      | coe c =>
        rw [← EReal.coe_sub, ← EReal.coe_sub, ← EReal.coe_sub, Ideal.exp_coe, Ideal.exp_coe, Ideal.exp_coe, ← EReal.coe_mul,
          ← Real.exp_add]
        congr 2; ring

section running
variable (σ v : ℕ → EReal)
/-- The greatest of the first `N` scores. -/
def runMax (N : ℕ) : EReal := (Finset.range N).sup σ
/-- The exponentials of the first `N` scores less their greatest, summed. -/
def runSum (N : ℕ) : EReal := ∑ t ∈ Finset.range N, Ideal.exp (σ t - runMax σ N)
/-- The same, weighted by `v`. -/
def runAcc (N : ℕ) : EReal := ∑ t ∈ Finset.range N, Ideal.exp (σ t - runMax σ N) * v t

variable {σ v}
theorem runMax_ne_top (h : ∀ t, σ t ≠ ⊤) (N : ℕ) : runMax σ N ≠ ⊤ := by
  rw [← lt_top_iff_ne_top]
  exact (Finset.sup_lt_iff bot_lt_top).mpr fun t _ => lt_top_iff_ne_top.mpr (h t)

theorem fold_max_eq_sup {ι : Type} (S : Finset ι) (f : ι → EReal) : S.fold max ⊥ f = S.sup f := rfl

theorem runMax_chunk (N w : ℕ) : max (runMax σ N) (Finset.univ.fold max ⊥ fun x : Fin w => σ (N + x.val)) = runMax σ (N + w) := by
  rw [fold_max_eq_sup]
  unfold runMax
  apply le_antisymm
  · refine max_le (Finset.sup_mono fun a ha => ?_) (Finset.sup_le fun x _ => Finset.le_sup (f := σ) ?_)
    · simp at ha ⊢; omega
    · simp
  · refine Finset.sup_le fun t ht => ?_
    by_cases h : t < N
    · exact le_max_of_le_left (Finset.le_sup (f := σ) (by simpa using h))
    · have ht' := Finset.mem_range.mp ht
      refine le_max_of_le_right ?_
      have := Finset.le_sup (f := fun x : Fin w => σ (N + x.val)) (Finset.mem_univ ⟨t - N, by omega⟩)
      simpa [show N + (t - N) = t by omega] using this

theorem sum_chunk (f : ℕ → EReal) (N w : ℕ) :
    ∑ t ∈ Finset.range (N + w), f t = (∑ t ∈ Finset.range N, f t) + ∑ x : Fin w, f (N + x.val) := by
  rw [Finset.sum_range_add, Finset.sum_range (fun x => f (N + x))]

/-- One more chunk: the rescaled sum with the chunk's own. -/
theorem runSum_chunk (h : ∀ t, σ t ≠ ⊤) (N w : ℕ) :
    Ideal.exp (runMax σ N - runMax σ (N + w)) * runSum σ N + ∑ x : Fin w, Ideal.exp (σ (N + x.val) - runMax σ (N + w))
      = runSum σ (N + w) := by
  have hle : runMax σ N ≤ runMax σ (N + w) := by rw [← runMax_chunk]; exact le_max_left _ _
  have hα : Ideal.exp (runMax σ N - runMax σ (N + w)) ≠ ⊤ := exp_sub_ne_top hle
  rw [runSum, runSum, sum_chunk, mul_sum _ _ (exp_nonneg _) hα]
  congr 1
  exact Finset.sum_congr rfl fun t ht => exp_rescale (Finset.le_sup ht) hle (runMax_ne_top h _)

theorem runAcc_chunk (h : ∀ t, σ t ≠ ⊤) (N w : ℕ) :
    Ideal.exp (runMax σ N - runMax σ (N + w)) * runAcc σ v N
        + ∑ x : Fin w, Ideal.exp (σ (N + x.val) - runMax σ (N + w)) * v (N + x.val)
      = runAcc σ v (N + w) := by
  have hle : runMax σ N ≤ runMax σ (N + w) := by rw [← runMax_chunk]; exact le_max_left _ _
  have hα : Ideal.exp (runMax σ N - runMax σ (N + w)) ≠ ⊤ := exp_sub_ne_top hle
  rw [runAcc, runAcc, sum_chunk, mul_sum _ _ (exp_nonneg _) hα]
  congr 1
  refine Finset.sum_congr rfl fun t ht => ?_
  rw [← mul_assoc, exp_rescale (show σ t ≤ runMax σ N from Finset.le_sup ht) hle (runMax_ne_top h _)]

/-- At least one score above `-∞`: the sum is a real number, at least one. -/
theorem runSum_real (h : ∀ t, σ t ≠ ⊤) (N : ℕ) (hb : ∃ t < N, σ t ≠ ⊥) : ∃ r : ℝ, 1 ≤ r ∧ runSum σ N = r := by
  obtain ⟨t₀, h₀, hb⟩ := hb
  obtain ⟨t, ht, hm⟩ := Finset.exists_mem_eq_sup (Finset.range N) ⟨t₀, Finset.mem_range.mpr h₀⟩ σ
  have hM : runMax σ N = σ t := hm
  have hge : (1 : EReal) ≤ runSum σ N := by
    have h1 : Ideal.exp (σ t - runMax σ N) = 1 := by
      have hbt : σ t ≠ ⊥ := fun hbt => hb (le_bot_iff.mp (by rw [← hbt, ← hM]; exact Finset.le_sup (Finset.mem_range.mpr h₀)))
      rw [hM]
      have := h t
      generalize σ t = a at *
      induction a using EReal.rec with
      | bot => exact absurd rfl hbt
      | top => exact absurd rfl this
      | coe r => rw [← EReal.coe_sub, Ideal.exp_coe]; simp
    rw [← h1]
    exact Finset.single_le_sum (f := fun t => Ideal.exp (σ t - runMax σ N)) (fun i _ => exp_nonneg _) ht
  have hlt : runSum σ N ≠ ⊤ := by
    have key : ∀ S : Finset ℕ, S ⊆ Finset.range N → ∑ t ∈ S, Ideal.exp (σ t - runMax σ N) ≠ ⊤ := by
      intro S
      induction S using Finset.induction_on with
      | empty => simp
      | insert a S ha ih =>
        intro hS
        rw [Finset.sum_insert ha]
        exact EReal.add_ne_top (exp_sub_ne_top (Finset.le_sup (hS (Finset.mem_insert_self _ _))))
          (ih fun x hx => hS (Finset.mem_insert_of_mem hx))
    exact key _ (Finset.Subset.refl _)
  generalize runSum σ N = L at *
  induction L using EReal.rec with
  | bot => exact absurd (le_bot_iff.mp hge) (EReal.coe_ne_bot 1)
  | top => exact absurd rfl hlt
  | coe r => exact ⟨r, by exact_mod_cast hge, rfl⟩

end running

theorem tiny_eq : tiny = ((10633824 * 2 ^ (-123 : ℤ) : ℝ) : EReal) := by
  simp [tiny, Ideal.ofBits, Ideal.ieee, -EReal.coe_mul]

theorem tiny_le_one : tiny ≤ 1 := by
  rw [tiny_eq]
  have : (10633824 * 2 ^ (-123 : ℤ) : ℝ) ≤ 1 := by norm_num [zpow_neg]
  exact_mod_cast this

theorem bit_cases (b : BitVec 1) : b = 0#1 ∨ b = 1#1 := by
  have := b.isLt
  rcases Nat.lt_or_ge b.toNat 1 with h | h
  · left; apply BitVec.eq_of_toNat_eq; simp; omega
  · right; apply BitVec.eq_of_toNat_eq; simp; omega

/-- Off the mask the exponential is zero by itself. -/
theorem ex_eq {n : ℕ} (M : Fin n → BitVec 1) (s : Fin n → EReal) (x : Fin n) : ex M s x = Ideal.exp (masked M s x - top M s) := by
  unfold ex masked
  rcases bit_cases (M x) with h | h <;> simp [h, Scalar.select, EReal.bot_sub]

/-- THE CHUNKED SOFTMAX IS THE MASKED SOFTMAX: the running weighted sum over the running sum. -/
theorem attend_eq_run {N w : ℕ} (M : Fin (N + w) → BitVec 1) (s v : Fin (N + w) → EReal) (σ v' : ℕ → EReal)
    (hin : ∀ k : Fin N, masked M s (k.castAdd w) = σ k) (hout : ∀ k : Fin w, masked M s (k.natAdd N) = ⊥)
    (hv : ∀ k : Fin N, v (k.castAdd w) = v' k) (h : ∀ t, σ t ≠ ⊤) (hb : ∃ t < N, σ t ≠ ⊥) :
    Ideal.div (runAcc σ v' N) (runSum σ N) = attend M s v := by
  have htop : top M s = runMax σ N := by
    unfold top; rw [fold_max_eq_sup]
    apply le_antisymm
    · refine Finset.sup_le fun x _ => ?_
      refine Fin.addCases (fun k => ?_) (fun k => ?_) x
      · rw [hin]; exact Finset.le_sup (f := σ) (Finset.mem_range.mpr k.isLt)
      · rw [hout]; exact bot_le
    · refine Finset.sup_le fun t ht => ?_
      have := hin ⟨t, Finset.mem_range.mp ht⟩
      rw [← this]; exact Finset.le_sup (Finset.mem_univ _)
  have hsum : ∑ y, ex M s y = runSum σ N := by
    rw [Fin.sum_univ_add]
    simp only [ex_eq, htop, hin, hout, EReal.bot_sub, Ideal.exp_bot, Finset.sum_const_zero, add_zero]
    rw [runSum, Finset.sum_range]
  obtain ⟨r, hr, hL⟩ := runSum_real h N hb
  have hr0 : r ≠ 0 := by linarith
  have hmax : max ((r : ℝ) : EReal) tiny = r := max_eq_left (tiny_le_one.trans (by exact_mod_cast hr))
  unfold attend prob
  rw [hsum, hL, hmax, Ideal.div_coe hr0]
  simp only [Ideal.div_coe hr0]
  rw [Fin.sum_univ_add]
  simp only [ex_eq, htop, hin, hout, hv, EReal.bot_sub, Ideal.exp_bot, zero_mul, Finset.sum_const_zero, add_zero]
  rw [runAcc, mul_comm, mul_sum _ _ (by have : (0 : ℝ) ≤ 1 / r := by positivity
                                        exact_mod_cast this) (EReal.coe_ne_top _), Finset.sum_range]
  exact Finset.sum_congr rfl fun k _ => by rw [← mul_assoc, mul_comm (Ideal.exp _)]

/-- A masked softmax over the keys an injection reaches is the one over all, when the mask is off elsewhere. -/
theorem attend_embed {n m : ℕ} (f : Fin n → Fin m) (hf : Function.Injective f) (M' : Fin n → BitVec 1) (s' v' : Fin n → EReal)
    (M : Fin m → BitVec 1) (s v : Fin m → EReal) (hM : ∀ x, M (f x) = M' x) (hs : ∀ x, s (f x) = s' x) (hv : ∀ x, v (f x) = v' x)
    (hout : ∀ k, k ∉ Set.range f → M k = 0#1) : attend M' s' v' = attend M s v := by
  have hmask : ∀ x, masked M s (f x) = masked M' s' x := fun x => by simp [masked, hM, hs]
  have hoff : ∀ k, k ∉ Set.range f → masked M s k = ⊥ := fun k hk => by simp [masked, hout k hk, Scalar.select]
  have htop : top M s = top M' s' := by
    unfold top; rw [fold_max_eq_sup, fold_max_eq_sup]
    apply le_antisymm
    · refine Finset.sup_le fun k _ => ?_
      by_cases hk : k ∈ Set.range f
      · obtain ⟨x, rfl⟩ := hk; rw [hmask]; exact Finset.le_sup (Finset.mem_univ _)
      · rw [hoff k hk]; exact bot_le
    · refine Finset.sup_le fun x _ => ?_
      rw [← hmask]; exact Finset.le_sup (Finset.mem_univ _)
  have hex : ∀ x, ex M s (f x) = ex M' s' x := fun x => by rw [ex_eq, ex_eq, hmask, htop]
  have hexo : ∀ k, k ∉ Set.range f → ex M s k = 0 := fun k hk => by rw [ex_eq, hoff k hk]; simp [EReal.bot_sub]
  have hsum : ∑ y, ex M' s' y = ∑ y, ex M s y :=
    Fintype.sum_of_injective f hf _ _ hexo fun x => (hex x).symm
  have htiny : max (∑ y, ex M s y) tiny ≠ 0 := by
    intro h
    have : (0 : EReal) < tiny := by
      rw [tiny_eq]
      have : (0 : ℝ) < (10633824 * 2 ^ (-123 : ℤ) : ℝ) := by positivity
      exact_mod_cast this
    exact absurd (h ▸ le_max_right (∑ y, ex M s y) tiny) (not_le.mpr this)
  unfold attend
  refine Fintype.sum_of_injective f hf _ _ (fun k hk => ?_) fun x => ?_
  · unfold prob; rw [hexo k hk, Ideal.div, if_neg htiny, zero_mul, zero_mul]
  · unfold prob; rw [hex, hsum, hv]

/-- A product over 128 lanes whose left row is zero from lane 64 on is the product over the first 64. -/
theorem sum_lanes (x y : Fin 128 → EReal) (h : ∀ j : Fin 64, x (j.natAdd 64) = 0) :
    ∑ l, x l * y l = dot (fun d => x (d.castAdd 64)) fun d => y (d.castAdd 64) := by
  rw [show (∑ l : Fin 128, x l * y l) = ∑ l : Fin (64 + 64), x l * y l from rfl, Fin.sum_univ_add]
  simp only [h, zero_mul, Finset.sum_const_zero, add_zero]
  rfl
end Attn
end
-- ==== Proof.KRow.lean ====
module
public import proofs.«01_k».proof.Proof.Gen.KernelIdeal.Frame
public import proofs.«01_k».proof.Proof.Online
@[expose] public section
/-! # The kernel's blocks as rows of the layer

At a grid point the kernel's blocks hold 256 tokens of one batch element; `krow` reads one of those tokens and one
key group off the blocks. The two named constants are `-∞` at the extended reals. -/
noncomputable section
open Idealize.ShloMosaic
namespace Cert.KernelIdeal.Gen
open Cert.KernelIdeal

theorem named_mask : Named.named (F := Ideal) κ "mask" (φ := .f32) 4048155338#32 = (⊥ : EReal) :=
  IdealRules.named_const.ideal_named_scalar _ _ _ _ rfl
theorem named_bias : Named.named (F := Ideal) κ "bias" (φ := .f32) 3323740160#32 = (⊥ : EReal) :=
  IdealRules.named_const.ideal_named_scalar _ _ _ _ rfl
theorem ofBits_ninf : Ideal.ofBits FTy.f32 4286578688#32 = (⊥ : EReal) := by
  simp [Ideal.ofBits, Ideal.ieee]

/-- The token of row `ρ` at a grid point. -/
def tok (i : grid0.Coords) (ρ : ℕ) : ℕ := 256 * (i 1).val + ρ

/-- Token `ρ` of a grid point and key group `G`, read off the blocks. -/
def krow (i : grid0.Coords) (x0 : Vec Ideal S1x8x256x128 .bf16) (x2 : Vec Ideal S1x2x128x128 .bf16)
    (x3 : Vec Ideal S1x2x128x128 .bf16) (x4 : Vec Ideal S1x2x2048x128 .bf16) (x5 : Vec Ideal S1x2x2048x128 .bf16)
    (x6 : Vec Ideal S1x2x2048x128 .bf16) (x7 : Vec Ideal S1x2x2048x128 .bf16) (x8 : Vec Ideal S128x128 .bf16)
    (G : Fin 2) (ρ : Fin 256) : Attn.Row where
  t := tok i ρ
  q h d := x0 (ix4 0 ⟨4 * G.val + h.val, by omega⟩ ρ (d.castAdd 64))
  kc c d := x2 (ix4 0 G c (d.castAdd 64))
  vc c d := x3 (ix4 0 G c (d.castAdd 64))
  ks k d := x4 (ix4 0 G k (d.castAdd 64))
  vs k d := x5 (ix4 0 G k (d.castAdd 64))
  kw k d := x6 (ix4 0 G k (d.castAdd 64))
  vw k d := x7 (ix4 0 G k (d.castAdd 64))
  agg c j := x8 (ix2 c ⟨64 + j.val, by omega⟩)

/-- Lanes 64 to 127 of every query row are zero. -/
def QPad (x0 : Vec Ideal S1x8x256x128 .bf16) : Prop := ∀ (h : Fin 8) (ρ : Fin 256) (j : Fin 64), x0 (ix4 0 h ρ (j.natAdd 64)) = 0

end Cert.KernelIdeal.Gen
end
-- ==== Proof.Words.lean ====
module
public import proofs.«01_k».proof.Proof.Spec
public import Idealize.ShloMosaic.Lib.Tactic.WordOmega
@[expose] public section
/-! # The kernel's masks, from words to numbers

Every compare the kernel makes on 32-bit words, at the sizes it makes them, decides the statement on natural numbers. -/
noncomputable section
open Idealize.ShloMosaic
namespace Attn

theorem w_mul (a b : ℕ) : IntOp.muli (BitVec.ofNat 32 a) (BitVec.ofNat 32 b) = BitVec.ofNat 32 (a * b) := by
  show BitVec.ofNat 32 a * BitVec.ofNat 32 b = _
  exact (BitVec.ofNat_mul ..).symm
theorem w_smul (a b : ℕ) : Scalar.muli (BitVec.ofNat 32 a) (BitVec.ofNat 32 b) = BitVec.ofNat 32 (a * b) := by
  show BitVec.ofNat 32 a * BitVec.ofNat 32 b = _
  exact (BitVec.ofNat_mul ..).symm
theorem w_add (a b : ℕ) : IntOp.addi (BitVec.ofNat 32 a) (BitVec.ofNat 32 b) = BitVec.ofNat 32 (a + b) := by
  show BitVec.ofNat 32 a + BitVec.ofNat 32 b = _
  exact (BitVec.ofNat_add ..).symm
theorem w_sub (a b : ℕ) (hb : b < 2 ^ 32) (h : b ≤ a) : IntOp.subi (BitVec.ofNat 32 a) (BitVec.ofNat 32 b) = BitVec.ofNat 32 (a - b) := by
  show BitVec.ofNat 32 a - BitVec.ofNat 32 b = _
  exact BitVec.ofNat_sub_ofNat_of_le a b hb h
theorem w_and255 (r : ℕ) (h : r < 1024) : IntOp.andi (BitVec.ofNat 32 r) 255#32 = BitVec.ofNat 32 (r % 256) := by
  show BitVec.ofNat 32 r &&& 255#32 = _
  apply BitVec.eq_of_toNat_eq
  rw [BitVec.toNat_and]
  simp only [BitVec.toNat_ofNat]
  rw [show 255 % 2 ^ 32 = 2 ^ 8 - 1 from rfl, Nat.and_two_pow_sub_one_eq_mod]
  omega
theorem w_shr6 (a : ℕ) (h : a < 2 ^ 31) : IntOp.shrsi ArithUnit.vector (BitVec.ofNat 32 a) 6#32 = BitVec.ofNat 32 (a / 64) := by
  show (if (6#32).toNat < 32 then _ else _) = _
  rw [if_pos (by decide)]
  apply BitVec.eq_of_toNat_eq
  rw [show BitVec.sshiftRight' (BitVec.ofNat 32 a) 6#32 = (BitVec.ofNat 32 a).sshiftRight 6 from rfl,
    BitVec.sshiftRight_eq_of_msb_false]
  · simp only [BitVec.toNat_ushiftRight, BitVec.toNat_ofNat, Nat.shiftRight_eq_div_pow]
    omega
  · rw [BitVec.msb_eq_false_iff_two_mul_lt]; simp only [BitVec.toNat_ofNat]; omega

theorem toInt_ofNat (a : ℕ) (h : a < 2 ^ 31) : (BitVec.ofNat 32 a).toInt = a := by
  rw [BitVec.toInt_eq_toNat_of_lt (by simp only [BitVec.toNat_ofNat]; omega)]
  simp only [BitVec.toNat_ofNat]
  omega

theorem w_sle (a b : ℕ) (ha : a < 2 ^ 31) (hb : b < 2 ^ 31) :
    IntOp.cmpi CmpIPredicate.sle (BitVec.ofNat 32 a) (BitVec.ofNat 32 b) = bit (a ≤ b) := by
  show BitVec.ofBool (BitVec.sle _ _) = _
  rw [BitVec.sle, toInt_ofNat a ha, toInt_ofNat b hb]; simp [bit]
theorem w_slt (a b : ℕ) (ha : a < 2 ^ 31) (hb : b < 2 ^ 31) :
    IntOp.cmpi CmpIPredicate.slt (BitVec.ofNat 32 a) (BitVec.ofNat 32 b) = bit (a < b) := by
  show BitVec.ofBool (BitVec.slt _ _) = _
  rw [BitVec.slt, toInt_ofNat a ha, toInt_ofNat b hb]; simp [bit]
theorem w_sge (a b : ℕ) (ha : a < 2 ^ 31) (hb : b < 2 ^ 31) :
    IntOp.cmpi CmpIPredicate.sge (BitVec.ofNat 32 a) (BitVec.ofNat 32 b) = bit (b ≤ a) := w_sle b a hb ha
theorem w_sgt (a b : ℕ) (ha : a < 2 ^ 31) (hb : b < 2 ^ 31) :
    IntOp.cmpi CmpIPredicate.sgt (BitVec.ofNat 32 a) (BitVec.ofNat 32 b) = bit (b < a) := w_slt b a hb ha
theorem w_eq (a b : ℕ) (ha : a < 2 ^ 31) (hb : b < 2 ^ 31) :
    IntOp.cmpi CmpIPredicate.eq (BitVec.ofNat 32 a) (BitVec.ofNat 32 b) = bit (a = b) := by
  show BitVec.ofBool (_ == _) = _
  congr 1
  rw [Bool.eq_iff_iff]
  simp only [beq_iff_eq, decide_eq_true_eq]
  constructor
  · intro h
    have := congrArg BitVec.toNat h
    simp only [BitVec.toNat_ofNat] at this; omega
  · rintro rfl; rfl

theorem toInt_sub (a b : ℕ) (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, toInt_ofNat a (by omega), toInt_ofNat b (by omega), Int.bmod_def]
  omega

/-- A key against the token less 512, which may be negative. -/
theorem w_sge_sub (a b : ℕ) (ha : a < 2 ^ 30) (hb : b < 2 ^ 30) :
    IntOp.cmpi CmpIPredicate.sge (BitVec.ofNat 32 a) (IntOp.subi (BitVec.ofNat 32 b) 512#32) = bit (b ≤ a + 512) := by
  show BitVec.ofBool (BitVec.sle _ _) = _
  rw [BitVec.sle, show (512#32) = BitVec.ofNat 32 512 from rfl, toInt_sub b 512 hb (by omega), toInt_ofNat a (by omega)]
  congr 2
  exact propext (by omega)

/-- A block against the token's block less one, which may be negative. -/
theorem w_eq_pred (a b : ℕ) (ha : a < 2 ^ 30) (hb : b < 2 ^ 30) :
    IntOp.cmpi CmpIPredicate.eq (BitVec.ofNat 32 a) (IntOp.subi (BitVec.ofNat 32 b) 1#32) = bit (a + 1 = b) := by
  show BitVec.ofBool (_ == _) = _
  congr 1
  rw [Bool.eq_iff_iff]
  simp only [beq_iff_eq, decide_eq_true_eq]
  rw [← BitVec.toInt_inj, show (1#32) = BitVec.ofNat 32 1 from rfl, toInt_sub b 1 hb (by omega), toInt_ofNat a (by omega)]
  omega

/-- The window's first key: the tile's first token less 512, or zero. -/
theorem w_start (a : ℕ) (ha : a < 2 ^ 30) :
    Scalar.maxsi (Scalar.subi (BitVec.ofNat 32 a) 512#32) 0#32 = BitVec.ofNat 32 (a - 512) := by
  show (if BitVec.slt 0#32 (IntOp.subi (BitVec.ofNat 32 a) (BitVec.ofNat 32 512)) then _ else _) = _
  have h : BitVec.slt 0#32 (IntOp.subi (BitVec.ofNat 32 a) (BitVec.ofNat 32 512)) = decide (512 < a) := by
    rw [BitVec.slt, toInt_sub a 512 ha (by omega)]
    rw [decide_eq_decide]; simp
  rw [h]
  by_cases h' : 512 < a
  · rw [if_pos (by simpa using h')]
    exact w_sub a 512 (by omega) h'.le
  · rw [if_neg (by simpa using h'), show a - 512 = 0 by omega]

theorem bit_and (p q : Prop) [Decidable p] [Decidable q] : IntOp.andi (bit p) (bit q) = bit (p ∧ q) := by
  by_cases hp : p <;> by_cases hq : q <;> simp [bit, hp, hq, IntOp.andi]
theorem bit_or (p q : Prop) [Decidable p] [Decidable q] : IntOp.ori (bit p) (bit q) = bit (p ∨ q) := by
  by_cases hp : p <;> by_cases hq : q <;> simp [bit, hp, hq, IntOp.ori]
theorem bit_congr {p q : Prop} [Decidable p] [Decidable q] (h : p ↔ q) : bit p = bit q := by
  unfold bit; congr 1; exact decide_eq_decide.mpr h

theorem word_cm (i r l : ℕ) (hi : i < 8) (hr : r < 1024) (hl : l < 128) :
    IntOp.cmpi CmpIPredicate.sle (IntOp.addi (IntOp.muli (BitVec.ofNat 32 l) 16#32) 31#32)
      (IntOp.addi (Scalar.muli (BitVec.ofNat 32 i) 256#32) (IntOp.andi (BitVec.ofNat 32 r) 255#32))
      = bit (16 * l + 31 ≤ 256 * i + r % 256) := by
  rw [w_and255 r hr, w_mul, w_smul, w_add, w_add, w_sle _ _ (by omega) (by omega)]
  exact bit_congr (by omega)

theorem word_win (i r l : ℕ) (hi : i < 8) (hr : r < 1024) (hl : l < 768) :
    IntOp.andi
      (IntOp.cmpi CmpIPredicate.sle
        (IntOp.addi (Scalar.maxsi (Scalar.subi (Scalar.muli (BitVec.ofNat 32 i) 256#32) 512#32) 0#32) (BitVec.ofNat 32 l))
        (IntOp.addi (Scalar.muli (BitVec.ofNat 32 i) 256#32) (IntOp.andi (BitVec.ofNat 32 r) 255#32)))
      (IntOp.cmpi CmpIPredicate.sge
        (IntOp.addi (Scalar.maxsi (Scalar.subi (Scalar.muli (BitVec.ofNat 32 i) 256#32) 512#32) 0#32) (BitVec.ofNat 32 l))
        (IntOp.subi (IntOp.addi (Scalar.muli (BitVec.ofNat 32 i) 256#32) (IntOp.andi (BitVec.ofNat 32 r) 255#32)) 512#32))
      = bit ((256 * i - 512) + l ≤ 256 * i + r % 256 ∧ 256 * i + r % 256 ≤ (256 * i - 512) + l + 512) := by
  rw [w_and255 r hr, w_smul, w_start _ (by omega), w_add, w_add, w_sle _ _ (by omega) (by omega),
    w_sge_sub _ _ (by omega) (by omega), bit_and]
  exact bit_congr (by omega)

theorem word_score (i ρ j : ℕ) (hi : i < 8) (hρ : ρ < 256) (hj : j < 32) (f v a b : EReal) :
    Scalar.select
      (IntOp.andi (IntOp.cmpi CmpIPredicate.sge (IntOp.subi (BitVec.ofNat 32 (64 + j)) 64#32) 0#32)
        (IntOp.cmpi CmpIPredicate.slt (IntOp.subi (BitVec.ofNat 32 (64 + j)) 64#32) 32#32))
      (Scalar.select
        (IntOp.cmpi CmpIPredicate.sle (IntOp.muli (IntOp.subi (BitVec.ofNat 32 (64 + j)) 64#32) 64#32)
          (IntOp.addi (Scalar.muli (BitVec.ofNat 32 i) 256#32) (BitVec.ofNat 32 ρ)))
        (Scalar.select
          (IntOp.ori
            (IntOp.ori (IntOp.cmpi CmpIPredicate.eq (IntOp.subi (BitVec.ofNat 32 (64 + j)) 64#32) 0#32)
              (IntOp.cmpi CmpIPredicate.eq (IntOp.subi (BitVec.ofNat 32 (64 + j)) 64#32)
                (IntOp.shrsi ArithUnit.vector
                  (IntOp.addi (Scalar.muli (BitVec.ofNat 32 i) 256#32) (BitVec.ofNat 32 ρ)) 6#32)))
            (IntOp.cmpi CmpIPredicate.eq (IntOp.subi (BitVec.ofNat 32 (64 + j)) 64#32)
              (IntOp.subi
                (IntOp.shrsi ArithUnit.vector
                  (IntOp.addi (Scalar.muli (BitVec.ofNat 32 i) 256#32) (BitVec.ofNat 32 ρ)) 6#32)
                1#32)))
          f v) a) b
      = Scalar.select (bit (64 * j ≤ 256 * i + ρ))
          (Scalar.select (bit (j = 0 ∨ j = (256 * i + ρ) / 64 ∨ j + 1 = (256 * i + ρ) / 64)) f v) a := by
  rw [show (64#32) = BitVec.ofNat 32 64 from rfl, w_sub _ _ (by omega) (by omega), show 64 + j - 64 = j by omega, w_mul, w_smul, w_add,
    w_shr6 _ (by omega), w_eq_pred _ _ (by omega) (by omega), w_eq _ 0 (by omega) (by omega), w_eq _ _ (by omega) (by omega),
    w_sge _ 0 (by omega) (by omega), w_slt _ 32 (by omega) (by omega), w_sle _ _ (by omega) (by omega),
    bit_and, bit_or, bit_or]
  have : bit (0 ≤ j ∧ j < 32) = 1#1 := by simp [bit, hj]
  rw [this]
  simp only [Scalar.select]
  rw [if_pos (by decide), show i * 256 = 256 * i by omega, bit_congr (show (j * 64 ≤ 256 * i + ρ) ↔ 64 * j ≤ 256 * i + ρ by omega),
    bit_congr (show ((j = 0 ∨ j = (256 * i + ρ) / 64) ∨ j + 1 = (256 * i + ρ) / 64) ↔
      (j = 0 ∨ j = (256 * i + ρ) / 64 ∨ j + 1 = (256 * i + ρ) / 64) by omega)]

end Attn
end
-- ==== Proof.KComp.lean ====
module
public import proofs.«01_k».proof.Proof.KRow
public import proofs.«01_k».proof.Proof.Words
@[expose] public section
/-! # The kernel's compressed branch

What each of its words holds at an index: the mask, each head's probabilities, the branch's output and the importance
of the selection blocks, for both key groups, as the layer's functions of the blocks. -/
set_option maxRecDepth 16384
noncomputable section
open Idealize.ShloMosaic
namespace Cert.KernelIdeal.Gen
open Cert.KernelIdeal
open kernelRun0_A.sl

/-- A row of one head and its token: row `256 h + ρ`. -/
abbrev hrow (h : Fin 4) (ρ : Fin 256) : Fin 1024 := ⟨256 * h.val + ρ.val, by omega⟩
/-- The head of a row. -/
abbrev rhead (r : Fin 1024) : Fin 4 := ⟨r.val / 256, by omega⟩
/-- The token of a row. -/
abbrev rtok (r : Fin 1024) : Fin 256 := ⟨r.val % 256, by omega⟩

theorem rhead_hrow (h : Fin 4) (ρ : Fin 256) : rhead (hrow h ρ) = h := Fin.ext (by simp only [hrow, rhead]; omega)
theorem row0 (r : Fin 256) : (⟨r.val, by omega⟩ : Fin 1024) = hrow 0 r := Fin.ext (by simp [hrow])
theorem row1 (r : Fin 256) : (⟨256 + r.val, by omega⟩ : Fin 1024) = hrow 1 r := Fin.ext (by simp [hrow])
theorem row2 (r : Fin 256) : (⟨512 + r.val, by omega⟩ : Fin 1024) = hrow 2 r := Fin.ext (by simp [hrow])
theorem row3 (r : Fin 256) : (⟨768 + r.val, by omega⟩ : Fin 1024) = hrow 3 r := Fin.ext (by simp [hrow])
theorem rtok_hrow (h : Fin 4) (ρ : Fin 256) : rtok (hrow h ρ) = ρ := Fin.ext (by simp only [hrow, rtok]; omega)
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole)

 (x0 : Vec Ideal S1x8x256x128 .bf16) (x1 : Vec Ideal S1x256x128 .f32) (x2 : Vec Ideal S1x2x128x128 .bf16) (x3 : Vec Ideal S1x2x128x128 .bf16) (x4 : Vec Ideal S1x2x2048x128 .bf16) (x5 : Vec Ideal S1x2x2048x128 .bf16) (x6 : Vec Ideal S1x2x2048x128 .bf16) (x7 : Vec Ideal S1x2x2048x128 .bf16) (x8 : Vec Ideal S128x128 .bf16)

/-- The compressed mask at row `r` (head `r / 256`, token `r % 256`). -/
theorem v15_at (r : Fin 1024) (l : Fin 128) : kernelRun0_A.sl.v15 i (ix2 r l) = Attn.cmBit (tok i (r.val % 256)) l := by
  have hi : (i 1).val < 8 := (i 1).isLt
  pointwise [kernelRun0_A.sl.v15, v14, v9, v8, v5, v6, v10, v11, v13, v0]
  exact Attn.word_cm _ _ _ hi r.isLt l.isLt

/-- The masked softmax one head's rows hold, in the scores' lanes. -/
theorem pay12_at (v15 : IVec S1024x128 1) (v51 : Vec Ideal S1x4x256x128 .bf16) (v54 : Vec Ideal S1x1x128x128 .bf16) (r : Fin 1024) (l : Fin 128) :
    k0_pay12 (F := Ideal) v15 v51 v54 (ix2 r l) = Attn.prob (fun x => v15 (ix2 r x))
      (fun x => ∑ y : Fin 128, v51 (ix4 0 ⟨r.val / 256, by omega⟩ ⟨r.val % 256, by omega⟩ y) * v54 (ix4 0 0 x y)) l := by
  pointwise [k0_pay12, k0_pay11]
  simp only [named_mask, ofBits_ninf]
  rfl

/-- A query row of a head times a key row, over all lanes, is the product over the first 64. -/
theorem dot_at (hq : QPad x0) (h : Fin 8) (ρ : Fin 256) (y : Fin 128 → EReal) :
    ∑ l, x0 (ix4 0 h ρ l) * y l = Attn.dot (fun d => x0 (ix4 0 h ρ (d.castAdd 64))) fun d => y (d.castAdd 64) :=
  Attn.sum_lanes _ _ fun j => hq h ρ j

theorem head0 (r : Fin 1024) : (⟨r.val / 256, by omega⟩ : Fin 8) = ⟨4 * (0 : Fin 2).val + (rhead r).val, by simp; omega⟩ := Fin.ext (by simp)

theorem comp0_at (hq : QPad x0) (r : Fin 1024) (l : Fin 128) :
    k0_pay12 (F := Ideal) (kernelRun0_A.sl.v15 i)
        (View.ld x0 (Rect.unit ![0, 0, 0, 0] ![1, 4, 256, 128] inb_S1x8x256x128_S1x4x256x128_0_0_0_0))
        (View.ld x2 (Rect.unit ![0, 0, 0, 0] ![1, 1, 128, 128] inb_S1x2x128x128_S1x1x128x128_0_0_0_0)) (ix2 r l)
      = (krow i x0 x2 x3 x4 x5 x6 x7 x8 0 (rtok r)).pc (rhead r) l := by
  rw [pay12_at]
  pointwise []
  simp only [v15_at]
  refine Eq.trans (b := Attn.prob (Attn.cmBit (tok i (r.val % 256)))
    (fun x => ∑ y : Fin 128, x0 (ix4 0 ⟨r.val / 256, by omega⟩ ⟨r.val % 256, by omega⟩ y) * x2 (ix4 0 0 x y)) l) rfl ?_
  rw [head0]
  exact congrArg (fun s => Attn.prob (Attn.cmBit (tok i (r.val % 256))) s l) (funext fun x => dot_at x0 hq _ _ _)

/-- Group 0's output: the probabilities times the compressed values. -/
theorem r_2_at (hq : QPad x0) (r : Fin 1024) (d : Fin 64) :
    kernelRun0_A.sl.r_2 (F := Ideal) c i arg2 harg2 arg4 harg4 arg5 harg5 x0 x2 x3 (ix2 r (d.castAdd 64)) = (krow i x0 x2 x3 x4 x5 x6 x7 x8 0 (rtok r)).oc (rhead r) d := by
  unfold kernelRun0_A.sl.r_2
  simp only [View.readAt_eq_ld, harg2.read_unread, harg4.read_unread, harg5.read_unread]
  pointwise [k0_pay13]
  simp only [comp0_at i x0 x2 x3 x4 x5 x6 x7 x8 hq]
  rfl

/-- Group 0's probabilities, the four heads added. -/
theorem r_3_at (hq : QPad x0) (r : Fin 256) (l : Fin 128) :
    kernelRun0_A.sl.r_3 (F := Ideal) c i arg2 harg2 arg4 harg4 x0 x2 (ix2 r l) = ∑ h, (krow i x0 x2 x3 x4 x5 x6 x7 x8 0 r).pc h l := by
  unfold kernelRun0_A.sl.r_3
  simp only [View.readAt_eq_ld, harg2.read_unread, harg4.read_unread]
  pointwise [k0_pay14]
  simp only [comp0_at i x0 x2 x3 x4 x5 x6 x7 x8 hq]
  rw [Fin.sum_univ_four]
  simp only [row0, row1, row2, row3, rhead_hrow, rtok_hrow]

/-- Group 0's importance of selection block `j`, in lane `64 + j`. -/
theorem v85_at (hq : QPad x0) (r : Fin 256) (j : Fin 32) :
    kernelRun0_A.sl.v85 (F := Ideal) c i arg2 harg2 arg4 harg4 arg10 harg10 x0 x2 x8 (ix2 r ⟨64 + j.val, by omega⟩) = (krow i x0 x2 x3 x4 x5 x6 x7 x8 0 r).imp j := by
  unfold kernelRun0_A.sl.v85
  simp only [View.readAt_eq_ld, harg10.read_unread]
  pointwise [cst_26]
  simp only [r_3_at c i arg2 harg2 arg4 harg4 x0 x2 x3 x4 x5 x6 x7 x8 hq]
  rfl

theorem head1 (r : Fin 1024) : (⟨4 + r.val / 256, by omega⟩ : Fin 8) = ⟨4 * (1 : Fin 2).val + (rhead r).val, by simp; omega⟩ := Fin.ext (by simp)

theorem v698_at (hq : QPad x0) (r : Fin 1024) (l : Fin 128) :
    kernelRun0_A.sl.v698 (F := Ideal) c i arg2 harg2 arg4 harg4 x0 x2 (ix2 r l) = (krow i x0 x2 x3 x4 x5 x6 x7 x8 1 (rtok r)).pc (rhead r) l := by
  have e : ∀ l, kernelRun0_A.sl.r_11 (F := Ideal) c i arg2 harg2 arg4 harg4 x0 x2 (ix2 r l) = Attn.ex (Attn.cmBit (tok i (r.val % 256)))
      (fun x => Attn.dot ((krow i x0 x2 x3 x4 x5 x6 x7 x8 1 (rtok r)).q (rhead r)) ((krow i x0 x2 x3 x4 x5 x6 x7 x8 1 (rtok r)).kc x)) l := by
    intro l
    unfold kernelRun0_A.sl.r_11
    simp only [View.readAt_eq_ld, harg2.read_unread, harg4.read_unread]
    pointwise [k0_pay72, k0_pay71]
    simp only [named_mask, ofBits_ninf, v15_at]
    refine Eq.trans (b := Attn.ex (Attn.cmBit (tok i (r.val % 256)))
      (fun x => ∑ y : Fin 128, x0 (ix4 0 ⟨4 + r.val / 256, by omega⟩ ⟨r.val % 256, by omega⟩ y) * x2 (ix4 0 1 x y)) l) rfl ?_
    rw [head1]
    exact congrArg (fun s => Attn.ex (Attn.cmBit (tok i (r.val % 256))) s l) (funext fun x => dot_at x0 hq _ _ _)
  pointwise [kernelRun0_A.sl.v698, v697, v696, v695, v694, v693, cst_161]
  simp only [e]
  rfl

/-- Group 1's output. -/
theorem v702_at (hq : QPad x0) (r : Fin 1024) (d : Fin 64) :
    kernelRun0_A.sl.v702 (F := Ideal) c i arg2 harg2 arg4 harg4 arg5 harg5 x0 x2 x3 (ix2 r (d.castAdd 64)) = (krow i x0 x2 x3 x4 x5 x6 x7 x8 1 (rtok r)).oc (rhead r) d := by
  unfold kernelRun0_A.sl.v702 kernelRun0_A.sl.v701
  simp only [View.readAt_eq_ld, harg5.read_unread]
  pointwise [v699, cst_140]
  simp only [v698_at c i arg2 harg2 arg4 harg4 x0 x2 x3 x4 x5 x6 x7 x8 hq]
  rfl

/-- Group 1's importance of selection block `j`. -/
theorem v712_at (hq : QPad x0) (r : Fin 256) (j : Fin 32) :
    kernelRun0_A.sl.v712 (F := Ideal) c i arg2 harg2 arg4 harg4 arg10 harg10 x0 x2 x8 (ix2 r ⟨64 + j.val, by omega⟩) = (krow i x0 x2 x3 x4 x5 x6 x7 x8 1 r).imp j := by
  unfold kernelRun0_A.sl.v712
  simp only [View.readAt_eq_ld, harg10.read_unread]
  pointwise [v703, v704, v705, v706, v707, v708, v709, v710, cst_169]
  simp only [v698_at c i arg2 harg2 arg4 harg4 x0 x2 x3 x4 x5 x6 x7 x8 hq]
  simp only [row0, row1, row2, row3, rhead_hrow, rtok_hrow]
  exact Finset.sum_congr rfl fun x _ => by rw [Fin.sum_univ_four]; rfl

end Cert.KernelIdeal.Gen
end
-- ==== Proof.Rank.lean ====
module
public import proofs.«01_k».proof.Proof.Words
@[expose] public section
/-! # Counting the blocks ahead, word by word

The kernel counts with 32 compares, each adding one or nothing to a word; the word counts the blocks ahead. -/
noncomputable section
open Idealize.ShloMosaic
namespace Attn

/-- What the compare with one block adds to the count. -/
def stepW (sj sn : EReal) (j n : BitVec 32) : BitVec 32 :=
  Scalar.select (IntOp.ori (BitVec.ofBool (decide (sj < sn)))
    (IntOp.andi (BitVec.ofBool (decide (sn = sj))) (IntOp.cmpi CmpIPredicate.sgt j n))) 1#32 0#32

open Classical in
/-- One when block `n` is ahead of block `j`. -/
def ind (s : Fin 32 → EReal) (j : Fin 32) (n : ℕ) : ℕ := if h : n < 32 then (if ahead s j ⟨n, h⟩ then 1 else 0) else 0

theorem stepW_eq (s : Fin 32 → EReal) (j n : Fin 32) :
    stepW (s j) (s n) (BitVec.ofNat 32 j.val) (BitVec.ofNat 32 n.val) = BitVec.ofNat 32 (ind s j n.val) := by
  unfold stepW
  rw [w_sgt _ _ (by omega) (by omega)]
  have e : IntOp.ori (BitVec.ofBool (decide (s j < s n))) (IntOp.andi (BitVec.ofBool (decide (s n = s j))) (bit (n.val < j.val)))
      = bit (s j < s n ∨ (s n = s j ∧ n.val < j.val)) := by rw [← bit_or, ← bit_and]
  rw [e]
  unfold ind
  rw [dif_pos n.isLt]
  by_cases h : s j < s n ∨ (s n = s j ∧ n.val < j.val)
  · rw [if_pos (show ahead s j ⟨n.val, n.isLt⟩ from h)]
    rw [show bit (s j < s n ∨ (s n = s j ∧ n.val < j.val)) = 1#1 by unfold bit; rw [decide_eq_true h]; rfl]
    rfl
  · rw [if_neg (show ¬ ahead s j ⟨n.val, n.isLt⟩ from h)]
    rw [show bit (s j < s n ∨ (s n = s j ∧ n.val < j.val)) = 0#1 by unfold bit; rw [decide_eq_false h]; rfl]
    rfl

theorem rank_eq_sum (s : Fin 32 → EReal) (j : Fin 32) : rank s j = ∑ n ∈ Finset.range 32, ind s j n := by
  classical
  unfold rank
  rw [Finset.card_filter, Finset.sum_range]
  refine Finset.sum_congr rfl fun n _ => ?_
  unfold ind
  rw [dif_pos n.isLt]

/-- What is added to a query lane: nothing, or `-∞` in the lane of a block that is not seen. -/
def biasW (neg : EReal) (cnt j q : BitVec 32) (inr : BitVec 1) : EReal :=
  Scalar.select (IntOp.andi inr (IntOp.xori (IntOp.andi (IntOp.andi (IntOp.cmpi CmpIPredicate.slt cnt 16#32) inr)
    (IntOp.cmpi CmpIPredicate.sle (IntOp.muli j 64#32) q)) 1#1)) neg 0

theorem biasW_off (neg : EReal) (cnt j q : BitVec 32) : biasW neg cnt j q 0#1 = 0 := by
  unfold biasW
  rw [show IntOp.andi 0#1 _ = 0#1 from by show 0#1 &&& _ = _; simp]
  rfl

theorem biasW_on (neg : EReal) (cnt j t : ℕ) (hc : cnt < 2 ^ 31) (hj : j < 32) (ht : t < 2 ^ 31) :
    biasW neg (BitVec.ofNat 32 cnt) (BitVec.ofNat 32 j) (BitVec.ofNat 32 t) 1#1 = if cnt < 16 ∧ 64 * j ≤ t then 0 else neg := by
  unfold biasW
  rw [show (64#32) = BitVec.ofNat 32 64 from rfl, w_mul, w_sle _ _ (by omega) ht, w_slt _ 16 hc (by omega)]
  by_cases h1 : cnt < 16 <;> by_cases h2 : 64 * j ≤ t <;>
    simp [bit, h1, h2, show j * 64 = 64 * j by omega, IntOp.andi, IntOp.xori, Scalar.select]

/-- The kernel's test that a lane holds a block. -/
theorem lane_in (l : ℕ) (hl : l < 128) :
    IntOp.andi (IntOp.cmpi CmpIPredicate.sge (IntOp.subi (BitVec.ofNat 32 l) 64#32) 0#32)
      (IntOp.cmpi CmpIPredicate.slt (IntOp.subi (BitVec.ofNat 32 l) 64#32) 32#32) = bit (64 ≤ l ∧ l < 96) := by
  show IntOp.andi (BitVec.ofBool (BitVec.sle _ _)) (BitVec.ofBool (BitVec.slt _ _)) = _
  rw [BitVec.sle, BitVec.slt, show (64#32) = BitVec.ofNat 32 64 from rfl, toInt_sub l 64 (by omega) (by omega)]
  rw [← bit_and]
  congr 2
  · exact decide_eq_decide.mpr (by simp)
  · exact decide_eq_decide.mpr (by simp; omega)

end Attn
end
-- ==== Proof.KScore.lean ====
module
public import proofs.«01_k».proof.Proof.KRow
public import proofs.«01_k».proof.Proof.Words
public import proofs.«01_k».proof.Proof.KComp
public import proofs.«01_k».proof.Proof.Rank
@[expose] public section
/-! # The kernel's block scores and its count of the blocks ahead

Lane `64 + j` holds selection block `j`. -/
set_option maxRecDepth 16384
noncomputable section
open Idealize.ShloMosaic
namespace Cert.KernelIdeal.Gen
open Cert.KernelIdeal
open kernelRun0_A.sl

/-- One step of the kernel's count: the words that compare every lane with lane `off`. -/
def rankStep (S : FVec Ideal S256x128 .f32) (off : ℕ) (hs : S256x128.Slices ![0, off] S256x1) (n : BitVec 32) (acc : IVec S256x128 32) :
    IVec S256x128 32 :=
  addi acc (select (ori (cmpf .ogt (broadcastTo S256x128 (extractStridedSlice S256x1 ![0, off] S hs) broadcasts_S256x1_S256x128) S)
    (andi (cmpf .oeq (broadcastTo S256x128 (extractStridedSlice S256x1 ![0, off] S hs) broadcasts_S256x1_S256x128) S)
      (cmpi .sgt (subi kernelRun0_A.sl.v1 kernelRun0_A.sl.v16) (broadcast S256x128 n)))) (broadcast S256x128 1#32) (broadcast S256x128 0#32))

theorem lane64 (j : Fin 32) : IntOp.subi (BitVec.ofNat 32 (64 + j.val)) 64#32 = BitVec.ofNat 32 j.val := by
  rw [show (64#32) = BitVec.ofNat 32 64 from rfl, Attn.w_sub _ _ (by omega) (by omega)]
  congr 1; omega

theorem rankStep_at (S : FVec Ideal S256x128 .f32) (s : Fin 32 → EReal) (ρ : Fin 256)
    (h : ∀ j : Fin 32, S (ix2 ρ ⟨64 + j.val, by omega⟩) = s j) {j : Fin 32} (n : Fin 32) (hs) (acc : IVec S256x128 32) {a : ℕ}
    (ha : acc (ix2 ρ ⟨64 + j.val, by omega⟩) = BitVec.ofNat 32 a) :
    rankStep S (64 + n.val) hs (BitVec.ofNat 32 n.val) acc (ix2 ρ ⟨64 + j.val, by omega⟩) = BitVec.ofNat 32 (a + Attn.ind s j n.val) := by
  unfold rankStep
  pointwise [kernelRun0_A.sl.v1, kernelRun0_A.sl.v16]
  have hn : S (ix2 ρ ⟨64 + n.val, by omega⟩) = s n := h n
  rw [ha, lane64 j]
  refine Eq.trans (b := IntOp.addi (BitVec.ofNat 32 a) (Attn.stepW (S (ix2 ρ ⟨64 + j.val, by omega⟩)) (S (ix2 ρ ⟨64 + n.val, by omega⟩)) (BitVec.ofNat 32 j.val) (BitVec.ofNat 32 n.val))) rfl ?_
  rw [h j, hn, Attn.stepW_eq, Attn.w_add]
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole)

 (x0 : Vec Ideal S1x8x256x128 .bf16) (x1 : Vec Ideal S1x256x128 .f32) (x2 : Vec Ideal S1x2x128x128 .bf16) (x3 : Vec Ideal S1x2x128x128 .bf16) (x4 : Vec Ideal S1x2x2048x128 .bf16) (x5 : Vec Ideal S1x2x2048x128 .bf16) (x6 : Vec Ideal S1x2x2048x128 .bf16) (x7 : Vec Ideal S1x2x2048x128 .bf16) (x8 : Vec Ideal S128x128 .bf16)

theorem v4_at (ρ : Fin 256) (l : Fin 128) : kernelRun0_A.sl.v4 i (ix2 ρ l) = BitVec.ofNat 32 (tok i ρ.val) := by
  pointwise [kernelRun0_A.sl.v4, v3, v2, kernelRun0_A.sl.v0]
  rw [show (256#32) = BitVec.ofNat 32 256 from rfl, Attn.w_smul, Attn.w_add]
  unfold tok; congr 1; omega

theorem v17_at (ρ : Fin 256) (j : Fin 32) : subi kernelRun0_A.sl.v1 kernelRun0_A.sl.v16 (ix2 ρ ⟨64 + j.val, by omega⟩) = BitVec.ofNat 32 j.val := by
  pointwise [kernelRun0_A.sl.v1, kernelRun0_A.sl.v16]
  exact lane64 j

theorem v22_at (ρ : Fin 256) (l : Fin 128) : andi kernelRun0_A.sl.v19 kernelRun0_A.sl.v21 (ix2 ρ l) = Attn.bit (64 ≤ l.val ∧ l.val < 96) := by
  pointwise [kernelRun0_A.sl.v19, kernelRun0_A.sl.v21, kernelRun0_A.sl.v1, kernelRun0_A.sl.v16, kernelRun0_A.sl.v18, kernelRun0_A.sl.v20]
  exact Attn.lane_in _ l.isLt

theorem v734_at (ρ : Fin 256) (l : Fin 128) : andi kernelRun0_A.sl.v731 kernelRun0_A.sl.v733 (ix2 ρ l) = Attn.bit (64 ≤ l.val ∧ l.val < 96) := by
  pointwise [kernelRun0_A.sl.v731, kernelRun0_A.sl.v733, kernelRun0_A.sl.v1, kernelRun0_A.sl.v16, kernelRun0_A.sl.v715, kernelRun0_A.sl.v732]
  exact Attn.lane_in _ l.isLt

/-- Group 0's scores, in lanes 64 to 95. -/
theorem v109_at (hq : QPad x0) (ρ : Fin 256) (j : Fin 32) :
    kernelRun0_A.sl.v109 (F := Ideal) c i arg2 harg2 arg4 harg4 arg10 harg10 x0 x2 x8 (ix2 ρ ⟨64 + j.val, by omega⟩) = (krow i x0 x2 x3 x4 x5 x6 x7 x8 0 ρ).sc j := by
  have hi : (i 1).val < 8 := (i 1).isLt
  pointwise [kernelRun0_A.sl.v109, v102, v101, v108, v100, v99, v97, v96, v95, v94, v93, v92, v91, v90, v89, v87, v86, cst_28, cst_30, cst_33, v19, v20, v21, v18, v16, v1, v2, v3, v4, v0]
  rw [v85_at c i arg2 harg2 arg4 harg4 arg10 harg10 x0 x2 x3 x4 x5 x6 x7 x8 hq]
  exact Attn.word_score _ _ _ hi ρ.isLt j.isLt _ _ _ _

/-- Group 1's scores. -/
theorem v736_at (hq : QPad x0) (ρ : Fin 256) (j : Fin 32) :
    kernelRun0_A.sl.v736 (F := Ideal) c i arg2 harg2 arg4 harg4 arg10 harg10 x0 x2 x8 (ix2 ρ ⟨64 + j.val, by omega⟩) = (krow i x0 x2 x3 x4 x5 x6 x7 x8 1 ρ).sc j := by
  have hi : (i 1).val < 8 := (i 1).isLt
  pointwise [kernelRun0_A.sl.v736, v735,v733,v732,v731,v729,v728,v727,v726,v725,v724,v723,v722,v721,v720,v719,v718,v717,v716,v715,v714,v713,cst_173,cst_175,cst_178, v16, v1, v2, v3, v4, v0]
  rw [v712_at c i arg2 harg2 arg4 harg4 arg10 harg10 x0 x2 x3 x4 x5 x6 x7 x8 hq]
  exact Attn.word_score _ _ _ hi ρ.isLt j.isLt _ _ _ _

/-- Group 0's count after 31 blocks is 31 steps from zero. -/
theorem v513_eq : kernelRun0_A.sl.v513 (F := Ideal) c i arg2 harg2 arg4 harg4 arg10 harg10 x0 x2 x8 = rankStep (kernelRun0_A.sl.v109 (F := Ideal) c i arg2 harg2 arg4 harg4 arg10 harg10 x0 x2 x8) 94 slices_S256x128_o0_94_S256x1 30#32 (rankStep (kernelRun0_A.sl.v109 (F := Ideal) c i arg2 harg2 arg4 harg4 arg10 harg10 x0 x2 x8) 93 slices_S256x128_o0_93_S256x1 29#32 (rankStep (kernelRun0_A.sl.v109 (F := Ideal) c i arg2 harg2 arg4 harg4 arg10 harg10 x0 x2 x8) 92 slices_S256x128_o0_92_S256x1 28#32 (rankStep (kernelRun0_A.sl.v109 (F := Ideal) c i arg2 harg2 arg4 harg4 arg10 harg10 x0 x2 x8) 91 slices_S256x128_o0_91_S256x1 27#32 (rankStep (kernelRun0_A.sl.v109 (F := Ideal) c i arg2 harg2 arg4 harg4 arg10 harg10 x0 x2 x8) 90 slices_S256x128_o0_90_S256x1 26#32 (rankStep (kernelRun0_A.sl.v109 (F := Ideal) c i arg2 harg2 arg4 harg4 arg10 harg10 x0 x2 x8) 89 slices_S256x128_o0_89_S256x1 25#32 (rankStep (kernelRun0_A.sl.v109 (F := Ideal) c i arg2 harg2 arg4 harg4 arg10 harg10 x0 x2 x8) 88 slices_S256x128_o0_88_S256x1 24#32 (rankStep (kernelRun0_A.sl.v109 (F := Ideal) c i arg2 harg2 arg4 harg4 arg10 harg10 x0 x2 x8) 87 slices_S256x128_o0_87_S256x1 23#32 (rankStep (kernelRun0_A.sl.v109 (F := Ideal) c i arg2 harg2 arg4 harg4 arg10 harg10 x0 x2 x8) 86 slices_S256x128_o0_86_S256x1 22#32 (rankStep (kernelRun0_A.sl.v109 (F := Ideal) c i arg2 harg2 arg4 harg4 arg10 harg10 x0 x2 x8) 85 slices_S256x128_o0_85_S256x1 21#32 (rankStep (kernelRun0_A.sl.v109 (F := Ideal) c i arg2 harg2 arg4 harg4 arg10 harg10 x0 x2 x8) 84 slices_S256x128_o0_84_S256x1 20#32 (rankStep (kernelRun0_A.sl.v109 (F := Ideal) c i arg2 harg2 arg4 harg4 arg10 harg10 x0 x2 x8) 83 slices_S256x128_o0_83_S256x1 19#32 (rankStep (kernelRun0_A.sl.v109 (F := Ideal) c i arg2 harg2 arg4 harg4 arg10 harg10 x0 x2 x8) 82 slices_S256x128_o0_82_S256x1 18#32 (rankStep (kernelRun0_A.sl.v109 (F := Ideal) c i arg2 harg2 arg4 harg4 arg10 harg10 x0 x2 x8) 81 slices_S256x128_o0_81_S256x1 17#32 (rankStep (kernelRun0_A.sl.v109 (F := Ideal) c i arg2 harg2 arg4 harg4 arg10 harg10 x0 x2 x8) 80 slices_S256x128_o0_80_S256x1 16#32 (rankStep (kernelRun0_A.sl.v109 (F := Ideal) c i arg2 harg2 arg4 harg4 arg10 harg10 x0 x2 x8) 79 slices_S256x128_o0_79_S256x1 15#32 (rankStep (kernelRun0_A.sl.v109 (F := Ideal) c i arg2 harg2 arg4 harg4 arg10 harg10 x0 x2 x8) 78 slices_S256x128_o0_78_S256x1 14#32 (rankStep (kernelRun0_A.sl.v109 (F := Ideal) c i arg2 harg2 arg4 harg4 arg10 harg10 x0 x2 x8) 77 slices_S256x128_o0_77_S256x1 13#32 (rankStep (kernelRun0_A.sl.v109 (F := Ideal) c i arg2 harg2 arg4 harg4 arg10 harg10 x0 x2 x8) 76 slices_S256x128_o0_76_S256x1 12#32 (rankStep (kernelRun0_A.sl.v109 (F := Ideal) c i arg2 harg2 arg4 harg4 arg10 harg10 x0 x2 x8) 75 slices_S256x128_o0_75_S256x1 11#32 (rankStep (kernelRun0_A.sl.v109 (F := Ideal) c i arg2 harg2 arg4 harg4 arg10 harg10 x0 x2 x8) 74 slices_S256x128_o0_74_S256x1 10#32 (rankStep (kernelRun0_A.sl.v109 (F := Ideal) c i arg2 harg2 arg4 harg4 arg10 harg10 x0 x2 x8) 73 slices_S256x128_o0_73_S256x1 9#32 (rankStep (kernelRun0_A.sl.v109 (F := Ideal) c i arg2 harg2 arg4 harg4 arg10 harg10 x0 x2 x8) 72 slices_S256x128_o0_72_S256x1 8#32 (rankStep (kernelRun0_A.sl.v109 (F := Ideal) c i arg2 harg2 arg4 harg4 arg10 harg10 x0 x2 x8) 71 slices_S256x128_o0_71_S256x1 7#32 (rankStep (kernelRun0_A.sl.v109 (F := Ideal) c i arg2 harg2 arg4 harg4 arg10 harg10 x0 x2 x8) 70 slices_S256x128_o0_70_S256x1 6#32 (rankStep (kernelRun0_A.sl.v109 (F := Ideal) c i arg2 harg2 arg4 harg4 arg10 harg10 x0 x2 x8) 69 slices_S256x128_o0_69_S256x1 5#32 (rankStep (kernelRun0_A.sl.v109 (F := Ideal) c i arg2 harg2 arg4 harg4 arg10 harg10 x0 x2 x8) 68 slices_S256x128_o0_68_S256x1 4#32 (rankStep (kernelRun0_A.sl.v109 (F := Ideal) c i arg2 harg2 arg4 harg4 arg10 harg10 x0 x2 x8) 67 slices_S256x128_o0_67_S256x1 3#32 (rankStep (kernelRun0_A.sl.v109 (F := Ideal) c i arg2 harg2 arg4 harg4 arg10 harg10 x0 x2 x8) 66 slices_S256x128_o0_66_S256x1 2#32 (rankStep (kernelRun0_A.sl.v109 (F := Ideal) c i arg2 harg2 arg4 harg4 arg10 harg10 x0 x2 x8) 65 slices_S256x128_o0_65_S256x1 1#32 (rankStep (kernelRun0_A.sl.v109 (F := Ideal) c i arg2 harg2 arg4 harg4 arg10 harg10 x0 x2 x8) 64 slices_S256x128_o0_64_S256x1 0#32 kernelRun0_A.sl.v18)))))))))))))))))))))))))))))) := rfl

/-- Group 1's count after 29 blocks is 29 steps from zero. -/
theorem v1114_eq : kernelRun0_A.sl.v1114 (F := Ideal) c i arg2 harg2 arg4 harg4 arg10 harg10 x0 x2 x8 = rankStep (kernelRun0_A.sl.v736 (F := Ideal) c i arg2 harg2 arg4 harg4 arg10 harg10 x0 x2 x8) 92 slices_S256x128_o0_92_S256x1 28#32 (rankStep (kernelRun0_A.sl.v736 (F := Ideal) c i arg2 harg2 arg4 harg4 arg10 harg10 x0 x2 x8) 91 slices_S256x128_o0_91_S256x1 27#32 (rankStep (kernelRun0_A.sl.v736 (F := Ideal) c i arg2 harg2 arg4 harg4 arg10 harg10 x0 x2 x8) 90 slices_S256x128_o0_90_S256x1 26#32 (rankStep (kernelRun0_A.sl.v736 (F := Ideal) c i arg2 harg2 arg4 harg4 arg10 harg10 x0 x2 x8) 89 slices_S256x128_o0_89_S256x1 25#32 (rankStep (kernelRun0_A.sl.v736 (F := Ideal) c i arg2 harg2 arg4 harg4 arg10 harg10 x0 x2 x8) 88 slices_S256x128_o0_88_S256x1 24#32 (rankStep (kernelRun0_A.sl.v736 (F := Ideal) c i arg2 harg2 arg4 harg4 arg10 harg10 x0 x2 x8) 87 slices_S256x128_o0_87_S256x1 23#32 (rankStep (kernelRun0_A.sl.v736 (F := Ideal) c i arg2 harg2 arg4 harg4 arg10 harg10 x0 x2 x8) 86 slices_S256x128_o0_86_S256x1 22#32 (rankStep (kernelRun0_A.sl.v736 (F := Ideal) c i arg2 harg2 arg4 harg4 arg10 harg10 x0 x2 x8) 85 slices_S256x128_o0_85_S256x1 21#32 (rankStep (kernelRun0_A.sl.v736 (F := Ideal) c i arg2 harg2 arg4 harg4 arg10 harg10 x0 x2 x8) 84 slices_S256x128_o0_84_S256x1 20#32 (rankStep (kernelRun0_A.sl.v736 (F := Ideal) c i arg2 harg2 arg4 harg4 arg10 harg10 x0 x2 x8) 83 slices_S256x128_o0_83_S256x1 19#32 (rankStep (kernelRun0_A.sl.v736 (F := Ideal) c i arg2 harg2 arg4 harg4 arg10 harg10 x0 x2 x8) 82 slices_S256x128_o0_82_S256x1 18#32 (rankStep (kernelRun0_A.sl.v736 (F := Ideal) c i arg2 harg2 arg4 harg4 arg10 harg10 x0 x2 x8) 81 slices_S256x128_o0_81_S256x1 17#32 (rankStep (kernelRun0_A.sl.v736 (F := Ideal) c i arg2 harg2 arg4 harg4 arg10 harg10 x0 x2 x8) 80 slices_S256x128_o0_80_S256x1 16#32 (rankStep (kernelRun0_A.sl.v736 (F := Ideal) c i arg2 harg2 arg4 harg4 arg10 harg10 x0 x2 x8) 79 slices_S256x128_o0_79_S256x1 15#32 (rankStep (kernelRun0_A.sl.v736 (F := Ideal) c i arg2 harg2 arg4 harg4 arg10 harg10 x0 x2 x8) 78 slices_S256x128_o0_78_S256x1 14#32 (rankStep (kernelRun0_A.sl.v736 (F := Ideal) c i arg2 harg2 arg4 harg4 arg10 harg10 x0 x2 x8) 77 slices_S256x128_o0_77_S256x1 13#32 (rankStep (kernelRun0_A.sl.v736 (F := Ideal) c i arg2 harg2 arg4 harg4 arg10 harg10 x0 x2 x8) 76 slices_S256x128_o0_76_S256x1 12#32 (rankStep (kernelRun0_A.sl.v736 (F := Ideal) c i arg2 harg2 arg4 harg4 arg10 harg10 x0 x2 x8) 75 slices_S256x128_o0_75_S256x1 11#32 (rankStep (kernelRun0_A.sl.v736 (F := Ideal) c i arg2 harg2 arg4 harg4 arg10 harg10 x0 x2 x8) 74 slices_S256x128_o0_74_S256x1 10#32 (rankStep (kernelRun0_A.sl.v736 (F := Ideal) c i arg2 harg2 arg4 harg4 arg10 harg10 x0 x2 x8) 73 slices_S256x128_o0_73_S256x1 9#32 (rankStep (kernelRun0_A.sl.v736 (F := Ideal) c i arg2 harg2 arg4 harg4 arg10 harg10 x0 x2 x8) 72 slices_S256x128_o0_72_S256x1 8#32 (rankStep (kernelRun0_A.sl.v736 (F := Ideal) c i arg2 harg2 arg4 harg4 arg10 harg10 x0 x2 x8) 71 slices_S256x128_o0_71_S256x1 7#32 (rankStep (kernelRun0_A.sl.v736 (F := Ideal) c i arg2 harg2 arg4 harg4 arg10 harg10 x0 x2 x8) 70 slices_S256x128_o0_70_S256x1 6#32 (rankStep (kernelRun0_A.sl.v736 (F := Ideal) c i arg2 harg2 arg4 harg4 arg10 harg10 x0 x2 x8) 69 slices_S256x128_o0_69_S256x1 5#32 (rankStep (kernelRun0_A.sl.v736 (F := Ideal) c i arg2 harg2 arg4 harg4 arg10 harg10 x0 x2 x8) 68 slices_S256x128_o0_68_S256x1 4#32 (rankStep (kernelRun0_A.sl.v736 (F := Ideal) c i arg2 harg2 arg4 harg4 arg10 harg10 x0 x2 x8) 67 slices_S256x128_o0_67_S256x1 3#32 (rankStep (kernelRun0_A.sl.v736 (F := Ideal) c i arg2 harg2 arg4 harg4 arg10 harg10 x0 x2 x8) 66 slices_S256x128_o0_66_S256x1 2#32 (rankStep (kernelRun0_A.sl.v736 (F := Ideal) c i arg2 harg2 arg4 harg4 arg10 harg10 x0 x2 x8) 65 slices_S256x128_o0_65_S256x1 1#32 (rankStep (kernelRun0_A.sl.v736 (F := Ideal) c i arg2 harg2 arg4 harg4 arg10 harg10 x0 x2 x8) 64 slices_S256x128_o0_64_S256x1 0#32 kernelRun0_A.sl.v715)))))))))))))))))))))))))))) := rfl

theorem v513_at (s : Fin 32 → EReal) (ρ : Fin 256) (h : ∀ j : Fin 32, kernelRun0_A.sl.v109 (F := Ideal) c i arg2 harg2 arg4 harg4 arg10 harg10 x0 x2 x8 (ix2 ρ ⟨64 + j.val, by omega⟩) = s j) (j : Fin 32) :
    kernelRun0_A.sl.v513 (F := Ideal) c i arg2 harg2 arg4 harg4 arg10 harg10 x0 x2 x8 (ix2 ρ ⟨64 + j.val, by omega⟩) = BitVec.ofNat 32 (0 + Attn.ind s j 0 + Attn.ind s j 1 + Attn.ind s j 2 + Attn.ind s j 3 + Attn.ind s j 4 + Attn.ind s j 5 + Attn.ind s j 6 + Attn.ind s j 7 + Attn.ind s j 8 + Attn.ind s j 9 + Attn.ind s j 10 + Attn.ind s j 11 + Attn.ind s j 12 + Attn.ind s j 13 + Attn.ind s j 14 + Attn.ind s j 15 + Attn.ind s j 16 + Attn.ind s j 17 + Attn.ind s j 18 + Attn.ind s j 19 + Attn.ind s j 20 + Attn.ind s j 21 + Attn.ind s j 22 + Attn.ind s j 23 + Attn.ind s j 24 + Attn.ind s j 25 + Attn.ind s j 26 + Attn.ind s j 27 + Attn.ind s j 28 + Attn.ind s j 29 + Attn.ind s j 30) := by
  rw [v513_eq]
  exact rankStep_at _ _ _ h ⟨30, by omega⟩ _ _ (rankStep_at _ _ _ h ⟨29, by omega⟩ _ _ (rankStep_at _ _ _ h ⟨28, by omega⟩ _ _ (rankStep_at _ _ _ h ⟨27, by omega⟩ _ _ (rankStep_at _ _ _ h ⟨26, by omega⟩ _ _ (rankStep_at _ _ _ h ⟨25, by omega⟩ _ _ (rankStep_at _ _ _ h ⟨24, by omega⟩ _ _ (rankStep_at _ _ _ h ⟨23, by omega⟩ _ _ (rankStep_at _ _ _ h ⟨22, by omega⟩ _ _ (rankStep_at _ _ _ h ⟨21, by omega⟩ _ _ (rankStep_at _ _ _ h ⟨20, by omega⟩ _ _ (rankStep_at _ _ _ h ⟨19, by omega⟩ _ _ (rankStep_at _ _ _ h ⟨18, by omega⟩ _ _ (rankStep_at _ _ _ h ⟨17, by omega⟩ _ _ (rankStep_at _ _ _ h ⟨16, by omega⟩ _ _ (rankStep_at _ _ _ h ⟨15, by omega⟩ _ _ (rankStep_at _ _ _ h ⟨14, by omega⟩ _ _ (rankStep_at _ _ _ h ⟨13, by omega⟩ _ _ (rankStep_at _ _ _ h ⟨12, by omega⟩ _ _ (rankStep_at _ _ _ h ⟨11, by omega⟩ _ _ (rankStep_at _ _ _ h ⟨10, by omega⟩ _ _ (rankStep_at _ _ _ h ⟨9, by omega⟩ _ _ (rankStep_at _ _ _ h ⟨8, by omega⟩ _ _ (rankStep_at _ _ _ h ⟨7, by omega⟩ _ _ (rankStep_at _ _ _ h ⟨6, by omega⟩ _ _ (rankStep_at _ _ _ h ⟨5, by omega⟩ _ _ (rankStep_at _ _ _ h ⟨4, by omega⟩ _ _ (rankStep_at _ _ _ h ⟨3, by omega⟩ _ _ (rankStep_at _ _ _ h ⟨2, by omega⟩ _ _ (rankStep_at _ _ _ h ⟨1, by omega⟩ _ _ (rankStep_at _ _ _ h ⟨0, by omega⟩ _ _ (rfl)))))))))))))))))))))))))))))))

theorem v1114_at (s : Fin 32 → EReal) (ρ : Fin 256) (h : ∀ j : Fin 32, kernelRun0_A.sl.v736 (F := Ideal) c i arg2 harg2 arg4 harg4 arg10 harg10 x0 x2 x8 (ix2 ρ ⟨64 + j.val, by omega⟩) = s j) (j : Fin 32) :
    kernelRun0_A.sl.v1114 (F := Ideal) c i arg2 harg2 arg4 harg4 arg10 harg10 x0 x2 x8 (ix2 ρ ⟨64 + j.val, by omega⟩) = BitVec.ofNat 32 (0 + Attn.ind s j 0 + Attn.ind s j 1 + Attn.ind s j 2 + Attn.ind s j 3 + Attn.ind s j 4 + Attn.ind s j 5 + Attn.ind s j 6 + Attn.ind s j 7 + Attn.ind s j 8 + Attn.ind s j 9 + Attn.ind s j 10 + Attn.ind s j 11 + Attn.ind s j 12 + Attn.ind s j 13 + Attn.ind s j 14 + Attn.ind s j 15 + Attn.ind s j 16 + Attn.ind s j 17 + Attn.ind s j 18 + Attn.ind s j 19 + Attn.ind s j 20 + Attn.ind s j 21 + Attn.ind s j 22 + Attn.ind s j 23 + Attn.ind s j 24 + Attn.ind s j 25 + Attn.ind s j 26 + Attn.ind s j 27 + Attn.ind s j 28) := by
  rw [v1114_eq]
  exact rankStep_at _ _ _ h ⟨28, by omega⟩ _ _ (rankStep_at _ _ _ h ⟨27, by omega⟩ _ _ (rankStep_at _ _ _ h ⟨26, by omega⟩ _ _ (rankStep_at _ _ _ h ⟨25, by omega⟩ _ _ (rankStep_at _ _ _ h ⟨24, by omega⟩ _ _ (rankStep_at _ _ _ h ⟨23, by omega⟩ _ _ (rankStep_at _ _ _ h ⟨22, by omega⟩ _ _ (rankStep_at _ _ _ h ⟨21, by omega⟩ _ _ (rankStep_at _ _ _ h ⟨20, by omega⟩ _ _ (rankStep_at _ _ _ h ⟨19, by omega⟩ _ _ (rankStep_at _ _ _ h ⟨18, by omega⟩ _ _ (rankStep_at _ _ _ h ⟨17, by omega⟩ _ _ (rankStep_at _ _ _ h ⟨16, by omega⟩ _ _ (rankStep_at _ _ _ h ⟨15, by omega⟩ _ _ (rankStep_at _ _ _ h ⟨14, by omega⟩ _ _ (rankStep_at _ _ _ h ⟨13, by omega⟩ _ _ (rankStep_at _ _ _ h ⟨12, by omega⟩ _ _ (rankStep_at _ _ _ h ⟨11, by omega⟩ _ _ (rankStep_at _ _ _ h ⟨10, by omega⟩ _ _ (rankStep_at _ _ _ h ⟨9, by omega⟩ _ _ (rankStep_at _ _ _ h ⟨8, by omega⟩ _ _ (rankStep_at _ _ _ h ⟨7, by omega⟩ _ _ (rankStep_at _ _ _ h ⟨6, by omega⟩ _ _ (rankStep_at _ _ _ h ⟨5, by omega⟩ _ _ (rankStep_at _ _ _ h ⟨4, by omega⟩ _ _ (rankStep_at _ _ _ h ⟨3, by omega⟩ _ _ (rankStep_at _ _ _ h ⟨2, by omega⟩ _ _ (rankStep_at _ _ _ h ⟨1, by omega⟩ _ _ (rankStep_at _ _ _ h ⟨0, by omega⟩ _ _ (rfl)))))))))))))))))))))))))))))

end Cert.KernelIdeal.Gen
end
-- ==== Proof.KSel.lean ====
module
public import proofs.«01_k».proof.Proof.KRow
public import proofs.«01_k».proof.Proof.Words
public import proofs.«01_k».proof.Proof.KScore
@[expose] public section
/-! # The kernel's query rows of the selected branch

Lanes below 64 hold the query; lane `64 + j` holds nothing where selection block `j` is seen and `-∞` where it is not. -/
set_option maxRecDepth 16384
noncomputable section
open Idealize.ShloMosaic
namespace Cert.KernelIdeal.Gen
open Cert.KernelIdeal
open kernelRun0_A.sl

/-- What a lane from 64 on of a query row is given: `-∞` in the lane of a block that is not picked or lies after the token. -/
def biasOf (s : Fin 32 → EReal) (t : ℕ) (j : Fin 64) : EReal :=
  if h : j.val < 32 then (if Attn.rank s ⟨j.val, h⟩ < 16 ∧ 64 * j.val ≤ t then 0 else ⊥) else 0

/-- A query row with its block lanes times a key row whose lanes from 64 on say its block. -/
theorem sum_onehot (x y : Fin 128 → EReal) (b : Fin 64) (hy : ∀ j : Fin 64, y (j.natAdd 64) = if j = b then 1 else 0) :
    ∑ l, x l * y l = Attn.dot (fun d => x (d.castAdd 64)) (fun d => y (d.castAdd 64)) + x (b.natAdd 64) := by
  rw [show (∑ l : Fin 128, x l * y l) = ∑ l : Fin (64 + 64), x l * y l from rfl, Fin.sum_univ_add]
  congr 1
  rw [Finset.sum_eq_single b]
  · rw [hy, if_pos rfl, mul_one]
  · intro j _ hj; rw [hy, if_neg hj, mul_zero]
  · intro h; exact absurd (Finset.mem_univ _) h

/-- For a key not after the token the lanes from 64 on put `-∞` exactly where the block is not picked. -/
theorem add_biasOf (s : Fin 32 → EReal) (t : ℕ) (k : Fin 2048) (x : EReal) (hk : k.val ≤ t) :
    x + biasOf s t ⟨k.val / 64, by omega⟩ = Scalar.select (Attn.selBit s t k) x ⊥ := by
  unfold biasOf Attn.selBit Attn.pick
  rw [dif_pos (show k.val / 64 < 32 by omega), Attn.bit_and]
  by_cases h : Attn.rank s ⟨k.val / 64, by omega⟩ < 16
  · rw [if_pos ⟨h, (show 64 * (k.val / 64) ≤ t by omega)⟩, add_zero, Attn.bit_congr (q := True) (by simp [h, hk])]; rfl
  · rw [if_neg (by simp [h]), EReal.add_bot, Attn.bit_congr (q := False) (by simp [h])]; rfl

/-- Four stacked copies of a token function, read at a row. -/
theorem four (f : Fin 256 → EReal) (r : Fin 1024) :
    (if h : r.val < 256 then f ⟨r.val, h⟩ else if h : r.val - 256 < 256 then f ⟨r.val - 256, h⟩
      else if h : r.val - 256 - 256 < 256 then f ⟨r.val - 256 - 256, h⟩ else f ⟨r.val - 256 - 256 - 256, by omega⟩) = f (rtok r) := by
  split_ifs <;> exact congrArg f (Fin.ext (by simp only [rtok]; omega))

theorem pay44_at (v17 : IVec S256x128 32) (v22 : IVec S256x128 1) (v4 : IVec S256x128 32) (v53 : FVec Ideal S1024x128 .bf16) (v109 : FVec Ideal S256x128 .f32) (v513 : IVec S256x128 32) (v516 : IVec S256x128 1) (v517 : FVec Ideal S256x128 .f32) (r : Fin 1024) (l : Fin 128) :
    k0_pay44 (F := Ideal) v4 v17 v22 v53 v109 v513 v516 v517 (ix2 r l) = v53 (ix2 r l) + Attn.biasW ⊥
      (IntOp.addi (v513 (ix2 (rtok r) l)) (Scalar.select (IntOp.ori (v516 (ix2 (rtok r) l))
        (IntOp.andi (BitVec.ofBool (decide (v517 (ix2 (rtok r) l) = v109 (ix2 (rtok r) l)))) (IntOp.cmpi CmpIPredicate.sgt (v17 (ix2 (rtok r) l)) 31#32))) 1#32 0#32))
      (v17 (ix2 (rtok r) l)) (v4 (ix2 (rtok r) l)) (v22 (ix2 (rtok r) l)) := by
  pointwise [k0_pay44]
  simp only [named_bias]
  congr 1
  exact four (fun ρ => Attn.biasW ⊥ (IntOp.addi (v513 (ix2 ρ l)) (Scalar.select (IntOp.ori (v516 (ix2 ρ l))
        (IntOp.andi (BitVec.ofBool (decide (v517 (ix2 ρ l) = v109 (ix2 ρ l)))) (IntOp.cmpi CmpIPredicate.sgt (v17 (ix2 ρ l)) 31#32))) 1#32 0#32))
      (v17 (ix2 ρ l)) (v4 (ix2 ρ l)) (v22 (ix2 ρ l))) r

theorem pay102_at (v4 v17 : IVec S256x128 32) (v22 : IVec S256x128 1) (v680 : FVec Ideal S1024x128 .bf16) (v736 : FVec Ideal S256x128 .f32) (v1114 : IVec S256x128 32) (v1123 : IVec S256x128 1) (r : Fin 1024) (l : Fin 128) :
    k0_pay102 (F := Ideal) v4 v17 v22 v680 v736 v1114 v1123 1#32 0#32 (ix2 r l) = v680 (ix2 r l) + Attn.biasW ⊥
      (IntOp.addi (IntOp.addi (IntOp.addi (v1114 (ix2 (rtok r) l)) (Scalar.select (v1123 (ix2 (rtok r) l)) 1#32 0#32))
        (Attn.stepW (v736 (ix2 (rtok r) l)) (v736 (ix2 (rtok r) 94)) (v17 (ix2 (rtok r) l)) 30#32))
        (Attn.stepW (v736 (ix2 (rtok r) l)) (v736 (ix2 (rtok r) 95)) (v17 (ix2 (rtok r) l)) 31#32))
      (v17 (ix2 (rtok r) l)) (v4 (ix2 (rtok r) l)) (v22 (ix2 (rtok r) l)) := by
  pointwise [k0_pay102]
  simp only [named_bias]
  congr 1
  exact four (fun ρ => Attn.biasW ⊥
      (IntOp.addi (IntOp.addi (IntOp.addi (v1114 (ix2 ρ l)) (Scalar.select (v1123 (ix2 ρ l)) 1#32 0#32))
        (Attn.stepW (v736 (ix2 ρ l)) (v736 (ix2 ρ 94)) (v17 (ix2 ρ l)) 30#32))
        (Attn.stepW (v736 (ix2 ρ l)) (v736 (ix2 ρ 95)) (v17 (ix2 ρ l)) 31#32))
      (v17 (ix2 ρ l)) (v4 (ix2 ρ l)) (v22 (ix2 ρ l))) r
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole)

 (x0 : Vec Ideal S1x8x256x128 .bf16) (x1 : Vec Ideal S1x256x128 .f32) (x2 : Vec Ideal S1x2x128x128 .bf16) (x3 : Vec Ideal S1x2x128x128 .bf16) (x4 : Vec Ideal S1x2x2048x128 .bf16) (x5 : Vec Ideal S1x2x2048x128 .bf16) (x6 : Vec Ideal S1x2x2048x128 .bf16) (x7 : Vec Ideal S1x2x2048x128 .bf16) (x8 : Vec Ideal S128x128 .bf16)

theorem r_1_at (r : Fin 1024) (l : Fin 128) : kernelRun0_A.sl.r_1 (F := Ideal) c arg2 harg2 x0 (ix2 r l) = x0 (ix4 0 ⟨4 * (0 : Fin 2).val + (rhead r).val, by simp; omega⟩ (rtok r) l) := by
  unfold kernelRun0_A.sl.r_1
  simp only [View.readAt_eq_ld, harg2.read_unread]
  pointwise [k0_pay11]
theorem r_10_at (r : Fin 1024) (l : Fin 128) : kernelRun0_A.sl.r_10 (F := Ideal) c arg2 harg2 x0 (ix2 r l) = x0 (ix4 0 ⟨4 * (1 : Fin 2).val + (rhead r).val, by simp; omega⟩ (rtok r) l) := by
  unfold kernelRun0_A.sl.r_10
  simp only [View.readAt_eq_ld, harg2.read_unread]
  pointwise [k0_pay71]

/-- Group 0's count of all 32 blocks is the rank. -/
theorem count0_at (s : Fin 32 → EReal) (ρ : Fin 256) (h : ∀ j : Fin 32, kernelRun0_A.sl.v109 (F := Ideal) c i arg2 harg2 arg4 harg4 arg10 harg10 x0 x2 x8 (ix2 ρ ⟨64 + j.val, by omega⟩) = s j) (j : Fin 32) :
    (IntOp.addi (kernelRun0_A.sl.v513 (F := Ideal) c i arg2 harg2 arg4 harg4 arg10 harg10 x0 x2 x8 (ix2 ρ ⟨64 + j.val, by omega⟩)) (Scalar.select (IntOp.ori (kernelRun0_A.sl.v516 (F := Ideal) c i arg2 harg2 arg4 harg4 arg10 harg10 x0 x2 x8 (ix2 ρ ⟨64 + j.val, by omega⟩))
        (IntOp.andi (BitVec.ofBool (decide (kernelRun0_A.sl.v515 (F := Ideal) c i arg2 harg2 arg4 harg4 arg10 harg10 x0 x2 x8 (ix2 ρ ⟨64 + j.val, by omega⟩) = kernelRun0_A.sl.v109 (F := Ideal) c i arg2 harg2 arg4 harg4 arg10 harg10 x0 x2 x8 (ix2 ρ ⟨64 + j.val, by omega⟩)))) (IntOp.cmpi CmpIPredicate.sgt (subi kernelRun0_A.sl.v1 kernelRun0_A.sl.v16 (ix2 ρ ⟨64 + j.val, by omega⟩)) 31#32))) 1#32 0#32))
      = BitVec.ofNat 32 (Attn.rank s j) := by
  rw [v513_at (s := s) (h := h), v17_at, Attn.rank_eq_sum]
  pointwise [kernelRun0_A.sl.v516, kernelRun0_A.sl.v515, v514]
  refine Eq.trans (b := IntOp.addi _ (Attn.stepW (kernelRun0_A.sl.v109 (F := Ideal) c i arg2 harg2 arg4 harg4 arg10 harg10 x0 x2 x8 (ix2 ρ ⟨64 + j.val, by omega⟩)) (kernelRun0_A.sl.v109 (F := Ideal) c i arg2 harg2 arg4 harg4 arg10 harg10 x0 x2 x8 (ix2 ρ ⟨64 + (⟨31, by omega⟩ : Fin 32).val, by omega⟩)) (BitVec.ofNat 32 j.val) (BitVec.ofNat 32 (⟨31, by omega⟩ : Fin 32).val))) rfl ?_
  rw [h j, h ⟨31, by omega⟩, Attn.stepW_eq, Attn.w_add]
  simp only [Finset.sum_range_succ, Finset.sum_range_zero, zero_add]

theorem count1_at (s : Fin 32 → EReal) (ρ : Fin 256) (h : ∀ j : Fin 32, kernelRun0_A.sl.v736 (F := Ideal) c i arg2 harg2 arg4 harg4 arg10 harg10 x0 x2 x8 (ix2 ρ ⟨64 + j.val, by omega⟩) = s j) (j : Fin 32) :
    (IntOp.addi (IntOp.addi (IntOp.addi (kernelRun0_A.sl.v1114 (F := Ideal) c i arg2 harg2 arg4 harg4 arg10 harg10 x0 x2 x8 (ix2 ρ ⟨64 + j.val, by omega⟩)) (Scalar.select (kernelRun0_A.sl.v1123 (F := Ideal) c i arg2 harg2 arg4 harg4 arg10 harg10 x0 x2 x8 (ix2 ρ ⟨64 + j.val, by omega⟩)) 1#32 0#32))
        (Attn.stepW (kernelRun0_A.sl.v736 (F := Ideal) c i arg2 harg2 arg4 harg4 arg10 harg10 x0 x2 x8 (ix2 ρ ⟨64 + j.val, by omega⟩)) (kernelRun0_A.sl.v736 (F := Ideal) c i arg2 harg2 arg4 harg4 arg10 harg10 x0 x2 x8 (ix2 ρ 94)) (subi kernelRun0_A.sl.v1 kernelRun0_A.sl.v16 (ix2 ρ ⟨64 + j.val, by omega⟩)) 30#32))
        (Attn.stepW (kernelRun0_A.sl.v736 (F := Ideal) c i arg2 harg2 arg4 harg4 arg10 harg10 x0 x2 x8 (ix2 ρ ⟨64 + j.val, by omega⟩)) (kernelRun0_A.sl.v736 (F := Ideal) c i arg2 harg2 arg4 harg4 arg10 harg10 x0 x2 x8 (ix2 ρ 95)) (subi kernelRun0_A.sl.v1 kernelRun0_A.sl.v16 (ix2 ρ ⟨64 + j.val, by omega⟩)) 31#32))
      = BitVec.ofNat 32 (Attn.rank s j) := by
  rw [v1114_at (s := s) (h := h), v17_at, Attn.rank_eq_sum]
  pointwise [kernelRun0_A.sl.v1123, v1122, v1121, v1120, v1119, v1117, v1116, v1115, kernelRun0_A.sl.v1, kernelRun0_A.sl.v16]
  rw [lane64 j]
  refine Eq.trans (b := IntOp.addi (IntOp.addi (IntOp.addi _
    (Attn.stepW (kernelRun0_A.sl.v736 (F := Ideal) c i arg2 harg2 arg4 harg4 arg10 harg10 x0 x2 x8 (ix2 ρ ⟨64 + j.val, by omega⟩)) (kernelRun0_A.sl.v736 (F := Ideal) c i arg2 harg2 arg4 harg4 arg10 harg10 x0 x2 x8 (ix2 ρ ⟨64 + (⟨29, by omega⟩ : Fin 32).val, by omega⟩)) (BitVec.ofNat 32 j.val) (BitVec.ofNat 32 (⟨29, by omega⟩ : Fin 32).val)))
    (Attn.stepW (kernelRun0_A.sl.v736 (F := Ideal) c i arg2 harg2 arg4 harg4 arg10 harg10 x0 x2 x8 (ix2 ρ ⟨64 + j.val, by omega⟩)) (kernelRun0_A.sl.v736 (F := Ideal) c i arg2 harg2 arg4 harg4 arg10 harg10 x0 x2 x8 (ix2 ρ ⟨64 + (⟨30, by omega⟩ : Fin 32).val, by omega⟩)) (BitVec.ofNat 32 j.val) (BitVec.ofNat 32 (⟨30, by omega⟩ : Fin 32).val)))
    (Attn.stepW (kernelRun0_A.sl.v736 (F := Ideal) c i arg2 harg2 arg4 harg4 arg10 harg10 x0 x2 x8 (ix2 ρ ⟨64 + j.val, by omega⟩)) (kernelRun0_A.sl.v736 (F := Ideal) c i arg2 harg2 arg4 harg4 arg10 harg10 x0 x2 x8 (ix2 ρ ⟨64 + (⟨31, by omega⟩ : Fin 32).val, by omega⟩)) (BitVec.ofNat 32 j.val) (BitVec.ofNat 32 (⟨31, by omega⟩ : Fin 32).val))) rfl ?_
  rw [h j, h ⟨29, by omega⟩, h ⟨30, by omega⟩, h ⟨31, by omega⟩, Attn.stepW_eq, Attn.stepW_eq, Attn.stepW_eq, Attn.w_add, Attn.w_add, Attn.w_add]
  simp only [Finset.sum_range_succ, Finset.sum_range_zero, zero_add]

theorem rank_lt (s : Fin 32 → EReal) (j : Fin 32) : Attn.rank s j < 2 ^ 31 := by
  have : Attn.rank s j ≤ 32 := by unfold Attn.rank; exact (Finset.card_le_univ _).trans (by simp)
  omega

theorem biasW_zero (l : Fin 128) (h : ¬ (64 ≤ l.val ∧ l.val < 96)) (a b c : BitVec 32) (n : EReal) :
    Attn.biasW n a b c (Attn.bit (64 ≤ l.val ∧ l.val < 96)) = 0 := by
  rw [show Attn.bit (64 ≤ l.val ∧ l.val < 96) = 0#1 by unfold Attn.bit; rw [decide_eq_false h]; rfl]
  exact Attn.biasW_off _ _ _ _

/-- Group 0's query rows with the block lanes. -/
abbrev qsel0 := k0_pay44 (F := Ideal) (kernelRun0_A.sl.v4 i) (subi kernelRun0_A.sl.v1 kernelRun0_A.sl.v16) (andi kernelRun0_A.sl.v19 kernelRun0_A.sl.v21) (kernelRun0_A.sl.r_1 (F := Ideal) c arg2 harg2 x0) (kernelRun0_A.sl.v109 (F := Ideal) c i arg2 harg2 arg4 harg4 arg10 harg10 x0 x2 x8) (kernelRun0_A.sl.v513 (F := Ideal) c i arg2 harg2 arg4 harg4 arg10 harg10 x0 x2 x8) (kernelRun0_A.sl.v516 (F := Ideal) c i arg2 harg2 arg4 harg4 arg10 harg10 x0 x2 x8) (kernelRun0_A.sl.v515 (F := Ideal) c i arg2 harg2 arg4 harg4 arg10 harg10 x0 x2 x8)
/-- Group 1's. -/
abbrev qsel1 := kernelRun0_A.sl.r_12 (F := Ideal) c i arg2 harg2 arg4 harg4 arg10 harg10 x0 x2 x8

theorem qsel0_lo (r : Fin 1024) (d : Fin 64) :
    qsel0 c i arg2 harg2 arg4 harg4 arg10 harg10 x0 x2 x8 (ix2 r (d.castAdd 64)) = (krow i x0 x2 x3 x4 x5 x6 x7 x8 0 (rtok r)).q (rhead r) d := by
  unfold qsel0
  rw [pay44_at, r_1_at, v22_at, biasW_zero (d.castAdd 64) (by simp), add_zero]
  rfl

theorem qsel0_hi (hq : QPad x0) (r : Fin 1024) (j : Fin 64) :
    qsel0 c i arg2 harg2 arg4 harg4 arg10 harg10 x0 x2 x8 (ix2 r (j.natAdd 64)) = biasOf (krow i x0 x2 x3 x4 x5 x6 x7 x8 0 (rtok r)).sc (tok i (rtok r).val) j := by
  have hi : (i 1).val < 8 := (i 1).isLt
  unfold qsel0
  rw [pay44_at, r_1_at, hq, zero_add]
  unfold biasOf
  by_cases h : j.val < 32
  · rw [dif_pos h]
    have e : (j.natAdd 64 : Fin 128) = ⟨64 + (⟨j.val, h⟩ : Fin 32).val, by omega⟩ := rfl
    rw [e, count0_at (s := (krow i x0 x2 x3 x4 x5 x6 x7 x8 0 (rtok r)).sc) (h := fun j => v109_at c i arg2 harg2 arg4 harg4 arg10 harg10 x0 x2 x3 x4 x5 x6 x7 x8 hq (rtok r) j), v17_at, v4_at, v22_at,
      show Attn.bit (64 ≤ (⟨64 + (⟨j.val, h⟩ : Fin 32).val, by omega⟩ : Fin 128).val ∧ (⟨64 + (⟨j.val, h⟩ : Fin 32).val, by omega⟩ : Fin 128).val < 96) = 1#1 by
        unfold Attn.bit; rw [decide_eq_true (by simp; omega)]; rfl,
      Attn.biasW_on _ _ _ _ (rank_lt _ _) h (by unfold tok; simp only [rtok]; omega)]
  · rw [dif_neg h, v22_at, biasW_zero (j.natAdd 64) (by simp; omega)]

theorem qsel1_lo (r : Fin 1024) (d : Fin 64) :
    qsel1 c i arg2 harg2 arg4 harg4 arg10 harg10 x0 x2 x8 (ix2 r (d.castAdd 64)) = (krow i x0 x2 x3 x4 x5 x6 x7 x8 1 (rtok r)).q (rhead r) d := by
  unfold qsel1 kernelRun0_A.sl.r_12
  rw [pay102_at, r_10_at, v22_at, biasW_zero (d.castAdd 64) (by simp), add_zero]
  rfl

theorem qsel1_hi (hq : QPad x0) (r : Fin 1024) (j : Fin 64) :
    qsel1 c i arg2 harg2 arg4 harg4 arg10 harg10 x0 x2 x8 (ix2 r (j.natAdd 64)) = biasOf (krow i x0 x2 x3 x4 x5 x6 x7 x8 1 (rtok r)).sc (tok i (rtok r).val) j := by
  have hi : (i 1).val < 8 := (i 1).isLt
  unfold qsel1 kernelRun0_A.sl.r_12
  rw [pay102_at, r_10_at, hq, zero_add]
  unfold biasOf
  by_cases h : j.val < 32
  · rw [dif_pos h]
    have e : (j.natAdd 64 : Fin 128) = ⟨64 + (⟨j.val, h⟩ : Fin 32).val, by omega⟩ := rfl
    rw [e, count1_at (s := (krow i x0 x2 x3 x4 x5 x6 x7 x8 1 (rtok r)).sc) (h := fun j => v736_at c i arg2 harg2 arg4 harg4 arg10 harg10 x0 x2 x3 x4 x5 x6 x7 x8 hq (rtok r) j), v17_at, v4_at, v22_at,
      show Attn.bit (64 ≤ (⟨64 + (⟨j.val, h⟩ : Fin 32).val, by omega⟩ : Fin 128).val ∧ (⟨64 + (⟨j.val, h⟩ : Fin 32).val, by omega⟩ : Fin 128).val < 96) = 1#1 by
        unfold Attn.bit; rw [decide_eq_true (by simp; omega)]; rfl,
      Attn.biasW_on _ _ _ _ (rank_lt _ _) h (by unfold tok; simp only [rtok]; omega)]
  · rw [dif_neg h, v22_at, biasW_zero (j.natAdd 64) (by simp; omega)]

end Cert.KernelIdeal.Gen
end
-- ==== Proof.KLoop.lean ====
module
public import proofs.«01_k».proof.Proof.KRow
public import proofs.«01_k».proof.Proof.Words
@[expose] public section
/-! # One chunk of the running softmax

The kernel's loop bodies on a query block and one chunk of keys, as the steps of the running maximum, sum and weighted sum. -/
set_option maxRecDepth 16384
noncomputable section
open Idealize.ShloMosaic
namespace Cert.KernelIdeal.Gen
open Cert.KernelIdeal
open kernelRun0_A.sl

theorem pay106_at (Q : FVec Ideal S1024x128 .bf16) (K : Vec Ideal S1x1x256x128 .bf16) (r : Fin 1024) (x : Fin 256) :
    k0_pay106 Q K (ix2 r x) = ∑ l, Q (ix2 r l) * K (ix4 0 0 x l) := by
  pointwise [k0_pay106]
theorem pay107_at (Q : FVec Ideal S1024x128 .bf16) (m : FVec Ideal S1024x1 .f32) (K : Vec Ideal S1x1x256x128 .bf16) (r : Fin 1024) :
    k0_pay107 Q m K (ix2 r 0) = max (m (ix2 r 0)) (Finset.univ.fold max ⊥ fun x => k0_pay106 Q K (ix2 r x)) := by
  pointwise [k0_pay107]
  rw [ofBits_ninf]
theorem pay110_at (Q : FVec Ideal S1024x128 .bf16) (m l : FVec Ideal S1024x1 .f32) (K : Vec Ideal S1x1x256x128 .bf16) (r : Fin 1024) :
    k0_pay110 Q m l K (ix2 r 0) = Ideal.exp (m (ix2 r 0) - k0_pay107 Q m K (ix2 r 0)) * l (ix2 r 0) +
      ∑ x, Ideal.exp (k0_pay106 Q K (ix2 r x) - k0_pay107 Q m K (ix2 r 0)) := by
  pointwise [k0_pay110, k0_pay108, k0_pay109]
theorem pay111_at (Q : FVec Ideal S1024x128 .bf16) (m : FVec Ideal S1024x1 .f32) (a : FVec Ideal S1024x128 .f32)
    (K V : Vec Ideal S1x1x256x128 .bf16) (r : Fin 1024) (d : Fin 128) :
    k0_pay111 Q m a K V (ix2 r d) = Ideal.exp (m (ix2 r 0) - k0_pay107 Q m K (ix2 r 0)) * a (ix2 r d) +
      ∑ x, Ideal.exp (k0_pay106 Q K (ix2 r x) - k0_pay107 Q m K (ix2 r 0)) * V (ix4 0 0 x d) := by
  pointwise [k0_pay111, k0_pay108, k0_pay109]

/-- The carried state after `N` keys. -/
def Carried (σ : Fin 1024 → ℕ → EReal) (v : Fin 1024 → Fin 128 → ℕ → EReal) (N : ℕ)
    (s : FVec Ideal S1024x1 .f32 × FVec Ideal S1024x1 .f32 × FVec Ideal S1024x128 .f32) : Prop :=
  ∀ r, s.1 (ix2 r 0) = Attn.runMax (σ r) N ∧ s.2.1 (ix2 r 0) = Attn.runSum (σ r) N ∧ ∀ d, s.2.2 (ix2 r d) = Attn.runAcc (σ r) (v r d) N

variable {σ : Fin 1024 → ℕ → EReal} {v : Fin 1024 → Fin 128 → ℕ → EReal}

/-- Before the first chunk. -/
theorem carried_zero : Carried σ v 0 (k0_pay45, k0_pay46, k0_pay47) := by
  intro r
  refine ⟨?_, ?_, fun d => ?_⟩
  · pointwise [k0_pay45]; rw [named_mask]; rfl
  · pointwise [k0_pay46]; exact (Finset.sum_range_zero _).symm
  · pointwise [k0_pay47]; exact (Finset.sum_range_zero _).symm

/-- One chunk. -/
theorem carried_step (h : ∀ r t, σ r t ≠ ⊤) {N : ℕ} {s} (hs : Carried σ v N s) (Q : FVec Ideal S1024x128 .bf16) (K V : Vec Ideal S1x1x256x128 .bf16)
    (hK : ∀ r (x : Fin 256), ∑ l, Q (ix2 r l) * K (ix4 0 0 x l) = σ r (N + x.val))
    (hV : ∀ r d (x : Fin 256), V (ix4 0 0 x d) = v r d (N + x.val)) :
    Carried σ v (N + 256) (k0_pay107 Q s.1 K, k0_pay110 Q s.1 s.2.1 K, k0_pay111 Q s.1 s.2.2 K V) := by
  intro r
  have hm : k0_pay107 Q s.1 K (ix2 r 0) = Attn.runMax (σ r) (N + 256) := by
    rw [pay107_at, (hs r).1, ← Attn.runMax_chunk]
    simp only [pay106_at, hK]
  refine ⟨hm, ?_, fun d => ?_⟩
  · rw [← Attn.runSum_chunk (h r)]
    dsimp only
    rw [pay110_at, hm, (hs r).1, (hs r).2.1]
    simp only [pay106_at, hK]
  · rw [← Attn.runAcc_chunk (h r)]
    dsimp only
    rw [pay111_at, hm, (hs r).1, (hs r).2.2]
    simp only [pay106_at, hK, hV r d]

/-- The last chunk, under its mask, and the division. -/
theorem carried_last (h : ∀ r t, σ r t ≠ ⊤) {N : ℕ} {m l a} (hs : Carried σ v N (m, l, a)) (M : IVec S1024x256 1) (Q : FVec Ideal S1024x128 .bf16)
    (K V : Vec Ideal S1x1x256x128 .bf16)
    (hK : ∀ r (x : Fin 256), Scalar.select (M (ix2 r x)) (∑ l, Q (ix2 r l) * K (ix4 0 0 x l)) ⊥ = σ r (N + x.val))
    (hV : ∀ r d (x : Fin 256), V (ix4 0 0 x d) = v r d (N + x.val)) (r : Fin 1024) (d : Fin 128) :
    k0_pay118 M Q m l a K V (ix2 r d) = Ideal.div (Attn.runAcc (σ r) (v r d) (N + 256)) (Attn.runSum (σ r) (N + 256)) := by
  have h1 := (hs r).1
  have h2 := (hs r).2.1
  have h3 := (hs r).2.2 d
  dsimp only at h1 h2 h3
  pointwise [k0_pay118]
  simp only [named_mask, ofBits_ninf]
  rw [← Attn.runSum_chunk (h r), ← Attn.runAcc_chunk (h r), ← Attn.runMax_chunk]
  simp only [hK, hV r d, h1, h2, h3]

theorem pay103_eq : k0_pay103 (F := Ideal) = k0_pay45 := rfl
theorem pay104_eq : k0_pay104 (F := Ideal) = k0_pay46 := rfl
theorem pay105_eq : k0_pay105 (F := Ideal) = k0_pay47 := rfl
theorem pay49_eq (v17 : IVec S256x128 32) (v22 : IVec S256x128 1) (v4 : IVec S256x128 32) (v53 : FVec Ideal S1024x128 .bf16) (v109 : FVec Ideal S256x128 .f32) (v513 : IVec S256x128 32) (v516 : IVec S256x128 1) (v517 : FVec Ideal S256x128 .f32) (m K) :
   k0_pay49 (F := Ideal) v4 v17 v22 v53 v109 v513 v516 v517 m K = k0_pay107 (k0_pay44 v4 v17 v22 v53 v109 v513 v516 v517) m K := rfl
theorem pay52_eq (v17 : IVec S256x128 32) (v22 : IVec S256x128 1) (v4 : IVec S256x128 32) (v53 : FVec Ideal S1024x128 .bf16) (v109 : FVec Ideal S256x128 .f32) (v513 : IVec S256x128 32) (v516 : IVec S256x128 1) (v517 : FVec Ideal S256x128 .f32) (m l K) :
   k0_pay52 (F := Ideal) v4 v17 v22 v53 v109 v513 v516 v517 m l K = k0_pay110 (k0_pay44 v4 v17 v22 v53 v109 v513 v516 v517) m l K := rfl
theorem pay53_eq (v17 : IVec S256x128 32) (v22 : IVec S256x128 1) (v4 : IVec S256x128 32) (v53 : FVec Ideal S1024x128 .bf16) (v109 : FVec Ideal S256x128 .f32) (v513 : IVec S256x128 32) (v516 : IVec S256x128 1) (v517 : FVec Ideal S256x128 .f32) (m a K V) :
   k0_pay53 (F := Ideal) v4 v17 v22 v53 v109 v513 v516 v517 m a K V = k0_pay111 (k0_pay44 v4 v17 v22 v53 v109 v513 v516 v517) m a K V := rfl
theorem pay61_eq (M : IVec S1024x256 1) (v17 : IVec S256x128 32) (v22 : IVec S256x128 1) (v4 : IVec S256x128 32) (v53 : FVec Ideal S1024x128 .bf16) (v109 : FVec Ideal S256x128 .f32) (v513 : IVec S256x128 32) (v516 : IVec S256x128 1) (v517 : FVec Ideal S256x128 .f32) (m l : FVec Ideal S1024x1 .f32) (a K V) :
   k0_pay61 M m l a (k0_pay60 (F := Ideal) v4 v17 v22 v53 v109 v513 v516 v517 K) V = k0_pay118 M (k0_pay44 v4 v17 v22 v53 v109 v513 v516 v517) m l a K V := rfl

theorem trips1 (i : grid0.Coords) : Scf.trips (k0_t1_loop i).lb (k0_t1_loop i).ub (k0_t1_loop i).st = (i 1).val :=
  (by decide +kernel : ∀ n : Fin 8, Scf.trips (0#32)
      (Scalar.addi (0#32) (Scalar.muli (Scalar.divsi (Scalar.subi (BitVec.ofNat 32 n.val) 0#32) 1#32) 1#32)) 1#32 = n.val) (i 1)
theorem trips2 (i : grid0.Coords) : Scf.trips (k0_t2_loop i).lb (k0_t2_loop i).ub (k0_t2_loop i).st = 0 :=
  (by decide +kernel : ∀ n : Fin 8, Scf.trips (Scalar.addi (0#32) (Scalar.muli (Scalar.divsi (Scalar.subi (BitVec.ofNat 32 n.val) 0#32) 1#32) 1#32))
      (Scalar.addi (0#32) (Scalar.subi (BitVec.ofNat 32 n.val) 0#32)) 1#32 = 0) (i 1)
theorem trips3 (i : grid0.Coords) : Scf.trips (k0_t3_loop i).lb (k0_t3_loop i).ub (k0_t3_loop i).st = (i 1).val := trips1 i
theorem trips4 (i : grid0.Coords) : Scf.trips (k0_t4_loop i).lb (k0_t4_loop i).ub (k0_t4_loop i).st = 0 := trips2 i

theorem off1_eq (i : grid0.Coords) (k) : k0_off1 i k = ![0, 0, 256 * k.val, 0] := by
  have hk : k.val < 8 := lt_of_lt_of_le k.isLt (le_of_eq_of_le (trips1 i) (i 1).isLt.le)
  have := (by decide +kernel : ∀ n : Fin 8, (Scalar.indexCast (Scalar.muli (Scf.iv 0#32 1#32 n.val) 256#32)).toNat = 256 * n.val) ⟨k.val, hk⟩
  unfold k0_off1; dsimp only; rw [this]
theorem off5_eq (i : grid0.Coords) (k) : k0_off5 i k = ![0, 1, 256 * k.val, 0] := by
  have hk : k.val < 8 := lt_of_lt_of_le k.isLt (le_of_eq_of_le (trips3 i) (i 1).isLt.le)
  have := (by decide +kernel : ∀ n : Fin 8, (Scalar.indexCast (Scalar.muli (Scf.iv 0#32 1#32 n.val) 256#32)).toNat = 256 * n.val) ⟨k.val, hk⟩
  unfold k0_off5; dsimp only; rw [this]
theorem off3_eq (i : grid0.Coords) : k0_off3 i = ![0, 0, 256 * (i 1).val, 0] := by
  have := (by decide +kernel : ∀ n : Fin 8, (Scalar.indexCast (Scalar.muli (BitVec.ofNat 32 n.val) 256#32)).toNat = 256 * n.val) (i 1)
  unfold k0_off3; dsimp only; rw [this]
theorem off7_eq (i : grid0.Coords) : k0_off7 i = ![0, 1, 256 * (i 1).val, 0] := by
  have := (by decide +kernel : ∀ n : Fin 8, (Scalar.indexCast (Scalar.muli (BitVec.ofNat 32 n.val) 256#32)).toNat = 256 * n.val) (i 1)
  unfold k0_off7; dsimp only; rw [this]

/-- A chunk of 256 keys cut out of a block. -/
theorem chunk_at {e : EltTy} (x : Vec Ideal S1x2x2048x128 e) (off : Fin 4 → ℕ) (G : Fin 2) (a : ℕ) (ha : a + 256 ≤ 2048) (ho : off = ![0, G.val, a, 0]) (h) (y : Fin 256) (l : Fin 128) :
    View.ld x (Rect.unit (s := S1x2x2048x128) off S1x1x256x128.size h) (ix4 0 0 y l) = x (ix4 0 G ⟨a + y.val, by omega⟩ l) := by
  subst ho
  pointwise

end Cert.KernelIdeal.Gen
end
-- ==== Proof.SelKeys.lean ====
module
public import proofs.«01_k».proof.Proof.Words
public import proofs.«01_k».proof.Proof.Online
@[expose] public section

/-! # Keys of the selected blocks

Some selected key is always seen, scores of finite queries and keys are finite, and the running softmax over the
keys up to the token's own chunk is the masked softmax over all keys. -/
noncomputable section
open Idealize.ShloMosaic
namespace Attn

/-- A number that is neither infinity. -/
def Fin' (x : EReal) : Prop := x ≠ ⊤ ∧ x ≠ ⊥

theorem dot_fin {x y : Fin 64 → EReal} (hx : ∀ d, Fin' (x d)) (hy : ∀ d, Fin' (y d)) : Fin' (dot x y) := by
  have h : ∀ d, ∃ r : ℝ, x d * y d = r := fun d => by
    refine ⟨(x d).toReal * (y d).toReal, ?_⟩
    rw [EReal.coe_mul, EReal.coe_toReal (hx d).1 (hx d).2, EReal.coe_toReal (hy d).1 (hy d).2]
  choose f hf using h
  have e : dot x y = ((∑ d, f d : ℝ) : EReal) := by
    unfold dot
    simp only [hf]
    exact (map_sum (⟨⟨Real.toEReal, EReal.coe_zero⟩, EReal.coe_add⟩ : ℝ →+ EReal) f Finset.univ).symm
  rw [e]
  exact ⟨EReal.coe_ne_top _, EReal.coe_ne_bot _⟩

theorem late_lt_forced : lateScore < forcedScore := by
  have h1 : lateScore = ((-1 : ℝ) : EReal) := by
    simp [lateScore, Ideal.ofBits, Ideal.ieee, -EReal.coe_mul]
    norm_num
  have h2 : forcedScore = ((10000 : ℝ) : EReal) := by
    simp [forcedScore, Ideal.ofBits, Ideal.ieee, -EReal.coe_mul]
    norm_num
  rw [h1, h2]
  exact_mod_cast (by norm_num : (-1 : ℝ) < 10000)

theorem bit_true {p : Prop} [Decidable p] (h : p) : bit p = 1#1 := by unfold bit; rw [decide_eq_true h]; rfl
theorem bit_false {p : Prop} [Decidable p] (h : ¬ p) : bit p = 0#1 := by unfold bit; rw [decide_eq_false h]; rfl
theorem sel_one {α : Type} (a b : α) : Scalar.select 1#1 a b = a := rfl
theorem sel_zero {α : Type} (a b : α) : Scalar.select 0#1 a b = b := rfl

/-- Some block has no block ahead of it, and no block scores more. -/
theorem exists_first (s : Fin 32 → EReal) : ∃ j, rank s j = 0 ∧ ∀ n, s n ≤ s j := by
  obtain ⟨a, -, ha⟩ := Finset.exists_max_image (Finset.univ : Finset (Fin 32)) s ⟨0, Finset.mem_univ _⟩
  have hne : (Finset.univ.filter fun n => s n = s a).Nonempty := ⟨a, by simp⟩
  obtain ⟨j, hj, hmin⟩ := Finset.exists_min_image _ (fun n : Fin 32 => n.val) hne
  have hj' : s j = s a := (Finset.mem_filter.mp hj).2
  refine ⟨j, ?_, fun n => by rw [hj']; exact ha n (Finset.mem_univ _)⟩
  unfold rank
  classical
  refine Finset.card_eq_zero.mpr (Finset.filter_eq_empty_iff.mpr ?_)
  rintro n - (h | ⟨h, h'⟩)
  · exact absurd (ha n (Finset.mem_univ _)) (not_le.mpr (hj' ▸ h))
  · have := hmin n (by simp [h, hj'])
    exact absurd h' (not_lt.mpr (Fin.le_def.mpr this))

/-- The token sees some key of its selected blocks. -/
theorem exists_selected (imp : Fin 32 → EReal) (t : ℕ) (ht : t < 2048) : ∃ k : Fin 2048, k.val ≤ t ∧ selBit (score imp t) t k = 1#1 := by
  obtain ⟨j, hr, hmax⟩ := exists_first (score imp t)
  have hj : 64 * j.val ≤ t := by
    by_contra hc
    have h0 : score imp t 0 = forcedScore := by
      unfold score
      rw [bit_true (by simp), bit_true (by simp)]; rfl
    have h1 : score imp t j = lateScore := by
      unfold score
      rw [bit_false hc]; rfl
    have := hmax 0
    rw [h0, h1] at this
    exact absurd late_lt_forced (not_lt.mpr this)
  refine ⟨⟨64 * j.val, by omega⟩, hj, ?_⟩
  unfold selBit pick
  have e : (⟨(⟨64 * j.val, by omega⟩ : Fin 2048).val / 64, by simp only; omega⟩ : Fin 32) = j := Fin.ext (by simp)
  rw [e, bit_true (by omega : rank (score imp t) j < 16), bit_true (show (⟨64 * j.val, by omega⟩ : Fin 2048).val ≤ t from hj)]
  rfl

/-- The running softmax over the first `N` keys, the others being masked. -/
theorem attend_run {n N : ℕ} (hN : N ≤ n) (M : Fin n → BitVec 1) (s v : Fin n → EReal) (σ v' : ℕ → EReal)
    (hin : ∀ (k : ℕ) (hk : k < N), masked M s ⟨k, by omega⟩ = σ k) (hout : ∀ k : Fin n, N ≤ k.val → masked M s k = ⊥)
    (hv : ∀ (k : ℕ) (hk : k < N), v ⟨k, by omega⟩ = v' k) (h : ∀ t, σ t ≠ ⊤) (hb : ∃ t < N, σ t ≠ ⊥) :
    Ideal.div (runAcc σ v' N) (runSum σ N) = attend M s v := by
  obtain ⟨w, rfl⟩ := Nat.exists_eq_add_of_le hN
  exact attend_eq_run M s v σ v' (fun k => hin k.val k.isLt) (fun k => hout _ (by simp)) (fun k => hv k.val k.isLt) h hb

/-- A row's selected scores, by key. -/
def sig (R : Row) (h : Fin 4) (k : ℕ) : EReal :=
  if hk : k < 2048 then masked (selBit R.sc R.t) (fun k => dot (R.q h) (R.ks k)) ⟨k, hk⟩ else ⊥

theorem sig_lt (R : Row) (h : Fin 4) {k : ℕ} (hk : k < 2048) : sig R h k = masked (selBit R.sc R.t) (fun k => dot (R.q h) (R.ks k)) ⟨k, hk⟩ :=
  dif_pos hk

theorem sig_late (R : Row) (h : Fin 4) {k : ℕ} (hk : R.t < k) : sig R h k = ⊥ := by
  unfold sig
  split
  · unfold masked selBit
    rw [bit_false (show ¬ (⟨k, _⟩ : Fin 2048).val ≤ R.t by simp only; omega)]
    unfold IntOp.andi
    rw [BitVec.and_zero]; rfl
  · rfl

theorem sig_ne_top (R : Row) (hq : ∀ h d, Fin' (R.q h d)) (hk : ∀ k d, Fin' (R.ks k d)) (h : Fin 4) (k : ℕ) : sig R h k ≠ ⊤ := by
  unfold sig
  split
  · unfold masked
    rcases bit_cases (selBit R.sc R.t ⟨k, ‹_›⟩) with e | e <;> rw [e]
    · exact bot_ne_top
    · exact (dot_fin (hq h) (hk _)).1
  · exact bot_ne_top

/-- THE SELECTED BRANCH by running softmax. -/
theorem os_eq (R : Row) (hq : ∀ h d, Fin' (R.q h d)) (hk : ∀ k d, Fin' (R.ks k d)) (N : ℕ) (hN : N ≤ 2048) (ht : R.t < N) (h : Fin 4) (d : Fin 64)
    (v' : ℕ → EReal) (hv : ∀ (k : ℕ) (hk : k < 2048), R.vs ⟨k, hk⟩ d = v' k) :
    Ideal.div (runAcc (sig R h) v' N) (runSum (sig R h) N) = R.os h d := by
  refine attend_run hN _ _ _ _ _ (fun k hk => (sig_lt R h (by omega)).symm) (fun k hk => ?_) (fun k hk => hv k (by omega)) (sig_ne_top R hq hk h) ?_
  · rw [← sig_lt R h k.isLt]; exact sig_late R h (by omega)
  · obtain ⟨k, h1, h2⟩ := exists_selected R.imp R.t (by omega)
    refine ⟨k.val, by omega, ?_⟩
    rw [sig_lt R h k.isLt]
    unfold masked
    rw [show selBit R.sc R.t ⟨k.val, k.isLt⟩ = 1#1 from h2]
    exact (dot_fin (hq h) (hk _)).2

end Attn
end
-- ==== Proof.KLoops.lean ====
module
public import proofs.«01_k».proof.Proof.KRow
public import proofs.«01_k».proof.Proof.Words
public import proofs.«01_k».proof.Proof.KSel
public import proofs.«01_k».proof.Proof.KLoop
public import proofs.«01_k».proof.Proof.SelKeys
@[expose] public section
/-! # The chunk loops

Each group's loop over the chunks before the token's own carries the running softmax of the keys so far. -/
set_option maxRecDepth 16384
noncomputable section
open Idealize.ShloMosaic
namespace Cert.KernelIdeal.Gen
open Cert.KernelIdeal
open kernelRun0_A.sl

theorem r_at (i : grid0.Coords) (r : Fin 1024) (x : Fin 256) :
    kernelRun0_A.sl.r i (ix2 r x) = Attn.bit (256 * (i 1).val + x.val ≤ tok i (rtok r).val) := by
  have hi : (i 1).val < 8 := (i 1).isLt
  pointwise [kernelRun0_A.sl.r, k0_pay10, kernelRun0_A.sl.v0, kernelRun0_A.sl.v42, kernelRun0_A.sl.v43]
  rw [Attn.w_and255 _ r.isLt, show (256#32) = BitVec.ofNat 32 256 from rfl, Attn.w_smul, Attn.w_add, Attn.w_add, Attn.w_sle _ _ (by omega) (by omega)]
  refine Attn.bit_congr ?_
  unfold tok
  simp only [rtok]
  omega

/-- Lanes 64 to 127 of a selected key say its block. -/
def KsPad (x4 : Vec Ideal S1x2x2048x128 .bf16) : Prop :=
  ∀ (G : Fin 2) (k : Fin 2048) (j : Fin 64), x4 (ix4 0 G k (j.natAdd 64)) = if j = ⟨k.val / 64, by omega⟩ then 1 else 0

/-- A row's selected values, by key. -/
def vsel (x5 : Vec Ideal S1x2x2048x128 .bf16) (G : Fin 2) (_ : Fin 1024) (d : Fin 128) (k : ℕ) : EReal :=
  if hk : k < 2048 then x5 (ix4 0 G ⟨k, hk⟩ d) else 0

theorem vsel_lt (x5 : Vec Ideal S1x2x2048x128 .bf16) (G : Fin 2) (r : Fin 1024) (d : Fin 128) {k : ℕ} (hk : k < 2048) :
    vsel x5 G r d k = x5 (ix4 0 G ⟨k, hk⟩ d) := dif_pos hk

section
variable (i : grid0.Coords) (x0 : Vec Ideal S1x8x256x128 .bf16) (x2 x3 : Vec Ideal S1x2x128x128 .bf16)
  (x4 x5 x6 x7 : Vec Ideal S1x2x2048x128 .bf16) (x8 : Vec Ideal S128x128 .bf16)

/-- The selected scores of a stacked row. -/
abbrev ksig (G : Fin 2) (r : Fin 1024) : ℕ → EReal := Attn.sig (krow i x0 x2 x3 x4 x5 x6 x7 x8 G (rtok r)) (rhead r)

/-- A query row with block lanes times a key is the selected score, for a key not after the token. -/
theorem key_at (hk : KsPad x4) (G : Fin 2) (Q : FVec Ideal S1024x128 .bf16) (r : Fin 1024)
    (lo : ∀ d : Fin 64, Q (ix2 r (d.castAdd 64)) = (krow i x0 x2 x3 x4 x5 x6 x7 x8 G (rtok r)).q (rhead r) d)
    (hi : ∀ j : Fin 64, Q (ix2 r (j.natAdd 64)) = biasOf (krow i x0 x2 x3 x4 x5 x6 x7 x8 G (rtok r)).sc (tok i (rtok r).val) j)
    (k : Fin 2048) (h : k.val ≤ tok i (rtok r).val) :
    ∑ l, Q (ix2 r l) * x4 (ix4 0 G k l) = ksig i x0 x2 x3 x4 x5 x6 x7 x8 G r k.val := by
  rw [sum_onehot (fun l => Q (ix2 r l)) (fun l => x4 (ix4 0 G k l)) ⟨k.val / 64, by omega⟩ (hk G k), hi, add_biasOf _ _ _ _ h]
  simp only [lo]
  unfold ksig
  rw [Attn.sig_lt _ _ k.isLt]
  rfl
end

section
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole) (arg1 : BitVec 32) (v4 : IVec S256x128 32) (v17 : IVec S256x128 32) (v22 : IVec S256x128 1) (v53 : FVec Ideal S1024x128 .bf16) (v109 : FVec Ideal S256x128 .f32) (v513 : IVec S256x128 32) (v516 : IVec S256x128 1) (v517 : FVec Ideal S256x128 .f32) (x4 x5 : Vec Ideal S1x2x2048x128 .bf16)
/-- Loop 1 before trip `n` carries the running softmax of the first `256 n` keys. -/
theorem t1_carried {σ : Fin 1024 → ℕ → EReal} (hσ : ∀ r t, σ r t ≠ ⊤)
    (hK : ∀ r (k : Fin 2048), k.val < 256 * (i 1).val → ∑ l, (k0_pay44 v4 v17 v22 v53 v109 v513 v516 v517) (ix2 r l) * x4 (ix4 0 0 k l) = σ r k.val) (n : ℕ) (hn : n ≤ (i 1).val) :
    Carried σ (vsel x5 0) (256 * n) (st_k0_t1 (F := Ideal) Variants.none c none i arg2 harg2 arg3 harg3 arg4 harg4 arg5 harg5 arg6 harg6 arg7 harg7 arg8 harg8 arg9 harg9 arg10 harg10 arg11 harg11 arg1 v4 v17 v22 v53 v109 v513 v516 v517 (harg6.unread x4) (harg7.unread x5)
      (k0_pay45, k0_pay46, k0_pay47) n) := by
  have hi : (i 1).val < 8 := (i 1).isLt
  induction n with
  | zero => exact carried_zero
  | succ n ih =>
    have hl : n < (k0_t1_loop i).trips := lt_of_lt_of_eq (by omega) (trips1 i).symm
    have e := st_k0_t1_succ (F := Ideal) Variants.none c none i arg2 harg2 arg3 harg3 arg4 harg4 arg5 harg5 arg6 harg6 arg7 harg7 arg8 harg8 arg9 harg9 arg10 harg10 arg11 harg11 arg1 v4 v17 v22 v53 v109 v513 v516 v517 (harg6.unread x4) (harg7.unread x5)
      (k0_pay45, k0_pay46, k0_pay47) ⟨n, hl⟩
    dsimp only at e
    rw [e]
    unfold tripR_k0_t1 trip_k0_t1
    dsimp only
    simp only [View.readAt_eq_ld, harg6.read_unread, harg7.read_unread, pay49_eq, pay52_eq, pay53_eq]
    have ho := off1_eq i ⟨n, hl⟩
    refine carried_step hσ (N := 256 * n) (ih (by omega)) (k0_pay44 v4 v17 v22 v53 v109 v513 v516 v517) _ _ (fun r x => ?_) (fun r d x => ?_)
    · rw [← hK r ⟨256 * n + x.val, by omega⟩ (by simp only; omega)]
      exact Finset.sum_congr rfl fun l _ => congrArg _ (chunk_at x4 _ 0 (256 * n) (by omega) ho _ x l)
    · rw [vsel_lt _ _ _ _ (show 256 * n + x.val < 2048 by omega)]
      exact chunk_at x5 _ 0 (256 * n) (by omega) ho _ x d
end

section
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole) (arg1 : BitVec 32) (v28 : BitVec 32) (v50 : IVec S1024x256 1) (v1168 : FVec Ideal S1024x128 .bf16) (v1169 : FVec Ideal S1024x1 .f32) (v1170 : FVec Ideal S1024x1 .f32) (x4 x5 : Vec Ideal S1x2x2048x128 .bf16)
/-- Loop 3 before trip `n` carries the running softmax of the first `256 n` keys. -/
theorem t3_carried {σ : Fin 1024 → ℕ → EReal} (hσ : ∀ r t, σ r t ≠ ⊤)
    (hK : ∀ r (k : Fin 2048), k.val < 256 * (i 1).val → ∑ l, v1168 (ix2 r l) * x4 (ix4 0 1 k l) = σ r k.val) (n : ℕ) (hn : n ≤ (i 1).val) :
    Carried σ (vsel x5 1) (256 * n) (st_k0_t3 (F := Ideal) Variants.none c none i arg2 harg2 arg3 harg3 arg4 harg4 arg5 harg5 arg6 harg6 arg7 harg7 arg8 harg8 arg9 harg9 arg10 harg10 arg11 harg11 arg1 v28 v50 v1168 v1169 v1170 (harg6.unread x4) (harg7.unread x5)
      (k0_pay45, k0_pay46, k0_pay47) n) := by
  have hi : (i 1).val < 8 := (i 1).isLt
  induction n with
  | zero => exact carried_zero
  | succ n ih =>
    have hl : n < (k0_t3_loop i).trips := lt_of_lt_of_eq (by omega) (trips3 i).symm
    have e := st_k0_t3_succ (F := Ideal) Variants.none c none i arg2 harg2 arg3 harg3 arg4 harg4 arg5 harg5 arg6 harg6 arg7 harg7 arg8 harg8 arg9 harg9 arg10 harg10 arg11 harg11 arg1 v28 v50 v1168 v1169 v1170 (harg6.unread x4) (harg7.unread x5)
      (k0_pay45, k0_pay46, k0_pay47) ⟨n, hl⟩
    dsimp only at e
    rw [e]
    unfold tripR_k0_t3 trip_k0_t3
    dsimp only
    simp only [View.readAt_eq_ld, harg6.read_unread, harg7.read_unread, pay49_eq, pay52_eq, pay53_eq]
    have ho := off5_eq i ⟨n, hl⟩
    refine carried_step hσ (N := 256 * n) (ih (by omega)) v1168 _ _ (fun r x => ?_) (fun r d x => ?_)
    · rw [← hK r ⟨256 * n + x.val, by omega⟩ (by simp only; omega)]
      exact Finset.sum_congr rfl fun l _ => congrArg _ (chunk_at x4 _ 1 (256 * n) (by omega) ho _ x l)
    · rw [vsel_lt _ _ _ _ (show 256 * n + x.val < 2048 by omega)]
      exact chunk_at x5 _ 1 (256 * n) (by omega) ho _ x d
end

end Cert.KernelIdeal.Gen
end
-- ==== Proof.KOs.lean ====
module
public import proofs.«01_k».proof.Proof.KRow
public import proofs.«01_k».proof.Proof.Words
public import proofs.«01_k».proof.Proof.KLoops
@[expose] public section
/-! # The selected branch

The loops' carried states, the diagonal chunk and the division give the masked softmax over the selected blocks. -/
set_option maxRecDepth 16384
noncomputable section
open Idealize.ShloMosaic
namespace Cert.KernelIdeal.Gen
open Cert.KernelIdeal
open kernelRun0_A.sl

/-- The queries and selected keys are finite numbers. -/
def SelFin (x0 : Vec Ideal S1x8x256x128 .bf16) (x4 : Vec Ideal S1x2x2048x128 .bf16) : Prop :=
  (∀ h ρ l, Attn.Fin' (x0 (ix4 0 h ρ l))) ∧ ∀ G k l, Attn.Fin' (x4 (ix4 0 G k l))

/-- The diagonal chunk under its mask is the selected score. -/
theorem diag_at (i : grid0.Coords) (x0 : Vec Ideal S1x8x256x128 .bf16) (x2 x3 : Vec Ideal S1x2x128x128 .bf16)
    (x4 x5 x6 x7 : Vec Ideal S1x2x2048x128 .bf16) (x8 : Vec Ideal S128x128 .bf16) (G : Fin 2) (r : Fin 1024) (x : Fin 256) (hb : 256 * (i 1).val + x.val < 2048) (S : EReal)
    (h : 256 * (i 1).val + x.val ≤ tok i (rtok r).val → S = ksig i x0 x2 x3 x4 x5 x6 x7 x8 G r (256 * (i 1).val + x.val)) :
    Scalar.select (kernelRun0_A.sl.r i (ix2 r x)) S ⊥ = ksig i x0 x2 x3 x4 x5 x6 x7 x8 G r (256 * (i 1).val + x.val) := by
  rw [r_at]
  by_cases hc : 256 * (i 1).val + x.val ≤ tok i (rtok r).val
  · rw [Attn.bit_true hc]; exact h hc
  · rw [Attn.bit_false hc]
    exact (Attn.sig_late _ _ (not_le.mp hc)).symm
theorem sig_fin (i : grid0.Coords) (x0 : Vec Ideal S1x8x256x128 .bf16) (x2 x3 : Vec Ideal S1x2x128x128 .bf16)
    (x4 x5 x6 x7 : Vec Ideal S1x2x2048x128 .bf16) (x8 : Vec Ideal S128x128 .bf16) (hf : SelFin x0 x4) (G : Fin 2) (r : Fin 1024) (t : ℕ) :
    ksig i x0 x2 x3 x4 x5 x6 x7 x8 G r t ≠ ⊤ :=
  Attn.sig_ne_top _ (fun _ _ => hf.1 _ _ _) (fun _ _ => hf.2 _ _ _) _ _
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole)

 (x0 : Vec Ideal S1x8x256x128 .bf16) (x1 : Vec Ideal S1x256x128 .f32) (x2 : Vec Ideal S1x2x128x128 .bf16) (x3 : Vec Ideal S1x2x128x128 .bf16) (x4 : Vec Ideal S1x2x2048x128 .bf16) (x5 : Vec Ideal S1x2x2048x128 .bf16) (x6 : Vec Ideal S1x2x2048x128 .bf16) (x7 : Vec Ideal S1x2x2048x128 .bf16) (x8 : Vec Ideal S128x128 .bf16)

theorem carried_456 {σ : Fin 1024 → ℕ → EReal} (hσ : ∀ r t, σ r t ≠ ⊤)
    (hK : ∀ r (k : Fin 2048), k.val < 256 * (i 1).val → ∑ l, qsel0 c i arg2 harg2 arg4 harg4 arg10 harg10 x0 x2 x8 (ix2 r l) * x4 (ix4 0 0 k l) = σ r k.val) :
    Carried σ (vsel x5 0) (256 * (i 1).val) (kernelRun0_A.sl.r_4 (F := Ideal) c i arg2 harg2 arg3 harg3 arg4 harg4 arg5 harg5 arg6 harg6 arg7 harg7 arg8 harg8 arg9 harg9 arg10 harg10 arg11 harg11 x0 x2 x4 x5 x8, kernelRun0_A.sl.r_5 (F := Ideal) c i arg2 harg2 arg3 harg3 arg4 harg4 arg5 harg5 arg6 harg6 arg7 harg7 arg8 harg8 arg9 harg9 arg10 harg10 arg11 harg11 x0 x2 x4 x5 x8, kernelRun0_A.sl.r_6 (F := Ideal) c i arg2 harg2 arg3 harg3 arg4 harg4 arg5 harg5 arg6 harg6 arg7 harg7 arg8 harg8 arg9 harg9 arg10 harg10 arg11 harg11 x0 x2 x4 x5 x8) := by
  unfold kernelRun0_A.sl.r_4 kernelRun0_A.sl.r_5 kernelRun0_A.sl.r_6
  rw [trips2, trips1, st_k0_t2_zero]
  exact t1_carried _ _ _ _ _ _ _ _ _ _ _ _ _ _ _ _ _ _ _ _ _ _ _ _ _ _ _ _ _ _ _ _ _ hσ hK (i 1).val le_rfl

theorem key0 (hq : QPad x0) (hk : KsPad x4) (r : Fin 1024) (k : Fin 2048) (h : k.val ≤ tok i (rtok r).val) :
    ∑ l, qsel0 c i arg2 harg2 arg4 harg4 arg10 harg10 x0 x2 x8 (ix2 r l) * x4 (ix4 0 0 k l) = ksig i x0 x2 x3 x4 x5 x6 x7 x8 0 r k.val :=
  key_at i x0 x2 x3 x4 x5 x6 x7 x8 hk 0 _ r (fun d => qsel0_lo (x4 := x4) (x3 := x3) (x5 := x5) (x6 := x6) (x7 := x7) .. ) (fun j => qsel0_hi (hq := hq) ..) k h
theorem key1 (hq : QPad x0) (hk : KsPad x4) (r : Fin 1024) (k : Fin 2048) (h : k.val ≤ tok i (rtok r).val) :
    ∑ l, qsel1 c i arg2 harg2 arg4 harg4 arg10 harg10 x0 x2 x8 (ix2 r l) * x4 (ix4 0 1 k l) = ksig i x0 x2 x3 x4 x5 x6 x7 x8 1 r k.val :=
  key_at i x0 x2 x3 x4 x5 x6 x7 x8 hk 1 _ r (fun d => qsel1_lo (x4 := x4) (x3 := x3) (x5 := x5) (x6 := x6) (x7 := x7) .. ) (fun j => qsel1_hi (hq := hq) ..) k h

theorem late_key (r : Fin 1024) {k : ℕ} (h : k < 256 * (i 1).val) : k ≤ tok i (rtok r).val := by unfold tok; omega

/-- Group 0's selected branch. -/
theorem r_8_at (hq : QPad x0) (hk : KsPad x4) (hf : SelFin x0 x4) (r : Fin 1024) (d : Fin 64) :
    kernelRun0_A.sl.r_8 (F := Ideal) c i arg2 harg2 arg3 harg3 arg4 harg4 arg5 harg5 arg6 harg6 arg7 harg7 arg8 harg8 arg9 harg9 arg10 harg10 arg11 harg11 x0 x2 x4 x5 x8 (ix2 r (d.castAdd 64)) = (krow i x0 x2 x3 x4 x5 x6 x7 x8 0 (rtok r)).os (rhead r) d := by
  have hi : (i 1).val < 8 := (i 1).isLt
  unfold kernelRun0_A.sl.r_8 kernelRun0_A.sl.r_7
  rw [pay61_eq]
  simp only [View.readAt_eq_ld, harg6.read_unread, harg7.read_unread]
  rw [carried_last (σ := ksig i x0 x2 x3 x4 x5 x6 x7 x8 0) (v := vsel x5 0) (N := 256 * (i 1).val) (h := sig_fin i x0 x2 x3 x4 x5 x6 x7 x8 hf 0)
    (hs := carried_456 c i arg2 harg2 arg3 harg3 arg4 harg4 arg5 harg5 arg6 harg6 arg7 harg7 arg8 harg8 arg9 harg9 arg10 harg10 arg11 harg11 x0 x2 x4 x5 x8 (sig_fin i x0 x2 x3 x4 x5 x6 x7 x8 hf 0) (fun r k h => key0 (hq := hq) (hk := hk) (h := late_key (h := h) ..) ..))
    (hK := fun r x => ?_) (hV := fun r d x => ?_)]
  · exact Attn.os_eq _ (fun _ _ => hf.1 _ _ _) (fun _ _ => hf.2 _ _ _) _ (by omega) (by show tok i _ < _; unfold tok; omega) _ _ _ (fun k hk => (vsel_lt x5 0 r _ hk).symm)
  · refine diag_at i x0 x2 x3 x4 x5 x6 x7 x8 0 r x (by omega) _ (fun hc => ?_)
    rw [← key0 (c := c) (arg2 := arg2) (harg2 := harg2) (arg4 := arg4) (harg4 := harg4) (arg10 := arg10) (harg10 := harg10) (hq := hq) (hk := hk) (r := r) (k := ⟨256 * (i 1).val + x.val, by omega⟩) (h := hc)]
    exact Finset.sum_congr rfl fun l _ => congrArg _ (chunk_at x4 _ 0 (256 * (i 1).val) (by omega) (off3_eq i) _ x l)
  · rw [vsel_lt _ _ _ _ (show 256 * (i 1).val + x.val < 2048 by omega)]
    exact chunk_at x5 _ 0 (256 * (i 1).val) (by omega) (off3_eq i) _ x d

/-- Group 1's selected branch. -/
theorem r_13_at (hq : QPad x0) (hk : KsPad x4) (hf : SelFin x0 x4) (r : Fin 1024) (d : Fin 64) :
    kernelRun0_A.sl.r_13 (F := Ideal) c i arg2 harg2 arg3 harg3 arg4 harg4 arg5 harg5 arg6 harg6 arg7 harg7 arg8 harg8 arg9 harg9 arg10 harg10 arg11 harg11 x0 x2 x4 x5 x8 (ix2 r (d.castAdd 64)) = (krow i x0 x2 x3 x4 x5 x6 x7 x8 1 (rtok r)).os (rhead r) d := by
  have hi : (i 1).val < 8 := (i 1).isLt
  unfold kernelRun0_A.sl.r_13
  rw [trips3, trips4, st_k0_t4_zero]
  simp only [View.readAt_eq_ld, harg6.read_unread, harg7.read_unread, pay103_eq, pay104_eq, pay105_eq]
  rw [carried_last (σ := ksig i x0 x2 x3 x4 x5 x6 x7 x8 1) (v := vsel x5 1) (N := 256 * (i 1).val) (h := sig_fin i x0 x2 x3 x4 x5 x6 x7 x8 hf 1)
    (hs := t3_carried _ _ _ _ _ _ _ _ _ _ _ _ _ _ _ _ _ _ _ _ _ _ _ _ _ _ _ _ _ _ (sig_fin i x0 x2 x3 x4 x5 x6 x7 x8 hf 1) (fun r k h => key1 (hq := hq) (hk := hk) (h := late_key (h := h) ..) ..) (i 1).val le_rfl)
    (hK := fun r x => ?_) (hV := fun r d x => ?_)]
  · exact Attn.os_eq _ (fun _ _ => hf.1 _ _ _) (fun _ _ => hf.2 _ _ _) _ (by omega) (by show tok i _ < _; unfold tok; omega) _ _ _ (fun k hk => (vsel_lt x5 1 r _ hk).symm)
  · refine diag_at i x0 x2 x3 x4 x5 x6 x7 x8 1 r x (by omega) _ (fun hc => ?_)
    rw [← key1 (c := c) (arg2 := arg2) (harg2 := harg2) (arg4 := arg4) (harg4 := harg4) (arg10 := arg10) (harg10 := harg10) (hq := hq) (hk := hk) (r := r) (k := ⟨256 * (i 1).val + x.val, by omega⟩) (h := hc)]
    exact Finset.sum_congr rfl fun l _ => congrArg _ (chunk_at x4 _ 1 (256 * (i 1).val) (by omega) (off7_eq i) _ x l)
  · rw [vsel_lt _ _ _ _ (show 256 * (i 1).val + x.val < 2048 by omega)]
    exact chunk_at x5 _ 1 (256 * (i 1).val) (by omega) (off7_eq i) _ x d

end Cert.KernelIdeal.Gen
end
-- ==== Proof.KWin.lean ====
module
public import proofs.«01_k».proof.Proof.KRow
public import proofs.«01_k».proof.Proof.Words
public import proofs.«01_k».proof.Proof.KOs
@[expose] public section
/-! # The window branch

The kernel's softmax over the 768 keys from the window's start is the masked softmax over all keys. -/
set_option maxRecDepth 16384
noncomputable section
open Idealize.ShloMosaic
namespace Cert.KernelIdeal.Gen
open Cert.KernelIdeal
open kernelRun0_A.sl

/-- The window's 768 keys cut out of a block. -/
theorem win_chunk_at (x : Vec Ideal S1x2x2048x128 .bf16) (off : Fin 4 → ℕ) (G : Fin 2) (a : ℕ) (ha : a + 768 ≤ 2048) (ho : off = ![0, G.val, a, 0]) (h) (y : Fin 768) (l : Fin 128) :
    View.ld x (Rect.unit (s := S1x2x2048x128) off S1x1x768x128.size h) (ix4 0 0 y l) = x (ix4 0 G ⟨a + y.val, by omega⟩ l) := by
  subst ho
  pointwise
theorem off4_eq (i : grid0.Coords) : k0_off4 i = ![0, 0, 256 * (i 1).val - 512, 0] := by
  have := (by decide +kernel : ∀ n : Fin 8, (Scalar.indexCast (Scalar.maxsi (Scalar.subi (Scalar.muli (BitVec.ofNat 32 n.val) 256#32) 512#32) 0#32)).toNat = 256 * n.val - 512) (i 1)
  unfold k0_off4; dsimp only; rw [this]
theorem off8_eq (i : grid0.Coords) : k0_off8 i = ![0, 1, 256 * (i 1).val - 512, 0] := by
  have := (by decide +kernel : ∀ n : Fin 8, (Scalar.indexCast (Scalar.maxsi (Scalar.subi (Scalar.muli (BitVec.ofNat 32 n.val) 256#32) 512#32) 0#32)).toNat = 256 * n.val - 512) (i 1)
  unfold k0_off8; dsimp only; rw [this]
theorem pay119_at (M : IVec S1024x768 1) (Q : FVec Ideal S1024x128 .bf16) (K V : Vec Ideal S1x1x768x128 .bf16) (r : Fin 1024) (d : Fin 128) :
    k0_pay119 M Q K V (ix2 r d) = Attn.attend (fun x => M (ix2 r x)) (fun x => ∑ l, Q (ix2 r l) * K (ix4 0 0 x l)) (fun x => V (ix4 0 0 x d)) := by
  pointwise [k0_pay119]
  simp only [named_mask, ofBits_ninf]
  rfl
theorem v41_at (i : grid0.Coords) (r : Fin 1024) (x : Fin 768) :
    kernelRun0_A.sl.v41 i (ix2 r x) = Attn.winBit (tok i (rtok r).val) ⟨256 * (i 1).val - 512 + x.val, by have := (i 1).isLt; have : (i 1).val < 8 := this; omega⟩ := by
  have hi : (i 1).val < 8 := (i 1).isLt
  pointwise [kernelRun0_A.sl.v41, kernelRun0_A.sl.v0, v26,v27,v29,v30,v31,v32,v33,v35,v36,v37,v38,v39,v40]
  refine (Attn.word_win _ _ _ hi r.isLt x.isLt).trans ?_
  refine Attn.bit_congr ?_
  unfold tok
  simp only [rtok]

/-- THE WINDOW BRANCH: the masked softmax over 768 keys is the one over all keys. -/
theorem window_at (i : grid0.Coords) (x0 : Vec Ideal S1x8x256x128 .bf16) (x2 x3 : Vec Ideal S1x2x128x128 .bf16)
    (x4 x5 x6 x7 : Vec Ideal S1x2x2048x128 .bf16) (x8 : Vec Ideal S128x128 .bf16) (hq : QPad x0) (G : Fin 2) (Q : FVec Ideal S1024x128 .bf16)
    (r : Fin 1024) (hQ : ∀ l, Q (ix2 r l) = x0 (ix4 0 ⟨4 * G.val + (rhead r).val, by omega⟩ (rtok r) l))
    (off : Fin 4 → ℕ) (ho : off = ![0, G.val, 256 * (i 1).val - 512, 0]) (h6 h7) (d : Fin 64) :
    k0_pay119 (kernelRun0_A.sl.v41 i) Q (View.ld x6 (Rect.unit (s := S1x2x2048x128) off S1x1x768x128.size h6))
      (View.ld x7 (Rect.unit (s := S1x2x2048x128) off S1x1x768x128.size h7)) (ix2 r (d.castAdd 64))
      = (krow i x0 x2 x3 x4 x5 x6 x7 x8 G (rtok r)).ow (rhead r) d := by
  have hi : (i 1).val < 8 := (i 1).isLt
  rw [pay119_at]
  refine Attn.attend_embed (fun x : Fin 768 => (⟨256 * (i 1).val - 512 + x.val, by omega⟩ : Fin 2048)) (fun a b hab => Fin.ext (by simpa using hab)) _ _ _ _ _ _
    (fun x => (v41_at i r x).symm) (fun x => ?_) (fun x => ?_) (fun k hk => ?_)
  · rw [Attn.sum_lanes (fun l => Q (ix2 r l)) _ (fun j => by rw [hQ]; exact hq _ _ _)]
    simp only [hQ]
    exact congrArg (Attn.dot _) (funext fun d => (win_chunk_at x6 off G _ (by omega) ho h6 x _).symm)
  · exact (win_chunk_at x7 off G _ (by omega) ho h7 x _).symm
  · refine Attn.bit_false (fun hc => hk ?_)
    have hc1 : k.val ≤ tok i (rtok r).val := hc.1
    have hc2 : tok i (rtok r).val ≤ k.val + 512 := hc.2
    unfold tok at hc1 hc2
    have := (rtok r).isLt
    exact ⟨⟨k.val - (256 * (i 1).val - 512), by omega⟩, Fin.ext (by simp only; omega)⟩
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole)

 (x0 : Vec Ideal S1x8x256x128 .bf16) (x1 : Vec Ideal S1x256x128 .f32) (x2 : Vec Ideal S1x2x128x128 .bf16) (x3 : Vec Ideal S1x2x128x128 .bf16) (x4 : Vec Ideal S1x2x2048x128 .bf16) (x5 : Vec Ideal S1x2x2048x128 .bf16) (x6 : Vec Ideal S1x2x2048x128 .bf16) (x7 : Vec Ideal S1x2x2048x128 .bf16) (x8 : Vec Ideal S128x128 .bf16)

/-- Group 0's window branch. -/
theorem v605_at (hq : QPad x0) (r : Fin 1024) (d : Fin 64) :
    kernelRun0_A.sl.v605 (F := Ideal) c i arg2 harg2 arg8 harg8 arg9 harg9 x0 x6 x7 (ix2 r (d.castAdd 64)) = (krow i x0 x2 x3 x4 x5 x6 x7 x8 0 (rtok r)).ow (rhead r) d := by
  unfold kernelRun0_A.sl.v605 kernelRun0_A.sl.v604 kernelRun0_A.sl.r_9 kernelRun0_A.sl.cst_140
  simp only [View.readAt_eq_ld, harg8.read_unread, harg9.read_unread]
  exact window_at i x0 x2 x3 x4 x5 x6 x7 x8 hq 0 _ r (r_1_at c arg2 harg2 x0 r) _ (off4_eq i) _ _ d
/-- Group 1's window branch. -/
theorem r_15_at (hq : QPad x0) (r : Fin 1024) (d : Fin 64) :
    kernelRun0_A.sl.r_15 (F := Ideal) c i arg2 harg2 arg8 harg8 arg9 harg9 x0 x6 x7 (ix2 r (d.castAdd 64)) = (krow i x0 x2 x3 x4 x5 x6 x7 x8 1 (rtok r)).ow (rhead r) d := by
  unfold kernelRun0_A.sl.r_15 kernelRun0_A.sl.r_14
  simp only [View.readAt_eq_ld, harg8.read_unread, harg9.read_unread]
  exact window_at i x0 x2 x3 x4 x5 x6 x7 x8 hq 1 _ r (r_10_at c arg2 harg2 x0 r) _ (off8_eq i) _ _ d

end Cert.KernelIdeal.Gen
end
-- ==== Proof.KOut.lean ====
module
public import proofs.«01_k».proof.Proof.KRow
public import proofs.«01_k».proof.Proof.Words
public import proofs.«01_k».proof.Proof.KWin
@[expose] public section
/-! # The block a grid point writes

Eight heads, gated, laid out two to a 128-lane piece. -/
set_option maxRecDepth 16384
noncomputable section
open Idealize.ShloMosaic
namespace Cert.KernelIdeal.Gen
open Cert.KernelIdeal
open kernelRun0_A.sl

section
variable (i : grid0.Coords) (x0 : Vec Ideal S1x8x256x128 .bf16) (x1 : Vec Ideal S1x256x128 .f32) (x2 x3 : Vec Ideal S1x2x128x128 .bf16)
  (x4 x5 x6 x7 : Vec Ideal S1x2x2048x128 .bf16) (x8 : Vec Ideal S128x128 .bf16)

/-- Head `H`'s output of row `ρ` of a block: its row's gated branches, the gates off its three lanes. -/
def hval (H : Fin 8) (ρ : Fin 256) (d : Fin 64) : EReal :=
  (krow i x0 x2 x3 x4 x5 x6 x7 x8 ⟨H.val / 4, by omega⟩ ρ).out
    (fun g => Ideal.logistic (x1 (ix3 0 ρ ⟨3 * H.val + g.val, by omega⟩))) ⟨H.val % 4, by omega⟩ d

/-- A block's output at row `ρ` and column `L`. -/
def kval (ρ : Fin 256) (L : Fin 512) : EReal := hval i x0 x1 x2 x3 x4 x5 x6 x7 x8 ⟨L.val / 64, by omega⟩ ρ ⟨L.val % 64, by omega⟩

/-- Two heads' words laid side by side. -/
theorem pair_val (p : Fin 4) (W : Vec Ideal S1x256x128 .f32) (a b : Fin 256 → Fin 128 → EReal)
    (hW : ∀ ρ l, W (ix3 0 ρ l) = Scalar.select (IntOp.cmpi CmpIPredicate.slt (BitVec.ofNat 32 l.val) 64#32) (a ρ l) (b ρ ⟨(l.val + 128 - 64) % 128, Nat.mod_lt _ (by omega)⟩))
    (ha : ∀ ρ (d : Fin 64), a ρ (d.castAdd 64) = hval i x0 x1 x2 x3 x4 x5 x6 x7 x8 ⟨2 * p.val, by omega⟩ ρ d)
    (hb : ∀ ρ (d : Fin 64), b ρ (d.castAdd 64) = hval i x0 x1 x2 x3 x4 x5 x6 x7 x8 ⟨2 * p.val + 1, by omega⟩ ρ d)
    (ρ : Fin 256) (l : Fin 128) (L : Fin 512) (hL : L.val = 128 * p.val + l.val) : W (ix3 0 ρ l) = kval i x0 x1 x2 x3 x4 x5 x6 x7 x8 ρ L := by
  rw [hW, show (64#32) = BitVec.ofNat 32 64 from rfl, Attn.w_slt _ _ (by omega) (by omega)]
  unfold kval
  by_cases h : l.val < 64
  · rw [Attn.bit_true h, Attn.sel_one]
    have := ha ρ ⟨l.val, h⟩
    rw [show ((⟨l.val, h⟩ : Fin 64).castAdd 64 : Fin 128) = l from rfl] at this
    rw [this]
    congr 1 <;> exact Fin.ext (by simp only; omega)
  · rw [Attn.bit_false h, Attn.sel_zero]
    have := hb ρ ⟨l.val - 64, by omega⟩
    rw [show ((⟨l.val - 64, by omega⟩ : Fin 64).castAdd 64 : Fin 128) = ⟨(l.val + 128 - 64) % 128, Nat.mod_lt _ (by omega)⟩ from Fin.ext (by simp only [Fin.castAdd_mk]; omega)] at this
    rw [this]
    congr 1 <;> exact Fin.ext (by simp only; omega)
end

theorem p69_at (a b : FVec Ideal S256x128 .f32) (ρ : Fin 256) (l : Fin 128) :
    k0_pay69 a b (ix3 0 ρ l) = Scalar.select (IntOp.cmpi CmpIPredicate.slt (BitVec.ofNat 32 l.val) 64#32) (a (ix2 ρ l)) (b (ix2 ρ ⟨(l.val + 128 - 64) % 128, Nat.mod_lt _ (by omega)⟩)) := by
  pointwise [k0_pay69]
theorem p70_at (o a b : FVec Ideal _ .f32) (w : FVec Ideal _ .f32) (ρ : Fin 256) (l : Fin 128) :
    k0_pay70 o a b w (ix3 0 ρ l) = Scalar.select (IntOp.cmpi CmpIPredicate.slt (BitVec.ofNat 32 l.val) 64#32) (a (ix2 ρ l))
      ((fun (ρ : Fin 256) (l : Fin 128) => b (ix2 ρ l) + w (ix2 ρ 0) * o (ix2 ⟨768 + ρ.val, by omega⟩ l)) ρ ⟨(l.val + 128 - 64) % 128, Nat.mod_lt _ (by omega)⟩) := by
  pointwise [k0_pay70]
theorem p1_at (a b : FVec Ideal S256x128 .f32) (ρ : Fin 256) (l : Fin 128) :
    k0_pay1 a b k0_pay124 64#32 (ix3 0 ρ l) = Scalar.select (IntOp.cmpi CmpIPredicate.slt (BitVec.ofNat 32 l.val) 64#32) (a (ix2 ρ l)) (b (ix2 ρ ⟨(l.val + 128 - 64) % 128, Nat.mod_lt _ (by omega)⟩)) := by
  pointwise [k0_pay1, k0_pay124]
theorem p2_at (a b : FVec Ideal S256x128 .f32) (ρ : Fin 256) (l : Fin 128) :
    k0_pay2 a b (ix3 0 ρ l) = Scalar.select (IntOp.cmpi CmpIPredicate.slt (BitVec.ofNat 32 l.val) 64#32) (a (ix2 ρ l)) (b (ix2 ρ ⟨(l.val + 128 - 64) % 128, Nat.mod_lt _ (by omega)⟩)) := by
  pointwise [k0_pay2]
variable (c : Dev nD) (i : grid0.Coords) (arg2 : Memref sig .tc .vmem S1x8x256x128 .bf16) (harg2 : arg2.IsWhole) (arg3 : Memref sig .tc .vmem S1x256x128 .f32) (harg3 : arg3.IsWhole) (arg4 : Memref sig .tc .vmem S1x2x128x128 .bf16) (harg4 : arg4.IsWhole) (arg5 : Memref sig .tc .vmem S1x2x128x128 .bf16) (harg5 : arg5.IsWhole) (arg6 : Memref sig .tc .vmem S1x2x2048x128 .bf16) (harg6 : arg6.IsWhole) (arg7 : Memref sig .tc .vmem S1x2x2048x128 .bf16) (harg7 : arg7.IsWhole) (arg8 : Memref sig .tc .vmem S1x2x2048x128 .bf16) (harg8 : arg8.IsWhole) (arg9 : Memref sig .tc .vmem S1x2x2048x128 .bf16) (harg9 : arg9.IsWhole) (arg10 : Memref sig .tc .vmem S128x128 .bf16) (harg10 : arg10.IsWhole) (arg11 : Memref sig .tc .vmem S1x256x512 .f32) (harg11 : arg11.IsWhole)

 (x0 : Vec Ideal S1x8x256x128 .bf16) (x1 : Vec Ideal S1x256x128 .f32) (x2 : Vec Ideal S1x2x128x128 .bf16) (x3 : Vec Ideal S1x2x128x128 .bf16) (x4 : Vec Ideal S1x2x2048x128 .bf16) (x5 : Vec Ideal S1x2x2048x128 .bf16) (x6 : Vec Ideal S1x2x2048x128 .bf16) (x7 : Vec Ideal S1x2x2048x128 .bf16) (x8 : Vec Ideal S128x128 .bf16)

theorem v25_at (ρ : Fin 256) (l : Fin 128) : kernelRun0_A.sl.v25 (F := Ideal) c arg3 harg3 x1 (ix2 ρ l) = Ideal.logistic (x1 (ix3 0 ρ l)) := by
  unfold kernelRun0_A.sl.v25 kernelRun0_A.sl.v24
  simp only [View.readAt_eq_ld, harg3.read_unread]
  pointwise

theorem hd0 (hq : QPad x0) (hk : KsPad x4) (hf : SelFin x0 x4) (ρ : Fin 256) (d : Fin 64) : kernelRun0_A.sl.v619 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 0 ρ d := by
  pointwise [kernelRun0_A.sl.v619, v606,v607,v608,v609,v610,v611,v612,v613,v614,v615,v616,v617,v618]
  rw [v25_at, v25_at, v25_at, row0 ρ, r_2_at (x4 := x4) (x5 := x5) (x6 := x6) (x7 := x7) (x8 := x8) (hq := hq), r_8_at (x6 := x6) (x7 := x7) (x3 := x3) (hq := hq) (hk := hk) (hf := hf), v605_at (x2 := x2) (x3 := x3) (x4 := x4) (x5 := x5) (x8 := x8) (hq := hq)]
  simp only [rtok_hrow, rhead_hrow]
  rfl

theorem hd1 (hq : QPad x0) (hk : KsPad x4) (hf : SelFin x0 x4) (ρ : Fin 256) (d : Fin 64) : kernelRun0_A.sl.v633 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 1 ρ d := by
  pointwise [kernelRun0_A.sl.v633, v620,v621,v622,v623,v624,v625,v626,v627,v628,v629,v630,v631,v632]
  rw [v25_at, v25_at, v25_at, row1 ρ, r_2_at (x4 := x4) (x5 := x5) (x6 := x6) (x7 := x7) (x8 := x8) (hq := hq), r_8_at (x6 := x6) (x7 := x7) (x3 := x3) (hq := hq) (hk := hk) (hf := hf), v605_at (x2 := x2) (x3 := x3) (x4 := x4) (x5 := x5) (x8 := x8) (hq := hq)]
  simp only [rtok_hrow, rhead_hrow]
  rfl

theorem hd2 (hq : QPad x0) (hk : KsPad x4) (hf : SelFin x0 x4) (ρ : Fin 256) (d : Fin 64) : kernelRun0_A.sl.v647 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 2 ρ d := by
  pointwise [kernelRun0_A.sl.v647, v634,v635,v636,v637,v638,v639,v640,v641,v642,v643,v644,v645,v646]
  rw [v25_at, v25_at, v25_at, row2 ρ, r_2_at (x4 := x4) (x5 := x5) (x6 := x6) (x7 := x7) (x8 := x8) (hq := hq), r_8_at (x6 := x6) (x7 := x7) (x3 := x3) (hq := hq) (hk := hk) (hf := hf), v605_at (x2 := x2) (x3 := x3) (x4 := x4) (x5 := x5) (x8 := x8) (hq := hq)]
  simp only [rtok_hrow, rhead_hrow]
  rfl

theorem hd3 (hq : QPad x0) (hk : KsPad x4) (hf : SelFin x0 x4) (ρ : Fin 256) (d : Fin 64) : kernelRun0_A.sl.v656 (F := Ideal) c i arg2 harg2 arg3 harg3 arg4 harg4 arg5 harg5 arg6 harg6 arg7 harg7 arg8 harg8 arg9 harg9 arg10 harg10 arg11 harg11 x0 x1 x2 x3 x4 x5 x8 (ix2 ρ (d.castAdd 64)) + kernelRun0_A.sl.v657 (F := Ideal) c arg3 harg3 x1 (ix2 ρ 0) * kernelRun0_A.sl.v605 (F := Ideal) c i arg2 harg2 arg8 harg8 arg9 harg9 x0 x6 x7 (ix2 ⟨768 + ρ.val, by omega⟩ (d.castAdd 64)) = hval i x0 x1 x2 x3 x4 x5 x6 x7 x8 3 ρ d := by
  pointwise [kernelRun0_A.sl.v656, kernelRun0_A.sl.v657, v648,v649,v650,v651,v652,v653,v654,v655]
  rw [v25_at, v25_at, v25_at, row3 ρ, r_2_at (x4 := x4) (x5 := x5) (x6 := x6) (x7 := x7) (x8 := x8) (hq := hq), r_8_at (x6 := x6) (x7 := x7) (x3 := x3) (hq := hq) (hk := hk) (hf := hf), v605_at (x2 := x2) (x3 := x3) (x4 := x4) (x5 := x5) (x8 := x8) (hq := hq)]
  simp only [rtok_hrow, rhead_hrow]
  rfl

theorem hd4 (hq : QPad x0) (hk : KsPad x4) (hf : SelFin x0 x4) (ρ : Fin 256) (d : Fin 64) : kernelRun0_A.sl.r_16 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 4 ρ d := by
  unfold kernelRun0_A.sl.r_16
  pointwise [k0_pay120]
  change _ + _ * kernelRun0_A.sl.r_15 (F := Ideal) c i arg2 harg2 arg8 harg8 arg9 harg9 x0 x6 x7 _ = _
  rw [v25_at, v25_at, v25_at, row0 ρ, v702_at (x4 := x4) (x5 := x5) (x6 := x6) (x7 := x7) (x8 := x8) (hq := hq), r_13_at (x6 := x6) (x7 := x7) (x3 := x3) (hq := hq) (hk := hk) (hf := hf), r_15_at (x2 := x2) (x3 := x3) (x4 := x4) (x5 := x5) (x8 := x8) (hq := hq)]
  simp only [rtok_hrow, rhead_hrow]
  rfl

theorem hd5 (hq : QPad x0) (hk : KsPad x4) (hf : SelFin x0 x4) (ρ : Fin 256) (d : Fin 64) : kernelRun0_A.sl.r_17 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 5 ρ d := by
  unfold kernelRun0_A.sl.r_17
  pointwise [k0_pay121]
  change _ + _ * kernelRun0_A.sl.r_15 (F := Ideal) c i arg2 harg2 arg8 harg8 arg9 harg9 x0 x6 x7 _ = _
  rw [v25_at, v25_at, v25_at, row1 ρ, v702_at (x4 := x4) (x5 := x5) (x6 := x6) (x7 := x7) (x8 := x8) (hq := hq), r_13_at (x6 := x6) (x7 := x7) (x3 := x3) (hq := hq) (hk := hk) (hf := hf), r_15_at (x2 := x2) (x3 := x3) (x4 := x4) (x5 := x5) (x8 := x8) (hq := hq)]
  simp only [rtok_hrow, rhead_hrow]
  rfl

theorem hd6 (hq : QPad x0) (hk : KsPad x4) (hf : SelFin x0 x4) (ρ : Fin 256) (d : Fin 64) : kernelRun0_A.sl.r_18 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 6 ρ d := by
  unfold kernelRun0_A.sl.r_18
  pointwise [k0_pay122]
  rw [v25_at, v25_at, v25_at, row2 ρ, v702_at (x4 := x4) (x5 := x5) (x6 := x6) (x7 := x7) (x8 := x8) (hq := hq), r_13_at (x6 := x6) (x7 := x7) (x3 := x3) (hq := hq) (hk := hk) (hf := hf), r_15_at (x2 := x2) (x3 := x3) (x4 := x4) (x5 := x5) (x8 := x8) (hq := hq)]
  simp only [rtok_hrow, rhead_hrow]
  rfl

theorem hd7 (hq : QPad x0) (hk : KsPad x4) (hf : SelFin x0 x4) (ρ : Fin 256) (d : Fin 64) : kernelRun0_A.sl.r_19 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ (d.castAdd 64)) = hval i x0 x1 x2 x3 x4 x5 x6 x7 x8 7 ρ d := by
  unfold kernelRun0_A.sl.r_19
  pointwise [k0_pay123]
  rw [v25_at, v25_at, v25_at, row3 ρ, v702_at (x4 := x4) (x5 := x5) (x6 := x6) (x7 := x7) (x8 := x8) (hq := hq), r_13_at (x6 := x6) (x7 := x7) (x3 := x3) (hq := hq) (hk := hk) (hf := hf), r_15_at (x2 := x2) (x3 := x3) (x4 := x4) (x5 := x5) (x8 := x8) (hq := hq)]
  simp only [rtok_hrow, rhead_hrow]
  rfl

/-- THE BLOCK: what the kernel leaves at a grid point. -/
theorem out_at (hq : QPad x0) (hk : KsPad x4) (hf : SelFin x0 x4) (y : S1x256x512.Idx) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 y = kval i x0 x1 x2 x3 x4 x5 x6 x7 x8 (y 1) (y 2) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8)]
  refine View.canon_apply_of_pieces (fun y => kval i x0 x1 x2 x3 x4 x5 x6 x7 x8 (y 1) (y 2)) _ ?_ y (cover0_A_9 c i arg2 harg2 arg3 harg3 arg4 harg4 arg5 harg5 arg6 harg6 arg7 harg7 arg8 harg8 arg9 harg9 arg10 harg10 arg11 harg11 x0 x1 x2 x3 x4 x5 x6 x7 x8 y)
  unfold kernelRun0_A
  dsimp only
  intro p hp
  simp only [List.mem_cons, List.not_mem_nil, or_false] at hp
  have key : ∀ (p : Fin 4) (W : Vec Ideal S1x256x128 .f32) (off : Fin 3 → ℕ) (inb) (hoff : off = ![0, 0, 128 * p.val]),
      (∀ ρ l, W (ix3 0 ρ l) = kval i x0 x1 x2 x3 x4 x5 x6 x7 x8 ρ ⟨128 * p.val + l.val, by omega⟩) →
      ∀ x : S1x256x128.Idx, W x = (fun y : S1x256x512.Idx => kval i x0 x1 x2 x3 x4 x5 x6 x7 x8 (y 1) (y 2)) ((Rect.unit (s := S1x256x512) off S1x256x128.size inb).emb x) := by
    intro p W off inb hoff h x
    subst hoff
    obtain ⟨ρ, l, rfl⟩ : ∃ (ρ : Fin 256) (l : Fin 128), x = ix3 0 ρ l := ⟨x 1, x 2, by rw [eq_ix3 x]; congr 1; exact Subsingleton.elim (α := Fin 1) _ _⟩
    rw [h]
    dsimp only
    congr 1 <;> exact Fin.ext (by simp [Rect.emb, Rect.unit, ix3])
  rcases hp with rfl | rfl | rfl | rfl
  · exact key 3 _ _ inb_S1x256x512_S1x256x128_0_0_384 rfl fun ρ l => pair_val i x0 x1 x2 x3 x4 x5 x6 x7 x8 3 _ (fun ρ l => kernelRun0_A.sl.r_18 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (fun ρ l => kernelRun0_A.sl.r_19 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (p2_at _ _)
      (fun ρ d => hd6 (hq := hq) (hk := hk) (hf := hf) (ρ := ρ) (d := d) ..) (fun ρ d => hd7 (hq := hq) (hk := hk) (hf := hf) (ρ := ρ) (d := d) ..) ρ l _ rfl
  · exact key 2 _ _ inb_S1x256x512_S1x256x128_0_0_256 rfl fun ρ l => pair_val i x0 x1 x2 x3 x4 x5 x6 x7 x8 2 _ (fun ρ l => kernelRun0_A.sl.r_16 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (fun ρ l => kernelRun0_A.sl.r_17 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (p1_at _ _)
      (fun ρ d => hd4 (hq := hq) (hk := hk) (hf := hf) (ρ := ρ) (d := d) ..) (fun ρ d => hd5 (hq := hq) (hk := hk) (hf := hf) (ρ := ρ) (d := d) ..) ρ l _ rfl
  · exact key 1 _ _ inb_S1x256x512_S1x256x128_0_0_128 rfl fun ρ l => pair_val i x0 x1 x2 x3 x4 x5 x6 x7 x8 1 _ (fun ρ l => kernelRun0_A.sl.v647 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (fun ρ l => kernelRun0_A.sl.v656 (F := Ideal) c i arg2 harg2 arg3 harg3 arg4 harg4 arg5 harg5 arg6 harg6 arg7 harg7 arg8 harg8 arg9 harg9 arg10 harg10 arg11 harg11 x0 x1 x2 x3 x4 x5 x8 (ix2 ρ l) + kernelRun0_A.sl.v657 (F := Ideal) c arg3 harg3 x1 (ix2 ρ 0) * kernelRun0_A.sl.v605 (F := Ideal) c i arg2 harg2 arg8 harg8 arg9 harg9 x0 x6 x7 (ix2 ⟨768 + ρ.val, by omega⟩ l)) (p70_at _ _ _ _)
      (fun ρ d => hd2 (hq := hq) (hk := hk) (hf := hf) (ρ := ρ) (d := d) ..) (fun ρ d => hd3 (hq := hq) (hk := hk) (hf := hf) (ρ := ρ) (d := d) ..) ρ l _ rfl
  · exact key 0 _ _ inb_S1x256x512_S1x256x128_0_0_0 rfl fun ρ l => pair_val i x0 x1 x2 x3 x4 x5 x6 x7 x8 0 _ (fun ρ l => kernelRun0_A.sl.v619 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (fun ρ l => kernelRun0_A.sl.v633 (F := Ideal) c i arg2 harg2 arg3 harg3 arg4 harg4 arg5 harg5 arg6 harg6 arg7 harg7 arg8 harg8 arg9 harg9 arg10 harg10 arg11 harg11 x0 x1 x2 x3 x4 x5 x6 x7 x8 (ix2 ρ l)) (p69_at _ _)
      (fun ρ d => hd0 (hq := hq) (hk := hk) (hf := hf) (ρ := ρ) (d := d) ..) (fun ρ d => hd1 (hq := hq) (hk := hk) (hf := hf) (ρ := ρ) (d := d) ..) ρ l _ rfl

end Cert.KernelIdeal.Gen
end
-- ==== Proof.TopK.lean ====
module
public import proofs.«01_k».proof.Proof.Spec
public import Idealize.ShloMosaic.Lib.SortFacts
@[expose] public section
/-! # The sixteen best blocks

A stable sort from the greatest down puts a block at the position that counts the blocks ahead of it, so a block is
among the first sixteen exactly when fewer than sixteen are ahead of it. -/
noncomputable section
open Idealize.ShloMosaic
namespace Attn

variable {m : ℕ} (s : Fin m → EReal)

theorem ahead_asymm {a b : Fin m} (h : ahead s b a) : ¬ ahead s a b := by
  unfold ahead at *
  rintro (h' | ⟨h', h''⟩) <;> rcases h with h | ⟨h, h'''⟩
  · exact absurd h (not_lt.mpr h'.le)
  · exact absurd h' (by rw [h]; exact lt_irrefl _)
  · exact absurd h (by rw [h']; exact lt_irrefl _)
  · omega

variable (before : Fin m → Fin m → Bool) (hb : ∀ a b, before a b = true ↔ s b < s a)

include hb in
theorem sorted_insert (a : Fin m) (l : List (Fin m)) (hl : l.Pairwise fun x y => ahead s y x) (ha : ∀ x ∈ l, a < x) :
    (insertBefore before a l).Pairwise fun x y => ahead s y x := by
  induction l with
  | nil => exact List.pairwise_singleton _ _
  | cons b l ih =>
    rw [List.pairwise_cons] at hl
    unfold insertBefore
    split
    · rename_i h
      rw [List.pairwise_cons]
      refine ⟨fun x hx => ?_, ih hl.2 fun x hx => ha x (List.mem_cons_of_mem _ hx)⟩
      rcases List.mem_cons.mp ((perm_insertBefore before a l).mem_iff.mp hx) with rfl | hx
      · exact Or.inl ((hb _ _).mp h)
      · exact hl.1 x hx
    · rename_i h
      have hab : s b ≤ s a := not_lt.mp fun hlt => h ((hb b a).mpr hlt)
      rw [List.pairwise_cons]
      refine ⟨fun x hx => ?_, List.pairwise_cons.mpr hl⟩
      have hxb : s x ≤ s b := by
        rcases List.mem_cons.mp hx with rfl | hx
        · exact le_rfl
        · rcases hl.1 x hx with h | h
          · exact h.le
          · exact h.1.ge
      rcases lt_or_eq_of_le (hxb.trans hab) with h' | h'
      · exact Or.inl h'
      · exact Or.inr ⟨h'.symm, ha x hx⟩

include hb in
theorem sorted_stableSort (l : List (Fin m)) (hl : l.Pairwise (· < ·)) :
    (stableSort before l).Pairwise fun x y => ahead s y x := by
  induction l with
  | nil => exact List.Pairwise.nil
  | cons a l ih =>
    rw [List.pairwise_cons] at hl
    unfold stableSort
    exact sorted_insert s before hb a _ (ih hl.2) fun x hx => hl.1 x ((perm_stableSort before l).mem_iff.mp hx)

include hb in
theorem ahead_sortedFrom {p k : Fin m} (h : p < k) : ahead s (sortedFrom before k) (sortedFrom before p) := by
  have hs : (sortPositions m before).Pairwise fun x y => ahead s y x :=
    sorted_stableSort s before hb _ (List.pairwise_lt_finRange m)
  rw [List.pairwise_iff_get] at hs
  unfold sortedFrom
  exact hs (p.cast _) (k.cast _) (by rw [Fin.lt_def] at h ⊢; exact h)

include hb in
/-- The block at position `k` of the order has `k` blocks ahead of it. -/
theorem rank_sortedFrom (k : Fin m) : rank s (sortedFrom before k) = k.val := by
  classical
  have : (Finset.univ.filter fun n => ahead s (sortedFrom before k) n) = (Finset.Iio k).image (sortedFrom before) := by
    ext n
    obtain ⟨p, rfl⟩ := sortedFrom_surjective before n
    simp only [Finset.mem_filter, Finset.mem_univ, true_and, Finset.mem_image, Finset.mem_Iio]
    constructor
    · intro h
      refine ⟨p, ?_, rfl⟩
      rcases lt_trichotomy p k with h' | h' | h'
      · exact h'
      · subst h'; exact absurd h (ahead_asymm s h)
      · exact absurd h (ahead_asymm s (ahead_sortedFrom s before hb h'))
    · rintro ⟨p', h, he⟩
      rw [← he]; exact ahead_sortedFrom s before hb h
  unfold rank
  rw [show (Finset.univ.filter fun n => ahead s (sortedFrom before k) n) = (Finset.Iio k).image (sortedFrom before) by
    convert this, Finset.card_image_of_injective _ (sortedFrom_injective before), Fin.card_Iio]

include hb in
/-- A block is at one of the first sixteen positions exactly when it is picked. -/
theorem mem_first_iff (hm : 16 ≤ m) (j : Fin m) : (∃ p : Fin 16, sortedFrom before ⟨p.val, by omega⟩ = j) ↔ rank s j < 16 := by
  obtain ⟨k, rfl⟩ := sortedFrom_surjective before j
  rw [rank_sortedFrom s before hb]
  constructor
  · rintro ⟨p, hp⟩
    rw [← sortedFrom_injective before hp]; exact p.isLt
  · intro h; exact ⟨⟨k.val, h⟩, rfl⟩

end Attn
end
-- ==== Proof.RRow.lean ====
module
public import proofs.«01_k».proof.Proof.Gen.ReferenceIdeal.Run
public import proofs.«01_k».proof.Proof.Words
public import proofs.«01_k».proof.Proof.TopK
public import proofs.«01_k».proof.Proof.SelKeys
public import Idealize.ShloMosaic.Lib.Routing.OpsOrder
public import Idealize.ShloMosaic.Lib.Tactic.CleanTypes
@[expose] public section
/-! # The reference read as rows of the layer

Every named term of the reference, at an index, is a function of one row of the arguments. -/
set_option maxRecDepth 16384
noncomputable section
open Idealize.ShloMosaic Idealize.ShloMosaic.StableHlo
namespace Attn
/-- Token `t` of batch element `b` and key group `G`, read off the arrays. -/
def grow (x0 : Fin 8 → Fin 8 → Fin 2048 → Fin 128 → EReal) (x2 x3 : Fin 8 → Fin 2 → Fin 128 → Fin 128 → EReal)
    (x4 x5 x6 x7 : Fin 8 → Fin 2 → Fin 2048 → Fin 128 → EReal) (x8 : Fin 128 → Fin 128 → EReal)
    (b : Fin 8) (t : Fin 2048) (G : Fin 2) : Row where
  t := t.val
  q h d := x0 b ⟨4 * G.val + h.val, by omega⟩ t (d.castAdd 64)
  kc c d := x2 b G c (d.castAdd 64)
  vc c d := x3 b G c (d.castAdd 64)
  ks k d := x4 b G k (d.castAdd 64)
  vs k d := x5 b G k (d.castAdd 64)
  kw k d := x6 b G k (d.castAdd 64)
  vw k d := x7 b G k (d.castAdd 64)
  agg c j := x8 c ⟨64 + j.val, by omega⟩

/-- Head `H`'s output of token `t` of batch element `b`. -/
def gval (x0 : Fin 8 → Fin 8 → Fin 2048 → Fin 128 → EReal) (x1 : Fin 8 → Fin 2048 → Fin 128 → EReal)
    (x2 x3 : Fin 8 → Fin 2 → Fin 128 → Fin 128 → EReal)
    (x4 x5 x6 x7 : Fin 8 → Fin 2 → Fin 2048 → Fin 128 → EReal) (x8 : Fin 128 → Fin 128 → EReal)
    (b : Fin 8) (t : Fin 2048) (H : Fin 8) (d : Fin 64) : EReal :=
  (grow x0 x2 x3 x4 x5 x6 x7 x8 b t ⟨H.val / 4, by omega⟩).out
    (fun g => Ideal.logistic (x1 b t ⟨3 * H.val + g.val, by omega⟩)) ⟨H.val % 4, by omega⟩ d
end Attn

namespace Cert.ReferenceIdeal.Value
open Cert.ReferenceIdeal Cert.ReferenceIdeal.Gen
variable (V : Valuation τ sig (Elt Ideal))

/-- A row of the reference's arguments. -/
def rrow (b : Fin 8) (t : Fin 2048) (G : Fin 2) : Attn.Row :=
  Attn.grow (fun b h t l => V (Proc.devRef .tc main_arg0) (ix4 b h t l))
    (fun b h t l => V (Proc.devRef .tc main_arg2) (ix4 b h t l))
    (fun b h t l => V (Proc.devRef .tc main_arg3) (ix4 b h t l))
    (fun b h t l => V (Proc.devRef .tc main_arg4) (ix4 b h t l))
    (fun b h t l => V (Proc.devRef .tc main_arg5) (ix4 b h t l))
    (fun b h t l => V (Proc.devRef .tc main_arg6) (ix4 b h t l))
    (fun b h t l => V (Proc.devRef .tc main_arg7) (ix4 b h t l))
    (fun c l => V (Proc.devRef .tc main_arg8) (ix2 c l)) b t G

theorem bot_word : Ideal.ofBits FTy.f32 4286578688#32 = (⊥ : EReal) := by simp [Ideal.ofBits, Ideal.ieee]
theorem zero_word : Ideal.ofBits FTy.f32 0#32 = (0 : EReal) := by simp [Ideal.ofBits, Ideal.ieee]

theorem v2_at (b : Fin 8) (G : Fin 2) (h : Fin 4) (t : Fin 2048) (d : Fin 64) :
    (res_main_v2 V (ix5 b G h t d) : EReal) = (rrow V b t G).q h d := by
  pointwise [res_main_v2]
  refine congrArg (V (Proc.devRef .tc main_arg0)) ?_
  rw [show (⟨4 * G.val + h.val, by omega⟩ : Fin 8) = ⟨G.val * 4 + h.val, by omega⟩ from Fin.ext (by simp only; omega)]
  rfl
theorem v26_at (t : Fin 2048) (c : Fin 128) : (res_main_v26 V (ix2 t c) : BitVec 1) = Attn.cmBit t.val c := by
  pointwise [res_main_v26, res_main_v15]
  rw [show (16#32) = BitVec.ofNat 32 16 from rfl, show (31#32) = BitVec.ofNat 32 31 from rfl, Attn.w_mul, Attn.w_add, Attn.w_sle _ _ (by omega) (by omega)]
  exact Attn.bit_congr (by omega)

theorem max_c (W : FVec Ideal S8x2x4x2048x128 .f32) (b : Fin 8) (G : Fin 2) (h : Fin 4) (t : Fin 2048) :
    Host.reduce FloatOps.maximumf W (constant S_ .f32 0xFF800000#32) reducesTo_S8x2x4x2048x128_S8x2x4x2048_d4 h_S_ (ix4 b G h t)
      = Finset.univ.fold max ⊥ fun x => W (ix5 b G h t x) := by
  pointwise
  rw [bot_word]
theorem max_k (W : FVec Ideal S8x2x4x2048x2048 .f32) (b : Fin 8) (G : Fin 2) (h : Fin 4) (t : Fin 2048) :
    Host.reduce FloatOps.maximumf W (constant S_ .f32 0xFF800000#32) reducesTo_S8x2x4x2048x2048_S8x2x4x2048_d4 h_S_ (ix4 b G h t)
      = Finset.univ.fold max ⊥ fun x => W (ix5 b G h t x) := by
  pointwise
  rw [bot_word]

theorem v27_at (b : Fin 8) (G : Fin 2) (h : Fin 4) (t : Fin 2048) (c : Fin 128) :
    (res_main_v27 V (ix5 b G h t c) : EReal) = Attn.masked (Attn.cmBit t.val) (fun c => Attn.dot ((rrow V b t G).q h) ((rrow V b t G).kc c)) c := by
  pointwise [res_main_v27]
  unfold Attn.masked Attn.dot
  simp only [v26_at, v2_at]
  refine congrArg _ ?_
  exact bot_word
theorem v33_at (b : Fin 8) (G : Fin 2) (h : Fin 4) (t : Fin 2048) (c : Fin 128) :
    (res_main_v33 V (ix5 b G h t c) : EReal) = Attn.ex (Attn.cmBit t.val) (fun c => Attn.dot ((rrow V b t G).q h) ((rrow V b t G).kc c)) c := by
  unfold res_main_v33
  clean_types
  pointwise
  unfold Attn.ex Attn.top
  simp only [v26_at, v27_at, bot_word]
  refine congrArg _ ?_
  exact zero_word
theorem v39_at (b : Fin 8) (G : Fin 2) (h : Fin 4) (t : Fin 2048) (c : Fin 128) :
    (res_main_v39 V (ix5 b G h t c) : EReal) = (rrow V b t G).pc h c := by
  pointwise [res_main_v39]
  simp only [v33_at]
  rfl
theorem w_div64 (t : Fin 2048) : IntOp.divsi ArithUnit.host (BitVec.ofNat 32 t.val) 64#32 = BitVec.ofNat 32 (t.val / 64) :=
  (by decide +kernel : ∀ t : Fin 2048, IntOp.divsi ArithUnit.host (BitVec.ofNat 32 t.val) 64#32 = BitVec.ofNat 32 (t.val / 64)) t
theorem v70_at (b : Fin 8) (G : Fin 2) (t : Fin 2048) (j : Fin 32) :
    (res_main_v70 V (ix4 b G t j) : EReal) = (rrow V b t G).sc j := by
  pointwise [res_main_v70, res_main_v46, res_main_v49, res_main_v15]
  simp only [v39_at]
  rw [w_div64 t, show (64#32) = BitVec.ofNat 32 64 from rfl, show (0#32) = BitVec.ofNat 32 0 from rfl, Attn.w_mul,
    Attn.w_sle _ _ (by omega) (by omega), Attn.w_eq _ _ (by omega) (by omega), Attn.w_eq _ _ (by omega) (by omega),
    Attn.w_eq_pred _ _ (by omega) (by omega), Attn.bit_or, Attn.bit_or]
  unfold Attn.Row.sc Attn.score
  rw [Attn.bit_congr (show j.val * 64 ≤ t.val ↔ 64 * j.val ≤ t.val by omega), Attn.bit_congr (or_assoc (a := j.val = 0) (b := j.val = t.val / 64) (c := j.val + 1 = t.val / 64))]
  rfl
theorem topk_at (W : FVec Ideal S8x2x2048x32 .f32) (b : Fin 8) (G : Fin 2) (t : Fin 2048) (x : Fin 16) :
    (Host.topK S8x2x2048x16 3 (FloatOps.cmpfTotal .gt) W sliceFits_S8x2x2048x32_S8x2x2048x16).2 (ix4 b G t x)
      = BitVec.ofNat 32 (sortedFrom (fun k k' : Fin 32 => FloatOps.cmpfTotal (F := Ideal) (φ := .f32) .gt (W (ix4 b G t k)) (W (ix4 b G t k')) == 1#1) ⟨x.val, by omega⟩).val := by
  have hal : ∀ (y : Fin 32) (k : Fin (S8x2x2048x32.size 3)), (ix4 b G t y : S8x2x2048x32.Idx).along 3 k = ix4 b G t k := by
    intro y k
    funext a
    match a with
    | ⟨0, _⟩ => rfl
    | ⟨1, _⟩ => rfl
    | ⟨2, _⟩ => rfl
    | ⟨3, _⟩ => rfl
  have key : ∀ j0 : S8x2x2048x32.Idx, j0 = ix4 b G t ⟨x.val, by omega⟩ →
      iotaInDim S8x2x2048x32 32 3 (j0.along 3 (sortedFrom (fun k k' => FloatOps.cmpfTotal (F := Ideal) (φ := .f32) .gt (W (j0.along 3 k)) (W (j0.along 3 k')) == 1#1) (j0 3)))
        = BitVec.ofNat 32 (sortedFrom (fun k k' : Fin 32 => FloatOps.cmpfTotal (F := Ideal) (φ := .f32) .gt (W (ix4 b G t k)) (W (ix4 b G t k')) == 1#1) ⟨x.val, by omega⟩).val := by
    rintro _ rfl
    simp only [hal]
    rfl
  unfold Host.topK Host.sort2
  simp only [dif_pos (show 3 < S8x2x2048x32.rank by decide)]
  refine key _ ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)
theorem v85_at (t k : Fin 2048) : (res_main_v85 V (ix2 t k) : BitVec 1) = Attn.bit (k.val ≤ t.val) := by
  pointwise [res_main_v85, res_main_v15]
  rw [Attn.w_sle _ _ (by omega) (by omega)]
theorem v112_at (t k : Fin 2048) : (res_main_v112 V (ix2 t k) : BitVec 1) = Attn.winBit t.val k := by
  pointwise [res_main_v112, res_main_v15]
  rw [v85_at, Attn.w_sge_sub _ _ (by omega) (by omega), Attn.bit_and]
  rfl
theorem v90_at (b : Fin 8) (G : Fin 2) (t k : Fin 2048) :
    (res_main_v90 V (ix5 b G 0 t k) : BitVec 1) = Attn.selBit (rrow V b t G).sc t.val k := by
  pointwise [res_main_v90]
  rw [v85_at]
  unfold Attn.selBit
  refine congrArg (IntOp.andi · _) ?_
  have hW : (fun j : Fin 32 => (res_main_v70 V (ix4 b G t j) : EReal)) = (rrow V b t G).sc := funext fun j => v70_at V b G t j
  refine Eq.trans (Finset.fold_congr fun x _ => congrArg (IntOp.cmpi .eq · _) (topk_at (res_main_v70 V) b G t x)) ?_
  have one : ∀ (a : BitVec 1) (p : Prop) [Decidable p], (a = 1#1 ↔ p) → a = Attn.bit p := by
    intro a p _ h
    by_cases hp : p
    · rw [Attn.bit_true hp]; exact h.mpr hp
    · rw [Attn.bit_false hp]; exact (BitVec.eq_zero_or_eq_one a).resolve_right fun h1 => hp (h.mp h1)
  refine one _ _ ?_
  rw [Idealize.ShloMosaic.Routing.fold_ori, ← Attn.mem_first_iff (rrow V b t G).sc (fun k k' : Fin 32 => FloatOps.cmpfTotal (F := Ideal) (φ := .f32) .gt (res_main_v70 V (ix4 b G t k)) (res_main_v70 V (ix4 b G t k')) == 1#1) ?_ (by omega)]
  · constructor
    · rintro ⟨x, -, hx⟩
      rw [Attn.w_eq _ _ (by omega) (by omega)] at hx
      refine ⟨x, Fin.ext ?_⟩
      by_contra hne
      rw [Attn.bit_false hne] at hx
      exact absurd hx (by decide)
    · rintro ⟨x, hx⟩
      refine ⟨x, Finset.mem_univ _, ?_⟩
      rw [Attn.w_eq _ _ (by omega) (by omega)]
      exact Attn.bit_true (congrArg Fin.val hx)
  · intro k k'
    rw [← hW]
    show (BitVec.ofBool (decide _) == 1#1) = true ↔ _
    rw [beq_iff_eq]
    exact ⟨fun h => by_contra fun hn => absurd (h.symm.trans (Attn.bit_false hn)) (by decide), fun h => Attn.bit_true h⟩
theorem v136_at (b : Fin 8) (G : Fin 2) (h : Fin 4) (t : Fin 2048) (k : Fin 3) :
    (res_main_v136 V (ix5 b G h t k) : EReal) = Ideal.logistic (V (Proc.devRef .tc main_arg1) (ix3 b t ⟨3 * (4 * G.val + h.val) + k.val, by omega⟩)) := by
  pointwise [res_main_v136]
  rw [show (⟨3 * (4 * G.val + h.val) + k.val, by omega⟩ : Fin 128) = ⟨G.val * 12 + h.val * 3 + k.val, by omega⟩ from Fin.ext (by simp only; omega)]
  rfl
end Cert.ReferenceIdeal.Value
end
-- ==== Proof.KArr.lean ====
module
public import proofs.«01_k».proof.Proof.KOut
public import proofs.«01_k».proof.Proof.RRow
public import proofs.«01_k».proof.Proof.Gen.KernelIdeal.Value
@[expose] public section
/-! # The kernel's result array

Grid point `8 b + n` writes tokens `256 n` to `256 n + 255` of batch element `b`; its blocks are those rows of the
arguments, so every entry of the result is its head's gated branches at its token. -/
set_option maxRecDepth 16384
noncomputable section
open Idealize.ShloMosaic Idealize.ShloMosaic.TcCoe
namespace Cert.KernelIdeal.Gen
open Cert.KernelIdeal

variable (m : (ℓ : Loc nD τ sig) → Buf (Elt Ideal) ℓ) (c : Dev nD)

/-- Where each window's block sits at each of the 64 grid points. -/
theorem idx_facts : ∀ t : Fin cfg0.N,
    (win0_0.index t (0 : Fin 4) = t.val / 8 ∧ win0_0.index t (1 : Fin 4) = 0 ∧ win0_0.index t (2 : Fin 4) = t.val % 8 ∧ win0_0.index t (3 : Fin 4) = 0)
    ∧ (win0_1.index t (0 : Fin 3) = t.val / 8 ∧ win0_1.index t (1 : Fin 3) = t.val % 8 ∧ win0_1.index t (2 : Fin 3) = 0)
    ∧ (win0_2.index t (0 : Fin 4) = t.val / 8 ∧ win0_2.index t (1 : Fin 4) = 0 ∧ win0_2.index t (2 : Fin 4) = 0 ∧ win0_2.index t (3 : Fin 4) = 0)
    ∧ (win0_3.index t (0 : Fin 4) = t.val / 8 ∧ win0_3.index t (1 : Fin 4) = 0 ∧ win0_3.index t (2 : Fin 4) = 0 ∧ win0_3.index t (3 : Fin 4) = 0)
    ∧ (win0_4.index t (0 : Fin 4) = t.val / 8 ∧ win0_4.index t (1 : Fin 4) = 0 ∧ win0_4.index t (2 : Fin 4) = 0 ∧ win0_4.index t (3 : Fin 4) = 0)
    ∧ (win0_5.index t (0 : Fin 4) = t.val / 8 ∧ win0_5.index t (1 : Fin 4) = 0 ∧ win0_5.index t (2 : Fin 4) = 0 ∧ win0_5.index t (3 : Fin 4) = 0)
    ∧ (win0_6.index t (0 : Fin 4) = t.val / 8 ∧ win0_6.index t (1 : Fin 4) = 0 ∧ win0_6.index t (2 : Fin 4) = 0 ∧ win0_6.index t (3 : Fin 4) = 0)
    ∧ (win0_7.index t (0 : Fin 4) = t.val / 8 ∧ win0_7.index t (1 : Fin 4) = 0 ∧ win0_7.index t (2 : Fin 4) = 0 ∧ win0_7.index t (3 : Fin 4) = 0)
    ∧ (win0_8.index t (0 : Fin 2) = 0 ∧ win0_8.index t (1 : Fin 2) = 0)
    ∧ (win0_9.index t (0 : Fin 3) = t.val / 8 ∧ win0_9.index t (1 : Fin 3) = t.val % 8 ∧ win0_9.index t (2 : Fin 3) = 0)
    ∧ (grid0.coords t 1).val = t.val % 8 :=
  (by decide +kernel : ∀ t : Fin grid0.N, _)

theorem t_lt (t : Fin cfg0.N) : t.val < 64 := t.isLt

theorem iblk0_at (t : Fin cfg0.N) (h : Fin 8) (ρ : Fin 256) (l : Fin 128) :
    (iblk m c 0 t (ix4 0 h ρ l) : EReal) = m ((c.tc : Thread nD τ).loc main_arg0) (ix4 ⟨t.val / 8, by have := t_lt t; omega⟩ h ⟨256 * (t.val % 8) + ρ.val, by omega⟩ l) := by
  obtain ⟨f0, f1, f2, f3, f4, f5, f6, f7, f8, f9, f10⟩ := idx_facts t
  have := t_lt t
  show V m c main_arg0 (((cfg0.win 0).blk t).view.emb _) = _
  refine congrArg (m ((c.tc : Thread nD τ).loc main_arg0)) ?_
  funext a
  apply Fin.ext
  match a with
  | ⟨0, _⟩ => show win0_0.index t (0 : Fin 4) * 1 + 1 * 0 = t.val / 8; omega
  | ⟨1, _⟩ => show win0_0.index t (1 : Fin 4) * 8 + 1 * h.val = h.val; omega
  | ⟨2, _⟩ => show win0_0.index t (2 : Fin 4) * 256 + 1 * ρ.val = 256 * (t.val % 8) + ρ.val; omega
  | ⟨3, _⟩ => show win0_0.index t (3 : Fin 4) * 128 + 1 * l.val = l.val; omega

theorem iblk1_at (t : Fin cfg0.N) (ρ : Fin 256) (l : Fin 128) :
    (iblk m c 1 t (ix3 0 ρ l) : EReal) = m ((c.tc : Thread nD τ).loc main_arg1) (ix3 ⟨t.val / 8, by have := t_lt t; omega⟩ ⟨256 * (t.val % 8) + ρ.val, by omega⟩ l) := by
  obtain ⟨f0, f1, f2, f3, f4, f5, f6, f7, f8, f9, f10⟩ := idx_facts t
  have := t_lt t
  show V m c main_arg1 (((cfg0.win 1).blk t).view.emb _) = _
  refine congrArg (m ((c.tc : Thread nD τ).loc main_arg1)) ?_
  funext a
  apply Fin.ext
  match a with
  | ⟨0, _⟩ => show win0_1.index t (0 : Fin 3) * 1 + 1 * 0 = t.val / 8; omega
  | ⟨1, _⟩ => show win0_1.index t (1 : Fin 3) * 256 + 1 * ρ.val = 256 * (t.val % 8) + ρ.val; omega
  | ⟨2, _⟩ => show win0_1.index t (2 : Fin 3) * 128 + 1 * l.val = l.val; omega

theorem iblk2_at (t : Fin cfg0.N) (G : Fin 2) (k : Fin 128) (l : Fin 128) :
    (iblk m c 2 t (ix4 0 G k l) : EReal) = m ((c.tc : Thread nD τ).loc main_arg2) (ix4 ⟨t.val / 8, by have := t_lt t; omega⟩ G k l) := by
  obtain ⟨f0, f1, f2, f3, f4, f5, f6, f7, f8, f9, f10⟩ := idx_facts t
  have := t_lt t
  show V m c main_arg2 (((cfg0.win 2).blk t).view.emb _) = _
  refine congrArg (m ((c.tc : Thread nD τ).loc main_arg2)) ?_
  funext a
  apply Fin.ext
  match a with
  | ⟨0, _⟩ => show win0_2.index t (0 : Fin 4) * 1 + 1 * 0 = t.val / 8; omega
  | ⟨1, _⟩ => show win0_2.index t (1 : Fin 4) * 2 + 1 * G.val = G.val; omega
  | ⟨2, _⟩ => show win0_2.index t (2 : Fin 4) * 128 + 1 * k.val = k.val; omega
  | ⟨3, _⟩ => show win0_2.index t (3 : Fin 4) * 128 + 1 * l.val = l.val; omega

theorem iblk3_at (t : Fin cfg0.N) (G : Fin 2) (k : Fin 128) (l : Fin 128) :
    (iblk m c 3 t (ix4 0 G k l) : EReal) = m ((c.tc : Thread nD τ).loc main_arg3) (ix4 ⟨t.val / 8, by have := t_lt t; omega⟩ G k l) := by
  obtain ⟨f0, f1, f2, f3, f4, f5, f6, f7, f8, f9, f10⟩ := idx_facts t
  have := t_lt t
  show V m c main_arg3 (((cfg0.win 3).blk t).view.emb _) = _
  refine congrArg (m ((c.tc : Thread nD τ).loc main_arg3)) ?_
  funext a
  apply Fin.ext
  match a with
  | ⟨0, _⟩ => show win0_3.index t (0 : Fin 4) * 1 + 1 * 0 = t.val / 8; omega
  | ⟨1, _⟩ => show win0_3.index t (1 : Fin 4) * 2 + 1 * G.val = G.val; omega
  | ⟨2, _⟩ => show win0_3.index t (2 : Fin 4) * 128 + 1 * k.val = k.val; omega
  | ⟨3, _⟩ => show win0_3.index t (3 : Fin 4) * 128 + 1 * l.val = l.val; omega

theorem iblk4_at (t : Fin cfg0.N) (G : Fin 2) (k : Fin 2048) (l : Fin 128) :
    (iblk m c 4 t (ix4 0 G k l) : EReal) = m ((c.tc : Thread nD τ).loc main_arg4) (ix4 ⟨t.val / 8, by have := t_lt t; omega⟩ G k l) := by
  obtain ⟨f0, f1, f2, f3, f4, f5, f6, f7, f8, f9, f10⟩ := idx_facts t
  have := t_lt t
  show V m c main_arg4 (((cfg0.win 4).blk t).view.emb _) = _
  refine congrArg (m ((c.tc : Thread nD τ).loc main_arg4)) ?_
  funext a
  apply Fin.ext
  match a with
  | ⟨0, _⟩ => show win0_4.index t (0 : Fin 4) * 1 + 1 * 0 = t.val / 8; omega
  | ⟨1, _⟩ => show win0_4.index t (1 : Fin 4) * 2 + 1 * G.val = G.val; omega
  | ⟨2, _⟩ => show win0_4.index t (2 : Fin 4) * 2048 + 1 * k.val = k.val; omega
  | ⟨3, _⟩ => show win0_4.index t (3 : Fin 4) * 128 + 1 * l.val = l.val; omega

theorem iblk5_at (t : Fin cfg0.N) (G : Fin 2) (k : Fin 2048) (l : Fin 128) :
    (iblk m c 5 t (ix4 0 G k l) : EReal) = m ((c.tc : Thread nD τ).loc main_arg5) (ix4 ⟨t.val / 8, by have := t_lt t; omega⟩ G k l) := by
  obtain ⟨f0, f1, f2, f3, f4, f5, f6, f7, f8, f9, f10⟩ := idx_facts t
  have := t_lt t
  show V m c main_arg5 (((cfg0.win 5).blk t).view.emb _) = _
  refine congrArg (m ((c.tc : Thread nD τ).loc main_arg5)) ?_
  funext a
  apply Fin.ext
  match a with
  | ⟨0, _⟩ => show win0_5.index t (0 : Fin 4) * 1 + 1 * 0 = t.val / 8; omega
  | ⟨1, _⟩ => show win0_5.index t (1 : Fin 4) * 2 + 1 * G.val = G.val; omega
  | ⟨2, _⟩ => show win0_5.index t (2 : Fin 4) * 2048 + 1 * k.val = k.val; omega
  | ⟨3, _⟩ => show win0_5.index t (3 : Fin 4) * 128 + 1 * l.val = l.val; omega

theorem iblk6_at (t : Fin cfg0.N) (G : Fin 2) (k : Fin 2048) (l : Fin 128) :
    (iblk m c 6 t (ix4 0 G k l) : EReal) = m ((c.tc : Thread nD τ).loc main_arg6) (ix4 ⟨t.val / 8, by have := t_lt t; omega⟩ G k l) := by
  obtain ⟨f0, f1, f2, f3, f4, f5, f6, f7, f8, f9, f10⟩ := idx_facts t
  have := t_lt t
  show V m c main_arg6 (((cfg0.win 6).blk t).view.emb _) = _
  refine congrArg (m ((c.tc : Thread nD τ).loc main_arg6)) ?_
  funext a
  apply Fin.ext
  match a with
  | ⟨0, _⟩ => show win0_6.index t (0 : Fin 4) * 1 + 1 * 0 = t.val / 8; omega
  | ⟨1, _⟩ => show win0_6.index t (1 : Fin 4) * 2 + 1 * G.val = G.val; omega
  | ⟨2, _⟩ => show win0_6.index t (2 : Fin 4) * 2048 + 1 * k.val = k.val; omega
  | ⟨3, _⟩ => show win0_6.index t (3 : Fin 4) * 128 + 1 * l.val = l.val; omega

theorem iblk7_at (t : Fin cfg0.N) (G : Fin 2) (k : Fin 2048) (l : Fin 128) :
    (iblk m c 7 t (ix4 0 G k l) : EReal) = m ((c.tc : Thread nD τ).loc main_arg7) (ix4 ⟨t.val / 8, by have := t_lt t; omega⟩ G k l) := by
  obtain ⟨f0, f1, f2, f3, f4, f5, f6, f7, f8, f9, f10⟩ := idx_facts t
  have := t_lt t
  show V m c main_arg7 (((cfg0.win 7).blk t).view.emb _) = _
  refine congrArg (m ((c.tc : Thread nD τ).loc main_arg7)) ?_
  funext a
  apply Fin.ext
  match a with
  | ⟨0, _⟩ => show win0_7.index t (0 : Fin 4) * 1 + 1 * 0 = t.val / 8; omega
  | ⟨1, _⟩ => show win0_7.index t (1 : Fin 4) * 2 + 1 * G.val = G.val; omega
  | ⟨2, _⟩ => show win0_7.index t (2 : Fin 4) * 2048 + 1 * k.val = k.val; omega
  | ⟨3, _⟩ => show win0_7.index t (3 : Fin 4) * 128 + 1 * l.val = l.val; omega

theorem iblk8_at (t : Fin cfg0.N) (k l : Fin 128) :
    (iblk m c 8 t (ix2 k l) : EReal) = m ((c.tc : Thread nD τ).loc main_arg8) (ix2 k l) := by
  obtain ⟨f0, f1, f2, f3, f4, f5, f6, f7, f8, f9, f10⟩ := idx_facts t
  have := t_lt t
  show V m c main_arg8 (((cfg0.win 8).blk t).view.emb _) = _
  refine congrArg (m ((c.tc : Thread nD τ).loc main_arg8)) ?_
  funext a
  apply Fin.ext
  match a with
  | ⟨0, _⟩ => show win0_8.index t (0 : Fin 2) * 128 + 1 * k.val = k.val; omega
  | ⟨1, _⟩ => show win0_8.index t (1 : Fin 2) * 128 + 1 * l.val = l.val; omega

/-- A grid point's row is the arrays' row. -/
theorem krow_eq (t : Fin cfg0.N) (G : Fin 2) (ρ : Fin 256) :
    krow (grid0.coords t) (iblk m c 0 t) (iblk m c 2 t) (iblk m c 3 t) (iblk m c 4 t) (iblk m c 5 t) (iblk m c 6 t) (iblk m c 7 t) (iblk m c 8 t) G ρ = Attn.grow (fun b h t l => m ((c.tc : Thread nD τ).loc main_arg0) (ix4 b h t l)) (fun b h t l => m ((c.tc : Thread nD τ).loc main_arg2) (ix4 b h t l)) (fun b h t l => m ((c.tc : Thread nD τ).loc main_arg3) (ix4 b h t l)) (fun b h t l => m ((c.tc : Thread nD τ).loc main_arg4) (ix4 b h t l)) (fun b h t l => m ((c.tc : Thread nD τ).loc main_arg5) (ix4 b h t l)) (fun b h t l => m ((c.tc : Thread nD τ).loc main_arg6) (ix4 b h t l)) (fun b h t l => m ((c.tc : Thread nD τ).loc main_arg7) (ix4 b h t l)) (fun k l => m ((c.tc : Thread nD τ).loc main_arg8) (ix2 k l)) ⟨t.val / 8, by have := t_lt t; omega⟩ ⟨256 * (t.val % 8) + ρ.val, by omega⟩ G := by
  unfold krow Attn.grow tok
  simp only [iblk0_at, iblk2_at, iblk3_at, iblk4_at, iblk5_at, iblk6_at, iblk7_at, iblk8_at]
  congr 1
  rw [(idx_facts t).2.2.2.2.2.2.2.2.2.2]

/-- THE KERNEL: entry `256 G + 64 h + d` of token `t` is the output of head `h` of group `G`. -/
theorem arr_at (hq : ∀ b h t (j : Fin 64), (m ((c.tc : Thread nD τ).loc main_arg0) (ix4 b h t (j.natAdd 64)) : EReal) = (0 : EReal))
    (hk : ∀ b G (k : Fin 2048) (j : Fin 64), (m ((c.tc : Thread nD τ).loc main_arg4) (ix4 b G k (j.natAdd 64)) : EReal) = if j = ⟨k.val / 64, by omega⟩ then (1 : EReal) else (0 : EReal))
    (fq : ∀ b h t l, Attn.Fin' (m ((c.tc : Thread nD τ).loc main_arg0) (ix4 b h t l) : EReal))
    (fk : ∀ b G k l, Attn.Fin' (m ((c.tc : Thread nD τ).loc main_arg4) (ix4 b G k l) : EReal))
    (b : Fin 8) (s : Fin 2048) (G : Fin 2) (h : Fin 4) (d : Fin 64) :
    ((dats m 0 c).arrAt 9 cfg0.N (ix3 b s (⟨256 * G.val + 64 * h.val + d.val, by omega⟩ : Fin 512)) : EReal)
      = (Attn.grow (fun b h t l => m ((c.tc : Thread nD τ).loc main_arg0) (ix4 b h t l)) (fun b h t l => m ((c.tc : Thread nD τ).loc main_arg2) (ix4 b h t l)) (fun b h t l => m ((c.tc : Thread nD τ).loc main_arg3) (ix4 b h t l)) (fun b h t l => m ((c.tc : Thread nD τ).loc main_arg4) (ix4 b h t l)) (fun b h t l => m ((c.tc : Thread nD τ).loc main_arg5) (ix4 b h t l)) (fun b h t l => m ((c.tc : Thread nD τ).loc main_arg6) (ix4 b h t l)) (fun b h t l => m ((c.tc : Thread nD τ).loc main_arg7) (ix4 b h t l)) (fun k l => m ((c.tc : Thread nD τ).loc main_arg8) (ix2 k l)) b s G).out (fun g => Ideal.logistic (m ((c.tc : Thread nD τ).loc main_arg1) (ix3 b s ⟨3 * (4 * G.val + h.val) + g.val, by omega⟩))) h d := by
  have hN : 8 * b.val + s.val / 256 < cfg0.N := by show _ < 64; omega
  obtain ⟨t, ht⟩ : ∃ t : Fin cfg0.N, t.val = 8 * b.val + s.val / 256 := ⟨⟨_, hN⟩, rfl⟩
  obtain ⟨f0, f1, f2, f3, f4, f5, f6, f7, f8, f9, f10⟩ := idx_facts t
  have e := congrFun (Value.blocks9 m c t ((by decide +kernel : ∀ t : Fin grid0.N, win0_9.flush t = true) t)) (ix3 0 ⟨s.val % 256, by omega⟩ (⟨256 * G.val + 64 * h.val + d.val, by omega⟩ : Fin 512))
  rw [Value.flushed9_A] at e
  have hemb : ((cfg0.win 9).blk t).view.emb (ix3 0 ⟨s.val % 256, by omega⟩ (⟨256 * G.val + 64 * h.val + d.val, by omega⟩ : Fin 512)) = ix3 b s (⟨256 * G.val + 64 * h.val + d.val, by omega⟩ : Fin 512) := by
    funext a
    apply Fin.ext
    match a with
    | ⟨0, _⟩ => show win0_9.index t (0 : Fin 3) * 1 + 1 * 0 = b.val; omega
    | ⟨1, _⟩ => show win0_9.index t (1 : Fin 3) * 256 + 1 * (s.val % 256) = s.val; omega
    | ⟨2, _⟩ => show win0_9.index t (2 : Fin 3) * 512 + 1 * (256 * G.val + 64 * h.val + d.val) = 256 * G.val + 64 * h.val + d.val; omega
  refine Eq.trans (congrArg ((dats m 0 c).arrAt 9 cfg0.N) hemb.symm) (Eq.trans e ?_)
  refine Eq.trans (b := out0_A_9 (F := Ideal) c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ix3 0 ⟨s.val % 256, by omega⟩ (⟨256 * G.val + 64 * h.val + d.val, by omega⟩ : Fin 512))) rfl ?_
  rw [out_at (hq := fun h ρ j => (iblk0_at m c t h ρ _).trans (hq _ _ _ _)) (hk := fun G k j => (iblk4_at m c t G k _).trans (hk _ _ _ _))
    (hf := ⟨fun h ρ l => by rw [iblk0_at]; exact fq _ _ _ _, fun G k l => by rw [iblk4_at]; exact fk _ _ _ _⟩)]
  have hb : (⟨t.val / 8, by omega⟩ : Fin 8) = b := Fin.ext (by simp only; omega)
  have hs : (⟨256 * (t.val % 8) + s.val % 256, by omega⟩ : Fin 2048) = s := Fin.ext (by simp only; omega)
  have hG : (⟨(256 * G.val + 64 * h.val + d.val) / 64 / 4, by omega⟩ : Fin 2) = G := Fin.ext (by simp only; omega)
  have hh : (⟨(256 * G.val + 64 * h.val + d.val) / 64 % 4, by omega⟩ : Fin 4) = h := Fin.ext (by simp only; omega)
  have hd : (⟨(256 * G.val + 64 * h.val + d.val) % 64, by omega⟩ : Fin 64) = d := Fin.ext (by simp only; omega)
  have hH : (256 * G.val + 64 * h.val + d.val) / 64 = 4 * G.val + h.val := by omega
  show hval _ _ _ _ _ _ _ _ _ _ ⟨(256 * G.val + 64 * h.val + d.val) / 64, _⟩ ⟨s.val % 256, _⟩ ⟨(256 * G.val + 64 * h.val + d.val) % 64, _⟩ = _
  unfold hval
  rw [krow_eq]
  simp only [iblk1_at, hb, hs, hG, hh, hd]
  simp only [hH]

end Cert.KernelIdeal.Gen
end
-- ==== Proof.ROut.lean ====
module
public import proofs.«01_k».proof.Proof.RRow
@[expose] public section
/-! # What the reference returns

Each entry of the reference's result is its head's gated branches at its token. -/
set_option maxRecDepth 16384
noncomputable section
open Idealize.ShloMosaic Idealize.ShloMosaic.StableHlo
namespace Cert.ReferenceIdeal.Value
open Cert.ReferenceIdeal Cert.ReferenceIdeal.Gen
variable (V : Valuation τ sig (Elt Ideal))

theorem v91_at (b : Fin 8) (G : Fin 2) (h : Fin 4) (t k : Fin 2048) :
    (res_main_v91 V (ix5 b G h t k) : EReal) = Attn.masked (Attn.selBit (rrow V b t G).sc t.val) (fun k => Attn.dot ((rrow V b t G).q h) ((rrow V b t G).ks k)) k := by
  pointwise [res_main_v91]
  unfold Attn.masked Attn.dot
  simp only [v90_at, v2_at]
  refine congrArg _ ?_
  exact bot_word
/-- The exponentials of a masked row of 2048 scores less their greatest, over any mask and any scores. -/
theorem ex_k (M : IVec S8x2x1x2048x2048 1) (W : FVec Ideal S8x2x4x2048x2048 .f32) (b : Fin 8) (G : Fin 2) (h : Fin 4) (t k : Fin 2048) :
    select (broadcastInDim S8x2x4x2048x2048 ![0, 1, 2, 3, 4] bcast_S8x2x1x2048x2048_S8x2x4x2048x2048_0_1_2_3_4 M)
      (Host.exp (subf W (broadcastInDim S8x2x4x2048x2048 ![0, 1, 2, 3, 4] bcast_S8x2x4x2048x1_S8x2x4x2048x2048_0_1_2_3_4
        (broadcastInDim S8x2x4x2048x1 ![0, 1, 2, 3] bcast_S8x2x4x2048_S8x2x4x2048x1_0_1_2_3
          (Host.reduce FloatOps.maximumf W (constant S_ .f32 0xFF800000#32) reducesTo_S8x2x4x2048x2048_S8x2x4x2048_d4 h_S_)))))
      (broadcastInDim S8x2x4x2048x2048 ![] bcast_S_S8x2x4x2048x2048 (id (constant (F := Ideal) S_ .f32 0x00000000#32))) (ix5 b G h t k)
    = Scalar.select (M (ix5 b G 0 t k)) (Ideal.exp (W (ix5 b G h t k) - Finset.univ.fold max ⊥ fun x => W (ix5 b G h t x))) 0 := by
  pointwise
  rw [bot_word]
  refine congrArg _ ?_
  exact zero_word
theorem v97_at (b : Fin 8) (G : Fin 2) (h : Fin 4) (t k : Fin 2048) :
    (res_main_v97 V (ix5 b G h t k) : EReal) = Attn.ex (Attn.selBit (rrow V b t G).sc t.val) (fun k => Attn.dot ((rrow V b t G).q h) ((rrow V b t G).ks k)) k := by
  refine (ex_k (res_main_v90 V) (res_main_v91 V) b G h t k).trans ?_
  rw [v90_at]
  simp only [v91_at]
  rfl
theorem v114_at (b : Fin 8) (G : Fin 2) (h : Fin 4) (t k : Fin 2048) :
    (res_main_v114 V (ix5 b G h t k) : EReal) = Attn.masked (Attn.winBit t.val) (fun k => Attn.dot ((rrow V b t G).q h) ((rrow V b t G).kw k)) k := by
  pointwise [res_main_v114]
  unfold Attn.masked Attn.dot
  simp only [v112_at, v2_at]
  refine congrArg _ ?_
  exact bot_word
/-- The exponentials of a masked row of 2048 scores less their greatest, over a mask shared by every head and any scores. -/
theorem ex_w (M : IVec S2048x2048 1) (W : FVec Ideal S8x2x4x2048x2048 .f32) (b : Fin 8) (G : Fin 2) (h : Fin 4) (t k : Fin 2048) :
    select (broadcastInDim S8x2x4x2048x2048 ![3, 4] bcast_S2048x2048_S8x2x4x2048x2048_3_4 M)
      (Host.exp (subf W (broadcastInDim S8x2x4x2048x2048 ![0, 1, 2, 3, 4] bcast_S8x2x4x2048x1_S8x2x4x2048x2048_0_1_2_3_4
        (broadcastInDim S8x2x4x2048x1 ![0, 1, 2, 3] bcast_S8x2x4x2048_S8x2x4x2048x1_0_1_2_3
          (Host.reduce FloatOps.maximumf W (constant S_ .f32 0xFF800000#32) reducesTo_S8x2x4x2048x2048_S8x2x4x2048_d4 h_S_)))))
      (broadcastInDim S8x2x4x2048x2048 ![] bcast_S_S8x2x4x2048x2048 (id (constant (F := Ideal) S_ .f32 0x00000000#32))) (ix5 b G h t k)
    = Scalar.select (M (ix2 t k)) (Ideal.exp (W (ix5 b G h t k) - Finset.univ.fold max ⊥ fun x => W (ix5 b G h t x))) 0 := by
  pointwise
  rw [bot_word]
  refine congrArg _ ?_
  exact zero_word
theorem v120_at (b : Fin 8) (G : Fin 2) (h : Fin 4) (t k : Fin 2048) :
    (res_main_v120 V (ix5 b G h t k) : EReal) = Attn.ex (Attn.winBit t.val) (fun k => Attn.dot ((rrow V b t G).q h) ((rrow V b t G).kw k)) k := by
  refine (ex_w (res_main_v112 V) (res_main_v114 V) b G h t k).trans ?_
  rw [v112_at]
  simp only [v114_at]
  rfl

/-- THE REFERENCE: entry `256 G + 64 h + d` of token `t` is the output of head `h` of group `G`. -/
theorem result_at (b : Fin 8) (t : Fin 2048) (G : Fin 2) (h : Fin 4) (d : Fin 64) :
    (val4 V (Proc.devRef .tc main_v149) (ix3 b t (⟨256 * G.val + 64 * h.val + d.val, by omega⟩ : Fin 512)) : EReal)
      = (rrow V b t G).out (fun g => Ideal.logistic (V (Proc.devRef .tc main_arg1) (ix3 b t ⟨3 * (4 * G.val + h.val) + g.val, by omega⟩))) h d := by
  have hG : ∀ p, (⟨(256 * G.val + 64 * h.val + d.val) / 256, p⟩ : Fin 2) = G := fun p => Fin.ext (by simp only; omega)
  have hh : ∀ p, (⟨(256 * G.val + 64 * h.val + d.val) / 64 % 4, p⟩ : Fin 4) = h := fun p => Fin.ext (by simp only; omega)
  have hd : ∀ p, (⟨(256 * G.val + 64 * h.val + d.val) % 64, p⟩ : Fin 128) = d.castAdd 64 := fun p => Fin.ext (by simp only [Fin.val_castAdd]; omega)
  rw [val4_main_v149]
  pointwise
  simp only [v39_at, v97_at, v120_at, v136_at, hG, hh, hd]
  rfl
end Cert.ReferenceIdeal.Value
end
-- ==== Proof.Pre.lean ====
module
public import proofs.«01_k».proof.Proof.Gen.Pre_layout
public import proofs.«01_k».proof.Proof.SelKeys
public import Idealize.ShloMosaic.Lib.ReduceAll
public import Idealize.ShloMosaic.Lib.Pointwise
@[expose] public section
/-! # What the precondition says

Queries and selected keys are finite; lanes 64 to 127 are zero in a query and hold the one-hot of the key's block in
a selected key. -/
set_option maxRecDepth 16384
noncomputable section
open Idealize.ShloMosaic
namespace Cert.Pre_layout
open Cert.Pre_layout Cert.Pre_layout.Gen Cert.Pre_layout.Facts

theorem and_one {a b : BitVec 1} (h : IntOp.andi a b = 1#1) : a = 1#1 ∧ b = 1#1 := by
  revert a b; decide

theorem of_decide {p : Prop} [Decidable p] (h : BitVec.ofBool (decide p) = 1#1) : p := by
  by_contra hp
  rw [decide_eq_false hp] at h
  exact absurd h (by decide)

theorem top_word : Ideal.ofBits FTy.f32 2139095040#32 = (⊤ : EReal) := by simp [Ideal.ofBits, Ideal.ieee]

theorem fin_of (x : EReal) (h : BitVec.ofBool (decide (max x (-x) < Ideal.ofBits FTy.f32 2139095040#32)) = 1#1) : Attn.Fin' x := by
  have h := of_decide h
  rw [top_word] at h
  refine ⟨fun e => ?_, fun e => ?_⟩
  · rw [e] at h; simp at h
  · rw [e] at h; simp at h

theorem w_div64 (t : Fin 2048) : IntOp.divsi ArithUnit.host (BitVec.ofNat 32 t.val) 64#32 = BitVec.ofNat 32 (t.val / 64) :=
  (by decide +kernel : ∀ t : Fin 2048, IntOp.divsi ArithUnit.host (BitVec.ofNat 32 t.val) 64#32 = BitVec.ofNat 32 (t.val / 64)) t

theorem one_word : (FloatOps.sitofp (F := Ideal) FTy.f32 (BitVec.setWidth 32 1#1) : EReal) = 1 := by
  show (((BitVec.setWidth 32 1#1).toInt : ℝ) : EReal) = 1
  rw [show (BitVec.setWidth 32 1#1).toInt = 1 from by decide]; simp

theorem nil_word : (FloatOps.sitofp (F := Ideal) FTy.f32 (BitVec.setWidth 32 0#1) : EReal) = 0 := by
  show (((BitVec.setWidth 32 0#1).toInt : ℝ) : EReal) = 0
  rw [show (BitVec.setWidth 32 0#1).toInt = 0 from by decide]; simp

theorem layout_facts (x0 : FVec Ideal S8x8x2048x128 .bf16) (x1 : FVec Ideal S8x2048x128 .f32) (x2 x3 : FVec Ideal S8x2x128x128 .bf16)
    (x4 x5 x6 x7 : FVec Ideal S8x2x2048x128 .bf16) (x8 : FVec Ideal S128x128 .bf16) (j : S_.Idx)
    (h : fn (F := Ideal) x0 x1 x2 x3 x4 x5 x6 x7 x8 j = 1#1) :
    (∀ b h t l, Attn.Fin' (x0 (ix4 b h t l) : EReal)) ∧ (∀ b h t (j : Fin 64), (x0 (ix4 b h t (j.natAdd 64)) : EReal) = 0)
    ∧ (∀ b G k l, Attn.Fin' (x4 (ix4 b G k l) : EReal))
    ∧ ∀ b G (k : Fin 2048) (j : Fin 64), (x4 (ix4 b G k (j.natAdd 64)) : EReal) = if j = ⟨k.val / 64, by omega⟩ then 1 else 0 := by
  unfold fn fn_part1 at h
  dsimp only at h
  obtain ⟨h, h4⟩ := and_one h
  obtain ⟨h, h3⟩ := and_one h
  obtain ⟨h1, h2⟩ := and_one h
  have : Subsingleton S_.Idx := inferInstance
  replace h1 := Host.reduce_andi_all _ _ _ _ _ h1
  replace h2 := Host.reduce_andi_all _ _ _ _ _ h2
  replace h3 := Host.reduce_andi_all _ _ _ _ _ h3
  replace h4 := Host.reduce_andi_all _ _ _ _ _ h4
  refine ⟨fun b h t l => ?_, fun b h t j => ?_, fun b G k l => ?_, fun b G k j => ?_⟩
  · exact fin_of _ (by have e := h1 (ix4 b h t l); revert e; clear h1 h2 h3 h4; pointwise; exact id)
  · have e := h2 (ix4 b h t j)
    revert e; clear h1 h2 h3 h4
    pointwise
    intro e
    exact of_decide e
  · exact fin_of _ (by have e := h3 (ix4 b G k l); revert e; clear h1 h2 h3 h4; pointwise; exact id)
  · have e := h4 (ix4 b G k j)
    revert e; clear h1 h2 h3 h4
    pointwise
    intro e
    refine Eq.trans (of_decide e) ?_
    rw [w_div64, Attn.w_eq _ _ (by omega) (by omega)]
    by_cases hj : j = ⟨k.val / 64, by omega⟩
    · rw [if_pos hj, Attn.bit_true (by rw [hj])]
      exact one_word
    · rw [if_neg hj, Attn.bit_false (fun e => hj (Fin.ext e.symm))]
      exact nil_word
end Cert.Pre_layout
end
-- ==== Proof.PBlk.lean ====
module
public import proofs.«01_k».proof.Proof.Gen.Kernel2Ideal.Frame
public import proofs.«01_k».proof.Proof.Words
public import proofs.«01_k».proof.Proof.SelKeys
@[expose] public section
/-! # The projection's block

What the projection leaves at a grid point: every word of it is a function of the normalized rows' products with the
padded weight columns. -/
set_option maxRecDepth 16384
noncomputable section
open Idealize.ShloMosaic
namespace Proj
/-- A normalized row: scaled by the reciprocal root of its mean square and by the gains. -/
def xn (x g : Fin 1024 → EReal) (k : Fin 1024) : EReal :=
  x k * Ideal.rsqrt (Ideal.div (∑ j, x j * x j) (Ideal.ofBits FTy.f32 1149239296#32) + Ideal.ofBits FTy.f32 897988541#32) * g k
/-- A normalized row times a weight column. -/
def z (x g w : Fin 1024 → EReal) : EReal := ∑ k, xn x g k * w k
/-- The queries' scale, one eighth. -/
def scale : EReal := Ideal.ofBits FTy.f32 1040187392#32
end Proj

namespace Cert.Kernel2Ideal.Gen
open Cert.Kernel2Ideal
variable (i : grid0.Coords) (x0 : Vec Ideal S256x1024 .f32) (x1 : Vec Ideal S1x1024 .f32) (x2 : Vec Ideal S1024x6016 .bf16)

/-- Row `ρ` of a block times the padded weights' column `J`. -/
def zb (ρ : Fin 256) (J : Fin 6016) : EReal := Proj.z (fun k => x0 (ix2 ρ k)) (fun k => x1 (ix2 0 k)) (fun k => x2 (ix2 k J))

theorem pay6_at (ρ : Fin 256) (k : Fin 1024) : (k0_pay6 (F := Ideal) x0 x1 (ix2 ρ k) : EReal) = Proj.xn (fun k => x0 (ix2 ρ k)) (fun k => x1 (ix2 0 k)) k := by
  pointwise [k0_pay6]
  rfl
theorem pay37_at (ρ : Fin 256) (k : Fin 1024) : (k0_pay37 (F := Ideal) i x0 x1 x2 (ix2 ρ k) : EReal) = Proj.xn (fun k => x0 (ix2 ρ k)) (fun k => x1 (ix2 0 k)) k := by
  unfold k0_pay37
  rw [pay6_at]
  pointwise []
  done
theorem pay38_at (ρ : Fin 256) (J : Fin 1024) : (k0_pay38 (F := Ideal) i x0 x1 x2 (ix2 ρ J) : EReal) = zb x0 x1 x2 ρ ⟨J.val, by omega⟩ * Proj.scale := by
  unfold k0_pay38
  pointwise [k0_pay7]
  simp only [pay6_at]
  pointwise []
  rfl
theorem pay39_at (ρ : Fin 256) (J : Fin 768) : (k0_pay39 (F := Ideal) i x0 x1 x2 (ix2 ρ J) : EReal) = zb x0 x1 x2 ρ ⟨1024 + J.val, by omega⟩ := by
  unfold k0_pay39
  pointwise [k0_pay17]
  simp only [pay37_at]
  rfl

/-- The mask of the key blocks' tail: lane `64 + j` at the tokens of block `j`. -/
theorem word_blk (n ρ l : ℕ) (hn : n < 64) (hρ : ρ < 256) (hl : l < 128) (a b c : EReal) :
    Scalar.select (IntOp.cmpi CmpIPredicate.slt (BitVec.ofNat 32 l) 64#32) a
      (Scalar.select
        (IntOp.cmpi CmpIPredicate.eq (IntOp.subi (BitVec.ofNat 32 l) 64#32)
          (IntOp.shrsi ArithUnit.vector
            (IntOp.addi
              (Scalar.muli
                (Scalar.select
                  (Scalar.andi
                    (Scalar.xori
                      (Scalar.cmpi CmpIPredicate.slt
                        (Scalar.remsi (BitVec.ofNat 32 n)
                          (Scalar.select (Scalar.cmpi CmpIPredicate.eq 8#32 0#32) 1#32 8#32))
                        0#32)
                      (Scalar.cmpi CmpIPredicate.slt (Scalar.select (Scalar.cmpi CmpIPredicate.eq 8#32 0#32) 1#32 8#32)
                        0#32))
                    (Scalar.cmpi CmpIPredicate.ne
                      (Scalar.remsi (BitVec.ofNat 32 n)
                        (Scalar.select (Scalar.cmpi CmpIPredicate.eq 8#32 0#32) 1#32 8#32))
                      0#32))
                  (Scalar.addi
                    (Scalar.remsi (BitVec.ofNat 32 n)
                      (Scalar.select (Scalar.cmpi CmpIPredicate.eq 8#32 0#32) 1#32 8#32))
                    (Scalar.select (Scalar.cmpi CmpIPredicate.eq 8#32 0#32) 1#32 8#32))
                  (Scalar.remsi (BitVec.ofNat 32 n)
                    (Scalar.select (Scalar.cmpi CmpIPredicate.eq 8#32 0#32) 1#32 8#32)))
                256#32)
              (BitVec.ofNat 32 ρ))
            6#32)) b c) = if l < 64 then a else if l - 64 = (256 * (n % 8) + ρ) / 64 then b else c := by
  rw [show (64#32) = BitVec.ofNat 32 64 from rfl, Attn.w_slt _ _ (by omega) (by omega)]
  by_cases h : l < 64
  · rw [Attn.bit_true h, Attn.sel_one, if_pos h]
  · rw [Attn.bit_false h, Attn.sel_zero, if_neg h]
    have e : (Scalar.select
                  (Scalar.andi
                    (Scalar.xori
                      (Scalar.cmpi CmpIPredicate.slt
                        (Scalar.remsi (BitVec.ofNat 32 n)
                          (Scalar.select (Scalar.cmpi CmpIPredicate.eq 8#32 0#32) 1#32 8#32))
                        0#32)
                      (Scalar.cmpi CmpIPredicate.slt (Scalar.select (Scalar.cmpi CmpIPredicate.eq 8#32 0#32) 1#32 8#32)
                        0#32))
                    (Scalar.cmpi CmpIPredicate.ne
                      (Scalar.remsi (BitVec.ofNat 32 n)
                        (Scalar.select (Scalar.cmpi CmpIPredicate.eq 8#32 0#32) 1#32 8#32))
                      0#32))
                  (Scalar.addi
                    (Scalar.remsi (BitVec.ofNat 32 n)
                      (Scalar.select (Scalar.cmpi CmpIPredicate.eq 8#32 0#32) 1#32 8#32))
                    (Scalar.select (Scalar.cmpi CmpIPredicate.eq 8#32 0#32) 1#32 8#32))
                  (Scalar.remsi (BitVec.ofNat 32 n)
                    (Scalar.select (Scalar.cmpi CmpIPredicate.eq 8#32 0#32) 1#32 8#32))) = BitVec.ofNat 32 (n % 8) := by
      revert n; decide +kernel
    rw [e, show (256#32) = BitVec.ofNat 32 256 from rfl, Attn.w_smul, Attn.w_add, Attn.w_shr6 _ (by omega), Attn.w_sub _ _ (by omega) (by omega), Attn.w_eq _ _ (by omega) (by omega)]
    by_cases h' : l - 64 = (n % 8 * 256 + ρ) / 64
    · rw [Attn.bit_true h', Attn.sel_one, if_pos (by omega)]
    · rw [Attn.bit_false h', Attn.sel_zero, if_neg (by omega)]

theorem pay26_at (v67 : FVec Ideal S256x128 .f32) (ρ : Fin 256) (l : Fin 128) :
    (k0_pay26 (F := Ideal) v67 (k0_pay40 i x0 x1 x2) (k0_pay45 i x0 x1 x2) (Scalar.ofBits .f32 0x3F800000#32) (ix4 0 0 ρ l) : EReal)
      = if l.val < 64 then v67 (ix2 ρ l) else if l.val - 64 = (256 * ((i 0).val % 8) + ρ.val) / 64 then (1 : EReal) else (0 : EReal) := by
  have hi : (i 0).val < 64 := (i 0).isLt
  unfold k0_pay45
  pointwise [k0_pay26, k0_pay25, k0_pay24, k0_pay40]
  exact word_blk _ _ _ hi ρ.isLt l.isLt _ _ _
theorem pay30_at (v67 : FVec Ideal S256x128 .f32) (ρ : Fin 256) (l : Fin 128) :
    (k0_pay30 (F := Ideal) v67 (k0_pay40 i x0 x1 x2) (k0_pay45 i x0 x1 x2) (Scalar.ofBits .f32 0x3F800000#32) (ix4 0 0 ρ l) : EReal)
      = if l.val < 64 then v67 (ix2 ρ ⟨(64 + l.val) % 128, by omega⟩) else if l.val - 64 = (256 * ((i 0).val % 8) + ρ.val) / 64 then (1 : EReal) else (0 : EReal) := by
  have hi : (i 0).val < 64 := (i 0).isLt
  unfold k0_pay45
  pointwise [k0_pay30, k0_pay25, k0_pay24, k0_pay40]
  rw [show (⟨(l.val + 128 - 64) % 128, Nat.mod_lt _ (by omega)⟩ : Fin 128) = ⟨(64 + l.val) % 128, by omega⟩ from Fin.ext (by simp only; omega)]
  exact word_blk _ _ _ hi ρ.isLt l.isLt _ _ _

/-- The scaled queries' block: head `h` in its own 128 columns. -/
def qblk : Vec Ideal S1x8x256x128 .bf16 := fun y => zb x0 x1 x2 (y 2) ⟨128 * (y 1).val + (y 3).val, by
  have h1 : (y 1).val < 8 := (y 1).isLt
  have h3 : (y 3).val < 128 := (y 3).isLt
  omega⟩ * Proj.scale

/-- The head slices of the scaled queries. -/
theorem out3_at (h : Fin 8) (ρ : Fin 256) (l : Fin 128) :
    (out0_3 (F := Ideal) i x0 x1 x2 (ix4 0 h ρ l) : EReal) = zb x0 x1 x2 ρ ⟨128 * h.val + l.val, by omega⟩ * Proj.scale := by
  unfold out0_3
  refine View.canon_apply_of_pieces (qblk x0 x1 x2) _ ?_ (ix4 0 h ρ l) (cover0_3 _ _ _ _ _ _ _ _ _)
  intro p hp
  simp only [List.mem_cons, List.not_mem_nil, or_false] at hp
  have key : ∀ (h : Fin 8) (W : Vec Ideal S1x1x256x128 .bf16) (off : Fin 4 → ℕ) (inb) (hoff : off = ![0, h.val, 0, 0]),
      (∀ ρ l, (W (ix4 0 0 ρ l) : EReal) = k0_pay38 (F := Ideal) i x0 x1 x2 (ix2 ρ ⟨128 * h.val + l.val, by omega⟩)) →
      ∀ x : S1x1x256x128.Idx, W x = (qblk x0 x1 x2) ((Rect.unit (s := S1x8x256x128) off S1x1x256x128.size inb).emb x) := by
    intro h W off inb hoff hW x
    subst hoff
    obtain ⟨ρ, l, rfl⟩ : ∃ (ρ : Fin 256) (l : Fin 128), x = ix4 0 0 ρ l := ⟨x 2, x 3, by rw [eq_ix4 x]; congr 1 <;> exact Subsingleton.elim (α := Fin 1) _ _⟩
    refine (hW ρ l).trans ?_
    rw [pay38_at]
    unfold qblk
    congr 2 <;> exact Fin.ext (by simp [Rect.emb, Rect.unit, ix4])
  rcases hp with rfl | rfl | rfl | rfl | rfl | rfl | rfl | rfl
  · exact key 7 _ _ inb_S1x8x256x128_S1x1x256x128_0_7_0_0 rfl fun ρ l => by pointwise [k0_pay16]
  · exact key 6 _ _ inb_S1x8x256x128_S1x1x256x128_0_6_0_0 rfl fun ρ l => by pointwise [k0_pay15]
  · exact key 5 _ _ inb_S1x8x256x128_S1x1x256x128_0_5_0_0 rfl fun ρ l => by pointwise [k0_pay14]
  · exact key 4 _ _ inb_S1x8x256x128_S1x1x256x128_0_4_0_0 rfl fun ρ l => by pointwise [k0_pay13]
  · exact key 3 _ _ inb_S1x8x256x128_S1x1x256x128_0_3_0_0 rfl fun ρ l => by pointwise [k0_pay12]
  · exact key 2 _ _ inb_S1x8x256x128_S1x1x256x128_0_2_0_0 rfl fun ρ l => by unfold k0_pay38; pointwise [k0_pay11, k0_pay10]
  · exact key 1 _ _ inb_S1x8x256x128_S1x1x256x128_0_1_0_0 rfl fun ρ l => by unfold k0_pay38; pointwise [k0_pay9]
  · exact key 0 _ _ inb_S1x8x256x128_S1x1x256x128_0_0_0_0 rfl fun ρ l => by unfold k0_pay38; pointwise [k0_pay8]

/-- One store over the whole block leaves its words. -/
theorem canon128 (P : Vec Ideal S256x128 .f32) (y : S256x128.Idx) : (View.canon (Val := Elt Ideal) [⟨r0_12, P⟩] y : EReal) = P y := by
  refine View.canon_apply_of_pieces P _ ?_ y (cover0_4 P y)
  intro p hp
  obtain rfl := List.mem_singleton.mp hp
  intro x
  refine congrArg P (funext fun a => Fin.ext ?_)
  match a with
  | ⟨0, _⟩ => show (x 0).val = 0 + 1 * (x 0).val; omega
  | ⟨1, _⟩ => show (x 1).val = 0 + 1 * (x 1).val; omega
theorem canon512 (P : Vec Ideal S256x512 .f32) (y : S256x512.Idx) : (View.canon (Val := Elt Ideal) [⟨r0_17, P⟩] y : EReal) = P y := by
  refine View.canon_apply_of_pieces P _ ?_ y (cover0_11 P y)
  intro p hp
  obtain rfl := List.mem_singleton.mp hp
  intro x
  refine congrArg P (funext fun a => Fin.ext ?_)
  match a with
  | ⟨0, _⟩ => show (x 0).val = 0 + 1 * (x 0).val; omega
  | ⟨1, _⟩ => show (x 1).val = 0 + 1 * (x 1).val; omega
theorem canon1024 (P : Vec Ideal S256x1024 .f32) (y : S256x1024.Idx) : (View.canon (Val := Elt Ideal) [⟨r0_0, P⟩] y : EReal) = P y := by
  refine View.canon_apply_of_pieces P _ ?_ y (cover0_14 P y)
  intro p hp
  obtain rfl := List.mem_singleton.mp hp
  intro x
  refine congrArg P (funext fun a => Fin.ext ?_)
  match a with
  | ⟨0, _⟩ => show (x 0).val = 0 + 1 * (x 0).val; omega
  | ⟨1, _⟩ => show (x 1).val = 0 + 1 * (x 1).val; omega

/-- The two key groups' words, one on the other. -/
def grp (A B : Vec Ideal S1x1x256x128 .bf16) : Vec Ideal S1x2x256x128 .bf16 := fun y =>
  if (y 1).val = 0 then A (ix4 0 0 (y 2) (y 3)) else B (ix4 0 0 (y 2) (y 3))

theorem grp_0 (A B : Vec Ideal S1x1x256x128 .bf16) (g : Fin 2) (hg : g.val = 0) (ρ : Fin 256) (l : Fin 128) : (grp A B (ix4 0 g ρ l) : EReal) = A (ix4 0 0 ρ l) := if_pos hg
theorem grp_1 (A B : Vec Ideal S1x1x256x128 .bf16) (g : Fin 2) (hg : ¬ g.val = 0) (ρ : Fin 256) (l : Fin 128) : (grp A B (ix4 0 g ρ l) : EReal) = B (ix4 0 0 ρ l) := if_neg hg

theorem canonG (A B : Vec Ideal S1x1x256x128 .bf16) (y : S1x2x256x128.Idx) : (View.canon (Val := Elt Ideal) [⟨r0_14, B⟩, ⟨r0_13, A⟩] y : EReal) = grp A B y := by
  refine View.canon_apply_of_pieces (grp A B) _ ?_ y (cover0_16 B A y)
  intro p hp
  simp only [List.mem_cons, List.not_mem_nil, or_false] at hp
  rcases hp with rfl | rfl
  · intro x
    obtain ⟨ρ, l, rfl⟩ : ∃ (ρ : Fin 256) (l : Fin 128), x = ix4 0 0 ρ l := ⟨x 2, x 3, by rw [eq_ix4 x]; congr 1 <;> exact Subsingleton.elim (α := Fin 1) _ _⟩
    unfold grp
    rw [if_neg (by simp [Rect.emb, Rect.unit, ix4])]
    refine congrArg B ?_
    congr 1 <;> exact Fin.ext (by simp [Rect.emb, Rect.unit, ix4])
  · intro x
    obtain ⟨ρ, l, rfl⟩ : ∃ (ρ : Fin 256) (l : Fin 128), x = ix4 0 0 ρ l := ⟨x 2, x 3, by rw [eq_ix4 x]; congr 1 <;> exact Subsingleton.elim (α := Fin 1) _ _⟩
    unfold grp
    rw [if_pos (by simp [Rect.emb, Rect.unit, ix4])]
    refine congrArg A ?_
    congr 1 <;> exact Fin.ext (by simp [Rect.emb, Rect.unit, ix4])

theorem out4_at (ρ : Fin 256) (l : Fin 128) : (out0_4 (F := Ideal) i x0 x1 x2 (ix2 ρ l) : EReal) = zb x0 x1 x2 ρ ⟨1024 + l.val, by omega⟩ := by
  unfold out0_4
  rw [canon128]
  pointwise [k0_pay18]
  exact pay39_at ..
theorem out5_at (ρ : Fin 256) (l : Fin 128) : (out0_5 (F := Ideal) i x0 x1 x2 (ix2 ρ l) : EReal) = zb x0 x1 x2 ρ ⟨1152 + l.val, by omega⟩ := by
  unfold out0_5
  rw [canon128]
  pointwise [k0_pay19]
  exact (pay39_at ..).trans (congrArg (zb x0 x1 x2 ρ) (Fin.ext (by simp only; omega)))
theorem pay20_at (ρ : Fin 256) (l : Fin 128) : (k0_pay20 (F := Ideal) (k0_pay39 i x0 x1 x2) (ix2 ρ l) : EReal) = zb x0 x1 x2 ρ ⟨1280 + l.val, by omega⟩ := by
  pointwise [k0_pay20]
  exact (pay39_at ..).trans (congrArg (zb x0 x1 x2 ρ) (Fin.ext (by simp only; omega)))
theorem pay21_at (ρ : Fin 256) (l : Fin 128) : (k0_pay21 (F := Ideal) (k0_pay39 i x0 x1 x2) (ix2 ρ l) : EReal) = zb x0 x1 x2 ρ ⟨1408 + l.val, by omega⟩ := by
  pointwise [k0_pay21]
  exact (pay39_at ..).trans (congrArg (zb x0 x1 x2 ρ) (Fin.ext (by simp only; omega)))
theorem pay22_at (ρ : Fin 256) (l : Fin 128) : (k0_pay22 (F := Ideal) (k0_pay39 i x0 x1 x2) (ix2 ρ l) : EReal) = zb x0 x1 x2 ρ ⟨1536 + l.val, by omega⟩ := by
  pointwise [k0_pay22]
  exact (pay39_at ..).trans (congrArg (zb x0 x1 x2 ρ) (Fin.ext (by simp only; omega)))
theorem pay23_at (ρ : Fin 256) (l : Fin 128) : (k0_pay23 (F := Ideal) (k0_pay39 i x0 x1 x2) (ix2 ρ l) : EReal) = zb x0 x1 x2 ρ ⟨1664 + l.val, by omega⟩ := by
  pointwise [k0_pay23]
  exact (pay39_at ..).trans (congrArg (zb x0 x1 x2 ρ) (Fin.ext (by simp only; omega)))
theorem out6_at (ρ : Fin 256) (l : Fin 128) : (out0_6 (F := Ideal) i x0 x1 x2 (ix2 ρ l) : EReal) = zb x0 x1 x2 ρ ⟨1280 + l.val, by omega⟩ := by
  unfold out0_6
  rw [canon128, pay20_at]
theorem out7_at (ρ : Fin 256) (l : Fin 128) : (out0_7 (F := Ideal) i x0 x1 x2 (ix2 ρ l) : EReal) = zb x0 x1 x2 ρ ⟨1408 + l.val, by omega⟩ := by
  unfold out0_7
  rw [canon128, pay21_at]
theorem out8_at (ρ : Fin 256) (l : Fin 128) : (out0_8 (F := Ideal) i x0 x1 x2 (ix2 ρ l) : EReal) = zb x0 x1 x2 ρ ⟨1536 + l.val, by omega⟩ := by
  unfold out0_8
  rw [canon128, pay22_at]
theorem out9_at (ρ : Fin 256) (l : Fin 128) : (out0_9 (F := Ideal) i x0 x1 x2 (ix2 ρ l) : EReal) = zb x0 x1 x2 ρ ⟨1664 + l.val, by omega⟩ := by
  unfold out0_9
  rw [canon128, pay23_at]
theorem out10_at (ρ : Fin 256) (l : Fin 128) : (out0_10 (F := Ideal) i x0 x1 x2 (ix2 ρ l) : EReal) = zb x0 x1 x2 ρ ⟨1792 + l.val, by omega⟩ := by
  unfold out0_10
  rw [canon128]
  pointwise [k0_pay34]
  simp only [pay37_at]
  rfl
theorem out11_at (ρ : Fin 256) (l : Fin 512) : (out0_11 (F := Ideal) i x0 x1 x2 (ix2 ρ l) : EReal)
    = zb x0 x1 x2 ρ ⟨1920 + l.val, by omega⟩ * Ideal.logistic (zb x0 x1 x2 ρ ⟨1920 + l.val, by omega⟩) := by
  unfold out0_11
  rw [canon512]
  pointwise [k0_pay35]
  simp only [pay37_at]
  rfl
theorem out12_at (ρ : Fin 256) (l : Fin 512) : (out0_12 (F := Ideal) i x0 x1 x2 (ix2 ρ l) : EReal)
    = zb x0 x1 x2 ρ ⟨2432 + l.val, by omega⟩ * Ideal.logistic (zb x0 x1 x2 ρ ⟨2944 + l.val, by omega⟩) := by
  unfold out0_12
  rw [canon512]
  pointwise [k0_pay1, k0_pay36]
  simp only [pay37_at]
  refine congrArg₂ (fun a b => a * Ideal.logistic b) rfl ?_
  exact congrArg (zb x0 x1 x2 ρ) (Fin.ext (by simp only; omega) : (⟨2432 + (512 + l.val), by omega⟩ : Fin 6016) = _)
theorem out13_at (ρ : Fin 256) (l : Fin 512) : (out0_13 (F := Ideal) i x0 x1 x2 (ix2 ρ l) : EReal)
    = zb x0 x1 x2 ρ ⟨3456 + l.val, by omega⟩ * Ideal.logistic (zb x0 x1 x2 ρ ⟨3456 + l.val, by omega⟩) := by
  unfold out0_13
  rw [canon512]
  pointwise [k0_pay2]
  simp only [pay37_at]
  rfl
theorem out14_at (ρ : Fin 256) (l : Fin 1024) : (out0_14 (F := Ideal) i x0 x1 x2 (ix2 ρ l) : EReal) = Ideal.logistic (zb x0 x1 x2 ρ ⟨3968 + l.val, by omega⟩) := by
  unfold out0_14
  rw [canon1024]
  pointwise [k0_pay4, k0_pay3]
  simp only [pay37_at]
  rfl
theorem out15_at (ρ : Fin 256) (l : Fin 1024) : (out0_15 (F := Ideal) i x0 x1 x2 (ix2 ρ l) : EReal) = Ideal.logistic (zb x0 x1 x2 ρ ⟨4992 + l.val, by omega⟩) := by
  unfold out0_15
  rw [canon1024]
  pointwise [k0_pay5, k0_pay3]
  simp only [pay37_at]
  refine congrArg Ideal.logistic ?_
  exact congrArg (zb x0 x1 x2 ρ) (Fin.ext (by simp only; omega) : (⟨3968 + (1024 + l.val), by omega⟩ : Fin 6016) = _)

/-- The selected branch's keys with the block of each token marked in the tail lanes. -/
theorem out16_at (g : Fin 2) (ρ : Fin 256) (l : Fin 128) : (out0_16 (F := Ideal) i x0 x1 x2 (ix4 0 g ρ l) : EReal)
    = if h : l.val < 64 then zb x0 x1 x2 ρ ⟨1280 + 64 * g.val + l.val, by omega⟩
      else if l.val - 64 = (256 * ((i 0).val % 8) + ρ.val) / 64 then (1 : EReal) else (0 : EReal) := by
  unfold out0_16
  rw [canonG]
  by_cases hg : g.val = 0
  · rw [grp_0 _ _ _ hg]
    refine (pay26_at ..).trans ?_
    unfold k0_pay41
    rw [pay20_at]
    by_cases h : l.val < 64
    · rw [if_pos h, dif_pos h]; exact congrArg (zb x0 x1 x2 ρ) (Fin.ext (by simp only; omega))
    · rw [if_neg h, dif_neg h]
  · rw [grp_1 _ _ _ hg]
    refine (pay30_at ..).trans ?_
    unfold k0_pay41
    rw [pay20_at]
    by_cases h : l.val < 64
    · rw [if_pos h, dif_pos h]; exact congrArg (zb x0 x1 x2 ρ) (Fin.ext (by simp only; omega))
    · rw [if_neg h, dif_neg h]

/-- Two groups' lanes side by side, each group its own first. -/
theorem pair_at (A B : Vec Ideal S1x1x256x128 .bf16) (v : FVec Ideal S256x128 .f32) (base : ℕ) (hb : base + 128 ≤ 6016)
    (hv : ∀ ρ (l : Fin 128), (v (ix2 ρ l) : EReal) = zb x0 x1 x2 ρ ⟨base + l.val, by omega⟩)
    (hA : ∀ (ρ : Fin 256) (l : Fin 128), (A (ix4 0 0 ρ l) : EReal) = v (ix2 ρ l))
    (hB : ∀ (ρ : Fin 256) (l : Fin 128), (B (ix4 0 0 ρ l) : EReal) = v (ix2 ρ ⟨(l.val + 128 - 64) % 128, Nat.mod_lt _ (by omega)⟩))
    (g : Fin 2) (ρ : Fin 256) (l : Fin 128) :
    (grp A B (ix4 0 g ρ l) : EReal) = zb x0 x1 x2 ρ ⟨base + (64 * g.val + l.val) % 128, by omega⟩ := by
  by_cases hg : g.val = 0
  · rw [grp_0 _ _ _ hg]
    refine (hA ρ l).trans ((hv ρ l).trans (congrArg (zb x0 x1 x2 ρ) (Fin.ext (by simp only; omega))))
  · rw [grp_1 _ _ _ hg]
    refine (hB ρ l).trans ((hv ρ _).trans (congrArg (zb x0 x1 x2 ρ) (Fin.ext (by simp only; omega))))
theorem out17_at (g : Fin 2) (ρ : Fin 256) (l : Fin 128) : (out0_17 (F := Ideal) i x0 x1 x2 (ix4 0 g ρ l) : EReal)
    = zb x0 x1 x2 ρ ⟨1408 + (64 * g.val + l.val) % 128, by omega⟩ := by
  unfold out0_17
  rw [canonG]
  exact pair_at x0 x1 x2 _ _ _ 1408 (by omega) (pay21_at i x0 x1 x2) (fun ρ l => by pointwise [k0_pay27, k0_pay42]) (fun ρ l => by pointwise [k0_pay31, k0_pay42]) g ρ l
theorem out18_at (g : Fin 2) (ρ : Fin 256) (l : Fin 128) : (out0_18 (F := Ideal) i x0 x1 x2 (ix4 0 g ρ l) : EReal)
    = zb x0 x1 x2 ρ ⟨1536 + (64 * g.val + l.val) % 128, by omega⟩ := by
  unfold out0_18
  rw [canonG]
  exact pair_at x0 x1 x2 _ _ _ 1536 (by omega) (pay22_at i x0 x1 x2) (fun ρ l => by pointwise [k0_pay28, k0_pay43]) (fun ρ l => by pointwise [k0_pay32, k0_pay43]) g ρ l
theorem out19_at (g : Fin 2) (ρ : Fin 256) (l : Fin 128) : (out0_19 (F := Ideal) i x0 x1 x2 (ix4 0 g ρ l) : EReal)
    = zb x0 x1 x2 ρ ⟨1664 + (64 * g.val + l.val) % 128, by omega⟩ := by
  unfold out0_19
  rw [canonG]
  exact pair_at x0 x1 x2 _ _ _ 1664 (by omega) (pay23_at i x0 x1 x2) (fun ρ l => by pointwise [k0_pay29, k0_pay44]) (fun ρ l => by pointwise [k0_pay33, k0_pay44]) g ρ l
end Cert.Kernel2Ideal.Gen
end
-- ==== Proof.PArr.lean ====
module
public import proofs.«01_k».proof.Proof.PBlk
public import proofs.«01_k».proof.Proof.Gen.Kernel2Ideal.Value
public import Idealize.ShloMosaic.Lib.Pipeline.ValueKit.Geometry
@[expose] public section
/-! # The projection's result arrays -/
set_option maxRecDepth 16384
noncomputable section
open Idealize.ShloMosaic Idealize.ShloMosaic.TcCoe Idealize.ShloMosaic.StableHlo
namespace Cert.Kernel2Ideal.Gen
open Cert.Kernel2Ideal
variable (m : (ℓ : Loc nD τ sig) → Buf (Elt Ideal) ℓ) (c : Dev nD)

theorem V0 : V m c main_v0 = shapeCast _ (m ((c.tc : Thread nD τ).loc main_arg0)) shapeCasts_S8x2048x1024_S16384x1024 := by
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl
theorem V2 : V m c main_v2 = shapeCast _ (shapeCast _ (m ((c.tc : Thread nD τ).loc main_arg1)) shapeCasts_S1x1024_S1024) shapeCasts_S1024_S1x1024 := by
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl
/-- The padded weights, from their four pieces. -/
def catW (a : FVec Ideal S1024x1024 .f32) (b : FVec Ideal S1024x768 .f32) (d : FVec Ideal S1024x128 .f32) (e : FVec Ideal S1024x4096 .f32) : FVec Ideal S1024x6016 .f32 :=
  concatenate S1024x6016 1 [⟨S1024x1024, a⟩, ⟨S1024x768, b⟩, ⟨S1024x128, d⟩, ⟨S1024x4096, e⟩] concatenates_S1024x1024_S1024x768_S1024x128_S1024x4096_S1024x6016_d1
/-- The weights as a matrix. -/
abbrev wmat (w : FVec Ideal S1x1024x5400 .f32) : FVec Ideal S1024x5400 .f32 := shapeCast _ w shapeCasts_S1x1024x5400_S1024x5400
theorem V7 : V m c main_v7 = shapeCast _ (pad S1024x8x128 ![0, 0, 0] ![0, 0, 64] ![0, 0, 0]
    (shapeCast _ (extractStridedSlice S1024x512 ![0, 0] (wmat (m ((c.tc : Thread nD τ).loc main_arg2))) slices_S1024x5400_S1024x512_0_0) shapeCasts_S1024x512_S1024x8x64)
    (sitofp (F := Ideal) .f32 (constantI S_ 32 0#32)) pads_S1024x8x64_S1024x8x128_000_000_0640 h_S_) shapeCasts_S1024x8x128_S1024x1024 := by
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl
theorem V8 : V m c main_v8 = extractStridedSlice S1024x768 ![0, 512] (wmat (m ((c.tc : Thread nD τ).loc main_arg2))) slices_S1024x5400_S1024x768_0_512 := by
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl
theorem V10 : V m c main_v10 = pad S1024x128 ![0, 0] ![0, 104] ![0, 0] (extractStridedSlice S1024x24 ![0, 1280] (wmat (m ((c.tc : Thread nD τ).loc main_arg2))) slices_S1024x5400_S1024x24_0_1280)
    (sitofp (F := Ideal) .f32 (constantI S_ 32 0#32)) pads_S1024x24_S1024x128_000_01040 h_S_ := by
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl
theorem V11 : V m c main_v11 = extractStridedSlice S1024x4096 ![0, 1304] (wmat (m ((c.tc : Thread nD τ).loc main_arg2))) slices_S1024x5400_S1024x4096_0_1304 := by
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl
theorem V13 : V m c main_v13 = truncf .bf16 (catW (V m c main_v7) (V m c main_v8) (V m c main_v10) (V m c main_v11)) bitsLt_bf16_f32 := by
  rw [V7, V8, V10, V11]
  unfold V
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  refine congrArg (truncf .bf16 · _) ?_
  refine Eq.trans (b := catW _ _ _ _) rfl ?_
  congr 1
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (grid0.coords t 0).val = t.val :=
  (by decide +kernel : ∀ t : Fin grid0.N, _)

theorem t_lt (t : Fin cfg0.N) : t.val < 64 := t.isLt

/-- Row `r` of the tokens, batch elements one on the other. -/
def xrow (r : Fin 16384) (k : Fin 1024) : EReal := m ((c.tc : Thread nD τ).loc main_arg0) (ix3 ⟨r.val / 2048, by omega⟩ ⟨r.val % 2048, by omega⟩ k)
/-- The gains. -/
def gain (k : Fin 1024) : EReal := m ((c.tc : Thread nD τ).loc main_arg1) (ix2 0 k)
/-- Column `n` of the weights. -/
def wcol (n : Fin 5400) (k : Fin 1024) : EReal := m ((c.tc : Thread nD τ).loc main_arg2) (ix3 0 k n)
/-- Row `r` projected on column `n`. -/
def zz (r : Fin 16384) (n : Fin 5400) : EReal := Proj.z (xrow m c r) (gain m c) (wcol m c n)

/-- The tokens' rows, batch elements one on the other. -/
theorem rows_at (x : FVec Ideal S8x2048x1024 .f32) (r : Fin 16384) (k : Fin 1024) :
    (shapeCast S16384x1024 x shapeCasts_S8x2048x1024_S16384x1024 (ix2 r k) : EReal) = x (ix3 ⟨r.val / 2048, by omega⟩ ⟨r.val % 2048, by omega⟩ k) := by
  pointwise []

theorem iblk0_at (t : Fin cfg0.N) (ρ : Fin 256) (k : Fin 1024) : (iblk m c 0 t (ix2 ρ k) : EReal) = xrow m c ⟨256 * t.val + ρ.val, by have := t_lt t; omega⟩ k := by
  obtain ⟨f0, f1, f2, f3⟩ := idx_facts t
  have := t_lt t
  show V m c main_v0 (((cfg0.win 0).blk t).view.emb _) = _
  refine Eq.trans (b := V m c main_v0 (ix2 ⟨256 * t.val + ρ.val, by omega⟩ k)) (congrArg (V m c main_v0) ?_) ?_
  · funext a
    apply Fin.ext
    match a with
    | ⟨0, _⟩ => show win0_0.index t (0 : Fin 2) * 256 + 1 * ρ.val = 256 * t.val + ρ.val; omega
    | ⟨1, _⟩ => show win0_0.index t (1 : Fin 2) * 1024 + 1 * k.val = k.val; omega
  · rw [V0]
    exact rows_at _ _ _
/-- Row `ρ` of grid point `t`'s block. -/
abbrev tok (t : Fin cfg0.N) (ρ : Fin 256) : Fin 16384 := ⟨256 * t.val + ρ.val, by have := t_lt t; omega⟩

theorem iblk1_at (t : Fin cfg0.N) (k : Fin 1024) : (iblk m c 1 t (ix2 0 k) : EReal) = gain m c k := by
  obtain ⟨f0, f1, f2, f3⟩ := idx_facts t
  have := t_lt t
  show V m c main_v2 (((cfg0.win 1).blk t).view.emb _) = _
  refine Eq.trans (b := V m c main_v2 (ix2 0 k)) (congrArg (V m c main_v2) ?_) ?_
  · funext a
    apply Fin.ext
    match a with
    | ⟨0, _⟩ => show win0_1.index t (0 : Fin 2) * 1 + 1 * 0 = 0; omega
    | ⟨1, _⟩ => show win0_1.index t (1 : Fin 2) * 1024 + 1 * k.val = k.val; omega
  · rw [V2]
    pointwise []
    rfl
theorem iblk2_at (t : Fin cfg0.N) (k : Fin 1024) (J : Fin 6016) : (iblk m c 2 t (ix2 k J) : EReal) = V m c main_v13 (ix2 k J) := by
  obtain ⟨f0, f1, f2, f3⟩ := idx_facts t
  have := t_lt t
  show V m c main_v13 (((cfg0.win 2).blk t).view.emb _) = _
  refine congrArg (V m c main_v13) ?_
  funext a
  apply Fin.ext
  match a with
  | ⟨0, _⟩ => show win0_2.index t (0 : Fin 2) * 1024 + 1 * k.val = k.val; omega
  | ⟨1, _⟩ => show win0_2.index t (1 : Fin 2) * 6016 + 1 * J.val = J.val; omega

theorem word0 : FloatOps.sitofp (F := Ideal) FTy.f32 0#32 = (0 : EReal) := by
  show (((0#32 : BitVec 32).toInt : ℝ) : EReal) = 0
  simp
theorem w7_at (k : Fin 1024) (h : Fin 8) (l : Fin 128) :
    (V m c main_v7 (ix2 k ⟨128 * h.val + l.val, by omega⟩) : EReal) = if hl : l.val < 64 then wcol m c ⟨64 * h.val + l.val, by omega⟩ k else (0 : EReal) := by
  rw [V7]
  pointwise [wmat]
  rw [word0]
  simp only [Nat.mul_comm h.val 64]
  rfl
theorem w8_at (k : Fin 1024) (j : Fin 768) : (V m c main_v8 (ix2 k j) : EReal) = wcol m c ⟨512 + j.val, by omega⟩ k := by
  rw [V8]
  pointwise [wmat]
  rfl
theorem w10_at (k : Fin 1024) (j : Fin 128) : (V m c main_v10 (ix2 k j) : EReal) = if h : j.val < 24 then wcol m c ⟨1280 + j.val, by omega⟩ k else (0 : EReal) := by
  rw [V10]
  pointwise [wmat]
  rw [word0]
  rfl
theorem w11_at (k : Fin 1024) (j : Fin 4096) : (V m c main_v11 (ix2 k j) : EReal) = wcol m c ⟨1304 + j.val, by omega⟩ k := by
  rw [V11]
  pointwise [wmat]
  rfl

theorem cat_at (a b d e) (k : Fin 1024) (J : Fin 6016) : (catW a b d e (ix2 k J) : EReal) =
    if h : J.val < 1024 then a (ix2 k ⟨J.val, h⟩)
    else if h : J.val - 1024 < 768 then b (ix2 k ⟨J.val - 1024, h⟩)
      else if h : J.val - 1024 - 768 < 128 then d (ix2 k ⟨J.val - 1024 - 768, h⟩) else e (ix2 k ⟨J.val - 1024 - 768 - 128, by omega⟩) := by
  pointwise [catW]

/-- The padded weights' columns: the heads' 64 columns before 64 zeros, … -/
theorem w13_q (k : Fin 1024) (h : Fin 8) (l : Fin 128) :
    (V m c main_v13 (ix2 k ⟨128 * h.val + l.val, by omega⟩) : EReal) = if hl : l.val < 64 then wcol m c ⟨64 * h.val + l.val, by omega⟩ k else (0 : EReal) := by
  rw [V13]
  refine (cat_at ..).trans ?_
  rw [dif_pos (by simp only; omega), ← w7_at]
/-- … the key and value columns as they are, … -/
theorem w13_kv (k : Fin 1024) (j : Fin 768) : (V m c main_v13 (ix2 k ⟨1024 + j.val, by omega⟩) : EReal) = wcol m c ⟨512 + j.val, by omega⟩ k := by
  rw [V13]
  refine (cat_at ..).trans ?_
  rw [dif_neg (by simp only; omega), dif_pos (by simp only; omega), ← w8_at]
  exact congrArg (fun j => V m c main_v8 (ix2 k j)) (Fin.ext (by simp only; omega))
/-- … the gates' 24 columns before 104 zeros, … -/
theorem w13_gn (k : Fin 1024) (j : Fin 128) :
    (V m c main_v13 (ix2 k ⟨1792 + j.val, by omega⟩) : EReal) = if h : j.val < 24 then wcol m c ⟨1280 + j.val, by omega⟩ k else (0 : EReal) := by
  rw [V13]
  refine (cat_at ..).trans ?_
  rw [dif_neg (by simp only; omega), dif_neg (by simp only; omega), dif_pos (by simp only; omega), ← w10_at]
  exact congrArg (fun j => V m c main_v10 (ix2 k j)) (Fin.ext (by simp only; omega))
/-- … and the rest as they are. -/
theorem w13_rest (k : Fin 1024) (j : Fin 4096) : (V m c main_v13 (ix2 k ⟨1920 + j.val, by omega⟩) : EReal) = wcol m c ⟨1304 + j.val, by omega⟩ k := by
  rw [V13]
  refine (cat_at ..).trans ?_
  rw [dif_neg (by simp only; omega), dif_neg (by simp only; omega), dif_neg (by simp only; omega), ← w11_at]
  exact congrArg (fun j => V m c main_v11 (ix2 k j)) (Fin.ext (by simp only; omega))

theorem z_zero (x g : Fin 1024 → EReal) : Proj.z x g (fun _ => 0) = 0 := by
  unfold Proj.z
  simp

/-- A block's row at a column of the padded weights is the arrays' row at that column. -/
theorem zb_eq (t : Fin cfg0.N) (ρ : Fin 256) (J : Fin 6016) : zb (iblk m c 0 t) (iblk m c 1 t) (iblk m c 2 t) ρ J
    = Proj.z (xrow m c ⟨256 * t.val + ρ.val, by have := t_lt t; omega⟩) (gain m c) (fun k => V m c main_v13 (ix2 k J)) := by
  unfold zb
  simp only [iblk0_at, iblk1_at, iblk2_at]

theorem zb_q (t : Fin cfg0.N) (ρ : Fin 256) (h : Fin 8) (l : Fin 128) :
    zb (iblk m c 0 t) (iblk m c 1 t) (iblk m c 2 t) ρ ⟨128 * h.val + l.val, by omega⟩ * Proj.scale
      = if hl : l.val < 64 then zz m c (tok t ρ) ⟨64 * h.val + l.val, by omega⟩ * Proj.scale else (0 : EReal) := by
  rw [zb_eq]
  rw [show (fun k => (V m c main_v13 (ix2 k ⟨128 * h.val + l.val, by omega⟩) : EReal)) = _ from funext fun k => w13_q m c k h l]
  by_cases hl : l.val < 64
  · simp only [dif_pos hl]; rfl
  · simp only [dif_neg hl]; rw [z_zero, zero_mul]
theorem zb_kv (t : Fin cfg0.N) (ρ : Fin 256) (j : ℕ) (hj : j < 768) (J : Fin 6016) (hJ : J.val = 1024 + j) :
    zb (iblk m c 0 t) (iblk m c 1 t) (iblk m c 2 t) ρ J = zz m c (tok t ρ) ⟨512 + j, by omega⟩ := by
  refine Eq.trans (congrArg (zb _ _ _ ρ) (Fin.ext hJ : J = ⟨1024 + j, by omega⟩)) ?_
  rw [zb_eq]
  exact congrArg (Proj.z _ _) (funext fun k => w13_kv m c k ⟨j, hj⟩)
theorem zb_gn (t : Fin cfg0.N) (ρ : Fin 256) (j : Fin 128) :
    zb (iblk m c 0 t) (iblk m c 1 t) (iblk m c 2 t) ρ ⟨1792 + j.val, by omega⟩
      = if h : j.val < 24 then zz m c (tok t ρ) ⟨1280 + j.val, by omega⟩ else (0 : EReal) := by
  rw [zb_eq]
  rw [show (fun k => (V m c main_v13 (ix2 k ⟨1792 + j.val, by omega⟩) : EReal)) = _ from funext fun k => w13_gn m c k j]
  by_cases hl : j.val < 24
  · simp only [dif_pos hl]; rfl
  · simp only [dif_neg hl]; rw [z_zero]
theorem zb_rest (t : Fin cfg0.N) (ρ : Fin 256) (j : ℕ) (hj : j < 4096) (J : Fin 6016) (hJ : J.val = 1920 + j) :
    zb (iblk m c 0 t) (iblk m c 1 t) (iblk m c 2 t) ρ J = zz m c (tok t ρ) ⟨1304 + j, by omega⟩ := by
  refine Eq.trans (congrArg (zb _ _ _ ρ) (Fin.ext hJ : J = ⟨1920 + j, by omega⟩)) ?_
  rw [zb_eq]
  exact congrArg (Proj.z _ _) (funext fun k => w13_rest m c k ⟨j, hj⟩)

theorem at2 {n : ℕ} (y : (⟨2, ![16384, n]⟩ : Shape).Idx) (r : Fin 16384) (l : Fin n) (h0 : (y 0).val = r.val) (h1 : (y 1).val = l.val) : y = ix2 r l := by
  rw [eq_ix2 y]
  congr 1 <;> exact Fin.ext (by assumption)
theorem at4 {n : ℕ} (y : (⟨4, ![8, n, 2048, 128]⟩ : Shape).Idx) (b : Fin 8) (g : Fin n) (s : Fin 2048) (l : Fin 128)
    (h0 : (y 0).val = b.val) (h1 : (y 1).val = g.val) (h2 : (y 2).val = s.val) (h3 : (y 3).val = l.val) : y = ix4 b g s l := by
  rw [eq_ix4 y]
  congr 1 <;> exact Fin.ext (by assumption)
theorem fst2 {n k : ℕ} (y : (⟨2, ![n, k]⟩ : Shape).Idx) : ∃ (ρ : Fin n) (l : Fin k), y = ix2 ρ l := ⟨y 0, y 1, eq_ix2 y⟩
theorem fst4 {n k j : ℕ} (y : (⟨4, ![1, n, k, j]⟩ : Shape).Idx) : ∃ (g : Fin n) (ρ : Fin k) (l : Fin j), y = ix4 0 g ρ l :=
  ⟨y 1, y 2, y 3, by rw [eq_ix4 y]; congr 1; exact Subsingleton.elim (α := Fin 1) _ _⟩
/-- Where each result's block sits at each of the 64 grid points. -/
theorem idx_out : ∀ t : Fin cfg0.N,
    (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- … and the blocks by batch element. -/
theorem idx_heads : ∀ t : Fin cfg0.N,
    (win0_3.index t (0 : Fin 4) = t.val / 8 ∧ win0_3.index t (1 : Fin 4) = 0 ∧ win0_3.index t (2 : Fin 4) = t.val % 8 ∧ win0_3.index t (3 : Fin 4) = 0)
    ∧ (win0_16.index t (0 : Fin 4) = t.val / 8 ∧ win0_16.index t (1 : Fin 4) = 0 ∧ win0_16.index t (2 : Fin 4) = t.val % 8 ∧ win0_16.index t (3 : Fin 4) = 0)
    ∧ (win0_17.index t (0 : Fin 4) = t.val / 8 ∧ win0_17.index t (1 : Fin 4) = 0 ∧ win0_17.index t (2 : Fin 4) = t.val % 8 ∧ win0_17.index t (3 : Fin 4) = 0)
    ∧ (win0_18.index t (0 : Fin 4) = t.val / 8 ∧ win0_18.index t (1 : Fin 4) = 0 ∧ win0_18.index t (2 : Fin 4) = t.val % 8 ∧ win0_18.index t (3 : Fin 4) = 0)
    ∧ (win0_19.index t (0 : Fin 4) = t.val / 8 ∧ win0_19.index t (1 : Fin 4) = 0 ∧ win0_19.index t (2 : Fin 4) = t.val % 8 ∧ win0_19.index t (3 : Fin 4) = 0) :=
  (by decide +kernel : ∀ t : Fin grid0.N, _)

/-- The compressed branch's keys. -/
theorem arr4 (G : S16384x128.Idx → EReal) (hG : ∀ r l, G (ix2 r l) = zz m c r ⟨512 + l.val, by omega⟩) : (dats m 0 c).arrAt 4 cfg0.N = G := by
  refine (dats m 0 c).arrAt_eq_of_covers 4 _ (by decide +kernel) fun t hf y => ?_
  obtain ⟨ρ, l, rfl⟩ := fst2 y
  have f := idx_out t
  blk_simp
  rw [after0_4]
  refine Eq.trans ((out4_at ..).trans ((zb_kv m c t ρ (0 + l.val) (by omega) _ (by simp only; omega)).trans (congrArg (zz m c _) (Fin.ext (by simp only; omega))))) ((hG (tok t ρ) l).symm.trans (congrArg G (at2 _ _ _ ?_ ?_).symm))
  · show win0_4.index t (0 : Fin 2) * 256 + 1 * ρ.val = 256 * t.val + ρ.val; omega
  · show win0_4.index t (1 : Fin 2) * 128 + 1 * l.val = l.val; omega
/-- Its values. -/
theorem arr5 (G : S16384x128.Idx → EReal) (hG : ∀ r l, G (ix2 r l) = zz m c r ⟨640 + l.val, by omega⟩) : (dats m 0 c).arrAt 5 cfg0.N = G := by
  refine (dats m 0 c).arrAt_eq_of_covers 5 _ (by decide +kernel) fun t hf y => ?_
  obtain ⟨ρ, l, rfl⟩ := fst2 y
  have f := idx_out t
  blk_simp
  rw [after0_5]
  refine Eq.trans ((out5_at ..).trans ((zb_kv m c t ρ (128 + l.val) (by omega) _ (by simp only; omega)).trans (congrArg (zz m c _) (Fin.ext (by simp only; omega))))) ((hG (tok t ρ) l).symm.trans (congrArg G (at2 _ _ _ ?_ ?_).symm))
  · show win0_5.index t (0 : Fin 2) * 256 + 1 * ρ.val = 256 * t.val + ρ.val; omega
  · show win0_5.index t (1 : Fin 2) * 128 + 1 * l.val = l.val; omega
/-- The selected branch's keys. -/
theorem arr6 (G : S16384x128.Idx → EReal) (hG : ∀ r l, G (ix2 r l) = zz m c r ⟨768 + l.val, by omega⟩) : (dats m 0 c).arrAt 6 cfg0.N = G := by
  refine (dats m 0 c).arrAt_eq_of_covers 6 _ (by decide +kernel) fun t hf y => ?_
  obtain ⟨ρ, l, rfl⟩ := fst2 y
  have f := idx_out t
  blk_simp
  rw [after0_6]
  refine Eq.trans ((out6_at ..).trans ((zb_kv m c t ρ (256 + l.val) (by omega) _ (by simp only; omega)).trans (congrArg (zz m c _) (Fin.ext (by simp only; omega))))) ((hG (tok t ρ) l).symm.trans (congrArg G (at2 _ _ _ ?_ ?_).symm))
  · show win0_6.index t (0 : Fin 2) * 256 + 1 * ρ.val = 256 * t.val + ρ.val; omega
  · show win0_6.index t (1 : Fin 2) * 128 + 1 * l.val = l.val; omega
/-- Its values. -/
theorem arr7 (G : S16384x128.Idx → EReal) (hG : ∀ r l, G (ix2 r l) = zz m c r ⟨896 + l.val, by omega⟩) : (dats m 0 c).arrAt 7 cfg0.N = G := by
  refine (dats m 0 c).arrAt_eq_of_covers 7 _ (by decide +kernel) fun t hf y => ?_
  obtain ⟨ρ, l, rfl⟩ := fst2 y
  have f := idx_out t
  blk_simp
  rw [after0_7]
  refine Eq.trans ((out7_at ..).trans ((zb_kv m c t ρ (384 + l.val) (by omega) _ (by simp only; omega)).trans (congrArg (zz m c _) (Fin.ext (by simp only; omega))))) ((hG (tok t ρ) l).symm.trans (congrArg G (at2 _ _ _ ?_ ?_).symm))
  · show win0_7.index t (0 : Fin 2) * 256 + 1 * ρ.val = 256 * t.val + ρ.val; omega
  · show win0_7.index t (1 : Fin 2) * 128 + 1 * l.val = l.val; omega
/-- The window's keys. -/
theorem arr8 (G : S16384x128.Idx → EReal) (hG : ∀ r l, G (ix2 r l) = zz m c r ⟨1024 + l.val, by omega⟩) : (dats m 0 c).arrAt 8 cfg0.N = G := by
  refine (dats m 0 c).arrAt_eq_of_covers 8 _ (by decide +kernel) fun t hf y => ?_
  obtain ⟨ρ, l, rfl⟩ := fst2 y
  have f := idx_out t
  blk_simp
  rw [after0_8]
  refine Eq.trans ((out8_at ..).trans ((zb_kv m c t ρ (512 + l.val) (by omega) _ (by simp only; omega)).trans (congrArg (zz m c _) (Fin.ext (by simp only; omega))))) ((hG (tok t ρ) l).symm.trans (congrArg G (at2 _ _ _ ?_ ?_).symm))
  · show win0_8.index t (0 : Fin 2) * 256 + 1 * ρ.val = 256 * t.val + ρ.val; omega
  · show win0_8.index t (1 : Fin 2) * 128 + 1 * l.val = l.val; omega
/-- Its values. -/
theorem arr9 (G : S16384x128.Idx → EReal) (hG : ∀ r l, G (ix2 r l) = zz m c r ⟨1152 + l.val, by omega⟩) : (dats m 0 c).arrAt 9 cfg0.N = G := by
  refine (dats m 0 c).arrAt_eq_of_covers 9 _ (by decide +kernel) fun t hf y => ?_
  obtain ⟨ρ, l, rfl⟩ := fst2 y
  have f := idx_out t
  blk_simp
  rw [after0_9]
  refine Eq.trans ((out9_at ..).trans ((zb_kv m c t ρ (640 + l.val) (by omega) _ (by simp only; omega)).trans (congrArg (zz m c _) (Fin.ext (by simp only; omega))))) ((hG (tok t ρ) l).symm.trans (congrArg G (at2 _ _ _ ?_ ?_).symm))
  · show win0_9.index t (0 : Fin 2) * 256 + 1 * ρ.val = 256 * t.val + ρ.val; omega
  · show win0_9.index t (1 : Fin 2) * 128 + 1 * l.val = l.val; omega
/-- The gates, padded with zeros. -/
theorem arr10 (G : S16384x128.Idx → EReal) (hG : ∀ r l, G (ix2 r l) = if h : l.val < 24 then zz m c r ⟨1280 + l.val, by omega⟩ else 0) : (dats m 0 c).arrAt 10 cfg0.N = G := by
  refine (dats m 0 c).arrAt_eq_of_covers 10 _ (by decide +kernel) fun t hf y => ?_
  obtain ⟨ρ, l, rfl⟩ := fst2 y
  have f := idx_out t
  blk_simp
  rw [after0_10]
  refine Eq.trans ((out10_at ..).trans (zb_gn m c t ρ l)) ((hG (tok t ρ) l).symm.trans (congrArg G (at2 _ _ _ ?_ ?_).symm))
  · show win0_10.index t (0 : Fin 2) * 256 + 1 * ρ.val = 256 * t.val + ρ.val; omega
  · show win0_10.index t (1 : Fin 2) * 128 + 1 * l.val = l.val; omega
/-- The attention's activated gate. -/
theorem arr11 (G : S16384x512.Idx → EReal) (hG : ∀ r l, G (ix2 r l) = zz m c r ⟨1304 + l.val, by omega⟩ * Ideal.logistic (zz m c r ⟨1304 + l.val, by omega⟩)) : (dats m 0 c).arrAt 11 cfg0.N = G := by
  refine (dats m 0 c).arrAt_eq_of_covers 11 _ (by decide +kernel) fun t hf y => ?_
  obtain ⟨ρ, l, rfl⟩ := fst2 y
  have f := idx_out t
  blk_simp
  rw [after0_11]
  refine Eq.trans ((out11_at ..).trans (congrArg (fun a : EReal => a * Ideal.logistic a) ((zb_rest m c t ρ (0 + l.val) (by omega) _ (by simp only; omega)).trans (congrArg (zz m c _) (Fin.ext (by simp only; omega)))))) ((hG (tok t ρ) l).symm.trans (congrArg G (at2 _ _ _ ?_ ?_).symm))
  · show win0_11.index t (0 : Fin 2) * 256 + 1 * ρ.val = 256 * t.val + ρ.val; omega
  · show win0_11.index t (1 : Fin 2) * 512 + 1 * l.val = l.val; omega
/-- The convolution's gated input. -/
theorem arr12 (G : S16384x512.Idx → EReal) (hG : ∀ r l, G (ix2 r l) = zz m c r ⟨1816 + l.val, by omega⟩ * Ideal.logistic (zz m c r ⟨2328 + l.val, by omega⟩)) : (dats m 0 c).arrAt 12 cfg0.N = G := by
  refine (dats m 0 c).arrAt_eq_of_covers 12 _ (by decide +kernel) fun t hf y => ?_
  obtain ⟨ρ, l, rfl⟩ := fst2 y
  have f := idx_out t
  blk_simp
  rw [after0_12]
  refine Eq.trans ((out12_at ..).trans (congrArg₂ (fun a b : EReal => a * Ideal.logistic b) ((zb_rest m c t ρ (512 + l.val) (by omega) _ (by simp only; omega)).trans (congrArg (zz m c _) (Fin.ext (by simp only; omega)))) ((zb_rest m c t ρ (1024 + l.val) (by omega) _ (by simp only; omega)).trans (congrArg (zz m c _) (Fin.ext (by simp only; omega)))))) ((hG (tok t ρ) l).symm.trans (congrArg G (at2 _ _ _ ?_ ?_).symm))
  · show win0_12.index t (0 : Fin 2) * 256 + 1 * ρ.val = 256 * t.val + ρ.val; omega
  · show win0_12.index t (1 : Fin 2) * 512 + 1 * l.val = l.val; omega
/-- The convolution's activated gate. -/
theorem arr13 (G : S16384x512.Idx → EReal) (hG : ∀ r l, G (ix2 r l) = zz m c r ⟨2840 + l.val, by omega⟩ * Ideal.logistic (zz m c r ⟨2840 + l.val, by omega⟩)) : (dats m 0 c).arrAt 13 cfg0.N = G := by
  refine (dats m 0 c).arrAt_eq_of_covers 13 _ (by decide +kernel) fun t hf y => ?_
  obtain ⟨ρ, l, rfl⟩ := fst2 y
  have f := idx_out t
  blk_simp
  rw [after0_13]
  refine Eq.trans ((out13_at ..).trans (congrArg (fun a : EReal => a * Ideal.logistic a) ((zb_rest m c t ρ (1536 + l.val) (by omega) _ (by simp only; omega)).trans (congrArg (zz m c _) (Fin.ext (by simp only; omega)))))) ((hG (tok t ρ) l).symm.trans (congrArg G (at2 _ _ _ ?_ ?_).symm))
  · show win0_13.index t (0 : Fin 2) * 256 + 1 * ρ.val = 256 * t.val + ρ.val; omega
  · show win0_13.index t (1 : Fin 2) * 512 + 1 * l.val = l.val; omega
/-- The first merge gate. -/
theorem arr14 (G : S16384x1024.Idx → EReal) (hG : ∀ r l, G (ix2 r l) = Ideal.logistic (zz m c r ⟨3352 + l.val, by omega⟩)) : (dats m 0 c).arrAt 14 cfg0.N = G := by
  refine (dats m 0 c).arrAt_eq_of_covers 14 _ (by decide +kernel) fun t hf y => ?_
  obtain ⟨ρ, l, rfl⟩ := fst2 y
  have f := idx_out t
  blk_simp
  rw [after0_14]
  refine Eq.trans ((out14_at ..).trans (congrArg Ideal.logistic ((zb_rest m c t ρ (2048 + l.val) (by omega) _ (by simp only; omega)).trans (congrArg (zz m c _) (Fin.ext (by simp only; omega)))))) ((hG (tok t ρ) l).symm.trans (congrArg G (at2 _ _ _ ?_ ?_).symm))
  · show win0_14.index t (0 : Fin 2) * 256 + 1 * ρ.val = 256 * t.val + ρ.val; omega
  · show win0_14.index t (1 : Fin 2) * 1024 + 1 * l.val = l.val; omega
/-- The second merge gate. -/
theorem arr15 (G : S16384x1024.Idx → EReal) (hG : ∀ r l, G (ix2 r l) = Ideal.logistic (zz m c r ⟨4376 + l.val, by omega⟩)) : (dats m 0 c).arrAt 15 cfg0.N = G := by
  refine (dats m 0 c).arrAt_eq_of_covers 15 _ (by decide +kernel) fun t hf y => ?_
  obtain ⟨ρ, l, rfl⟩ := fst2 y
  have f := idx_out t
  blk_simp
  rw [after0_15]
  refine Eq.trans ((out15_at ..).trans (congrArg Ideal.logistic ((zb_rest m c t ρ (3072 + l.val) (by omega) _ (by simp only; omega)).trans (congrArg (zz m c _) (Fin.ext (by simp only; omega)))))) ((hG (tok t ρ) l).symm.trans (congrArg G (at2 _ _ _ ?_ ?_).symm))
  · show win0_15.index t (0 : Fin 2) * 256 + 1 * ρ.val = 256 * t.val + ρ.val; omega
  · show win0_15.index t (1 : Fin 2) * 1024 + 1 * l.val = l.val; omega
/-- The row of token `s` of batch element `b`. -/
abbrev brow (b : Fin 8) (s : Fin 2048) : Fin 16384 := ⟨2048 * b.val + s.val, by omega⟩
/-- The scaled queries, a head's 64 lanes before 64 zeros. -/
theorem arr3 (G : S8x8x2048x128.Idx → EReal) (hG : ∀ (b : Fin 8) (g : Fin 8) (s : Fin 2048) (l : Fin 128), G (ix4 b g s l) = if hl : l.val < 64 then zz m c (brow b s) ⟨64 * g.val + l.val, by omega⟩ * Proj.scale else 0) : (dats m 0 c).arrAt 3 cfg0.N = G := by
  refine (dats m 0 c).arrAt_eq_of_covers 3 _ (by decide +kernel) fun t hf y => ?_
  obtain ⟨g, ρ, l, rfl⟩ := fst4 y
  have ht := t_lt t
  obtain ⟨b, hb⟩ : ∃ b : Fin 8, b.val = t.val / 8 := ⟨⟨t.val / 8, by omega⟩, rfl⟩
  obtain ⟨s, hs⟩ : ∃ s : Fin 2048, s.val = 256 * (t.val % 8) + ρ.val := ⟨⟨256 * (t.val % 8) + ρ.val, by omega⟩, rfl⟩
  have hr : brow b s = tok t ρ := Fin.ext (by simp only [brow, tok]; omega)
  obtain ⟨f0, f1, f2, f3⟩ := (idx_heads t).1
  blk_simp
  rw [after0_3]
  refine Eq.trans ((out3_at ..).trans ?_) ((hG b g s l).symm.trans (congrArg G (at4 _ _ _ _ _ ?_ ?_ ?_ ?_).symm))
  · rw [hr]
    exact zb_q m c t ρ g l
  · show win0_3.index t (0 : Fin 4) * 1 + 1 * 0 = b.val; omega
  · show win0_3.index t (1 : Fin 4) * 8 + 1 * g.val = g.val; omega
  · show win0_3.index t (2 : Fin 4) * 256 + 1 * ρ.val = s.val; omega
  · show win0_3.index t (3 : Fin 4) * 128 + 1 * l.val = l.val; omega
/-- The selected branch's keys by group, each token's block marked in the tail lanes. -/
theorem arr16 (G : S8x2x2048x128.Idx → EReal) (hG : ∀ (b : Fin 8) (g : Fin 2) (s : Fin 2048) (l : Fin 128), G (ix4 b g s l) = if h : l.val < 64 then zz m c (brow b s) ⟨768 + 64 * g.val + l.val, by omega⟩ else if l.val - 64 = s.val / 64 then 1 else 0) : (dats m 0 c).arrAt 16 cfg0.N = G := by
  refine (dats m 0 c).arrAt_eq_of_covers 16 _ (by decide +kernel) fun t hf y => ?_
  obtain ⟨g, ρ, l, rfl⟩ := fst4 y
  have ht := t_lt t
  obtain ⟨b, hb⟩ : ∃ b : Fin 8, b.val = t.val / 8 := ⟨⟨t.val / 8, by omega⟩, rfl⟩
  obtain ⟨s, hs⟩ : ∃ s : Fin 2048, s.val = 256 * (t.val % 8) + ρ.val := ⟨⟨256 * (t.val % 8) + ρ.val, by omega⟩, rfl⟩
  have hr : brow b s = tok t ρ := Fin.ext (by simp only [brow, tok]; omega)
  obtain ⟨f0, f1, f2, f3⟩ := (idx_heads t).2.1
  blk_simp
  rw [after0_16]
  refine Eq.trans ((out16_at ..).trans ?_) ((hG b g s l).symm.trans (congrArg G (at4 _ _ _ _ _ ?_ ?_ ?_ ?_).symm))
  · rw [hr]
    by_cases h : l.val < 64
    · rw [dif_pos h, dif_pos h]
      exact (zb_kv m c t ρ (256 + 64 * g.val + l.val) (by omega) _ (by simp only; omega)).trans (congrArg (zz m c _) (Fin.ext (by simp only; omega)))
    · rw [dif_neg h, dif_neg h, (idx_facts t).2.2.2, hs]
  · show win0_16.index t (0 : Fin 4) * 1 + 1 * 0 = b.val; omega
  · show win0_16.index t (1 : Fin 4) * 2 + 1 * g.val = g.val; omega
  · show win0_16.index t (2 : Fin 4) * 256 + 1 * ρ.val = s.val; omega
  · show win0_16.index t (3 : Fin 4) * 128 + 1 * l.val = l.val; omega
/-- The selected branch's values by group, the other group's beside them. -/
theorem arr17 (G : S8x2x2048x128.Idx → EReal) (hG : ∀ (b : Fin 8) (g : Fin 2) (s : Fin 2048) (l : Fin 128), G (ix4 b g s l) = zz m c (brow b s) ⟨896 + (64 * g.val + l.val) % 128, by omega⟩) : (dats m 0 c).arrAt 17 cfg0.N = G := by
  refine (dats m 0 c).arrAt_eq_of_covers 17 _ (by decide +kernel) fun t hf y => ?_
  obtain ⟨g, ρ, l, rfl⟩ := fst4 y
  have ht := t_lt t
  obtain ⟨b, hb⟩ : ∃ b : Fin 8, b.val = t.val / 8 := ⟨⟨t.val / 8, by omega⟩, rfl⟩
  obtain ⟨s, hs⟩ : ∃ s : Fin 2048, s.val = 256 * (t.val % 8) + ρ.val := ⟨⟨256 * (t.val % 8) + ρ.val, by omega⟩, rfl⟩
  have hr : brow b s = tok t ρ := Fin.ext (by simp only [brow, tok]; omega)
  obtain ⟨f0, f1, f2, f3⟩ := (idx_heads t).2.2.1
  blk_simp
  rw [after0_17]
  refine Eq.trans ((out17_at ..).trans ?_) ((hG b g s l).symm.trans (congrArg G (at4 _ _ _ _ _ ?_ ?_ ?_ ?_).symm))
  · rw [hr]
    exact (zb_kv m c t ρ (384 + (64 * g.val + l.val) % 128) (by omega) _ (by simp only; omega)).trans (congrArg (zz m c _) (Fin.ext (by simp only; omega)))
  · show win0_17.index t (0 : Fin 4) * 1 + 1 * 0 = b.val; omega
  · show win0_17.index t (1 : Fin 4) * 2 + 1 * g.val = g.val; omega
  · show win0_17.index t (2 : Fin 4) * 256 + 1 * ρ.val = s.val; omega
  · show win0_17.index t (3 : Fin 4) * 128 + 1 * l.val = l.val; omega
/-- The window's keys likewise. -/
theorem arr18 (G : S8x2x2048x128.Idx → EReal) (hG : ∀ (b : Fin 8) (g : Fin 2) (s : Fin 2048) (l : Fin 128), G (ix4 b g s l) = zz m c (brow b s) ⟨1024 + (64 * g.val + l.val) % 128, by omega⟩) : (dats m 0 c).arrAt 18 cfg0.N = G := by
  refine (dats m 0 c).arrAt_eq_of_covers 18 _ (by decide +kernel) fun t hf y => ?_
  obtain ⟨g, ρ, l, rfl⟩ := fst4 y
  have ht := t_lt t
  obtain ⟨b, hb⟩ : ∃ b : Fin 8, b.val = t.val / 8 := ⟨⟨t.val / 8, by omega⟩, rfl⟩
  obtain ⟨s, hs⟩ : ∃ s : Fin 2048, s.val = 256 * (t.val % 8) + ρ.val := ⟨⟨256 * (t.val % 8) + ρ.val, by omega⟩, rfl⟩
  have hr : brow b s = tok t ρ := Fin.ext (by simp only [brow, tok]; omega)
  obtain ⟨f0, f1, f2, f3⟩ := (idx_heads t).2.2.2.1
  blk_simp
  rw [after0_18]
  refine Eq.trans ((out18_at ..).trans ?_) ((hG b g s l).symm.trans (congrArg G (at4 _ _ _ _ _ ?_ ?_ ?_ ?_).symm))
  · rw [hr]
    exact (zb_kv m c t ρ (512 + (64 * g.val + l.val) % 128) (by omega) _ (by simp only; omega)).trans (congrArg (zz m c _) (Fin.ext (by simp only; omega)))
  · show win0_18.index t (0 : Fin 4) * 1 + 1 * 0 = b.val; omega
  · show win0_18.index t (1 : Fin 4) * 2 + 1 * g.val = g.val; omega
  · show win0_18.index t (2 : Fin 4) * 256 + 1 * ρ.val = s.val; omega
  · show win0_18.index t (3 : Fin 4) * 128 + 1 * l.val = l.val; omega
/-- The window's values likewise. -/
theorem arr19 (G : S8x2x2048x128.Idx → EReal) (hG : ∀ (b : Fin 8) (g : Fin 2) (s : Fin 2048) (l : Fin 128), G (ix4 b g s l) = zz m c (brow b s) ⟨1152 + (64 * g.val + l.val) % 128, by omega⟩) : (dats m 0 c).arrAt 19 cfg0.N = G := by
  refine (dats m 0 c).arrAt_eq_of_covers 19 _ (by decide +kernel) fun t hf y => ?_
  obtain ⟨g, ρ, l, rfl⟩ := fst4 y
  have ht := t_lt t
  obtain ⟨b, hb⟩ : ∃ b : Fin 8, b.val = t.val / 8 := ⟨⟨t.val / 8, by omega⟩, rfl⟩
  obtain ⟨s, hs⟩ : ∃ s : Fin 2048, s.val = 256 * (t.val % 8) + ρ.val := ⟨⟨256 * (t.val % 8) + ρ.val, by omega⟩, rfl⟩
  have hr : brow b s = tok t ρ := Fin.ext (by simp only [brow, tok]; omega)
  obtain ⟨f0, f1, f2, f3⟩ := (idx_heads t).2.2.2.2
  blk_simp
  rw [after0_19]
  refine Eq.trans ((out19_at ..).trans ?_) ((hG b g s l).symm.trans (congrArg G (at4 _ _ _ _ _ ?_ ?_ ?_ ?_).symm))
  · rw [hr]
    exact (zb_kv m c t ρ (640 + (64 * g.val + l.val) % 128) (by omega) _ (by simp only; omega)).trans (congrArg (zz m c _) (Fin.ext (by simp only; omega)))
  · show win0_19.index t (0 : Fin 4) * 1 + 1 * 0 = b.val; omega
  · show win0_19.index t (1 : Fin 4) * 2 + 1 * g.val = g.val; omega
  · show win0_19.index t (2 : Fin 4) * 256 + 1 * ρ.val = s.val; omega
  · show win0_19.index t (3 : Fin 4) * 128 + 1 * l.val = l.val; omega
end Cert.Kernel2Ideal.Gen
end
-- ==== Proof.PRef.lean ====
module
public import proofs.«01_k».proof.Proof.Gen.Reference2Ideal.Run
public import proofs.«01_k».proof.Proof.PBlk
public import proofs.«01_k».proof.Proof.SelKeys
public import proofs.«01_k».proof.Proof.Words
@[expose] public section
/-! # The projection's reference at an index -/
set_option maxRecDepth 16384
noncomputable section
open Idealize.ShloMosaic Idealize.ShloMosaic.TcCoe Idealize.ShloMosaic.StableHlo
namespace Cert.Reference2Ideal.Value
open Cert.Reference2Ideal Cert.Reference2Ideal.Gen

section
variable (x : FVec Ideal S8x2048x1024 .f32) (g : FVec Ideal S1x1024 .f32) (w : FVec Ideal S1x1024x5400 .f32)
/-- The tokens' projection. -/
def proj : FVec Ideal S8x2048x5400 .f32 :=
  Host.dotGeneral dot_S8x2048x1024_S1024x5400_S8x2048x5400_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))) (shapeCast _ w shapeCasts_S1x1024x5400_S1024x5400)

/-- The projection of a token onto a column is the normalised row's inner product with it. -/
theorem proj_at (b : Fin 8) (s : Fin 2048) (n : Fin 5400) : (proj x g w (ix3 b s n) : EReal)
    = Proj.z (fun k => x (ix3 b s k)) (fun k => g (ix2 0 k)) (fun k => w (ix3 0 k n)) := by
  pointwise [proj]
  rfl
end

/-- The word zero, converted, is the number zero. -/
theorem word_zero : (FloatOps.sitofp (F := Ideal) FTy.f32 0#32 : EReal) = 0 := by
  show (((0#32 : BitVec 32).toInt : ℝ) : EReal) = 0
  simp
theorem div64 (t : Fin 2048) : IntOp.divsi ArithUnit.host (BitVec.ofNat 32 t.val) 64#32 = BitVec.ofNat 32 (t.val / 64) :=
  (by decide +kernel : ∀ t : Fin 2048, IntOp.divsi ArithUnit.host (BitVec.ofNat 32 t.val) 64#32 = BitVec.ofNat 32 (t.val / 64)) t
/-- The mark of a key's block: one in its own lane, zero elsewhere. -/
theorem mark_at (s : Fin 2048) (j : ℕ) (hj : j < 64) :
    (FloatOps.sitofp (F := Ideal) FTy.f32 (BitVec.setWidth 32 (IntOp.cmpi CmpIPredicate.eq (IntOp.divsi ArithUnit.host (BitVec.ofNat 32 s.val) 64#32) (BitVec.ofNat 32 j))) : EReal)
      = if j = s.val / 64 then 1 else 0 := by
  rw [div64, Attn.w_eq _ _ (by omega) (by omega)]
  by_cases h : j = s.val / 64
  · rw [if_pos h, Attn.bit_true h.symm]
    show (((BitVec.setWidth 32 1#1).toInt : ℝ) : EReal) = 1
    rw [show (BitVec.setWidth 32 1#1).toInt = 1 from by decide]; simp
  · rw [if_neg h, Attn.bit_false (fun e => h e.symm)]
    show (((BitVec.setWidth 32 0#1).toInt : ℝ) : EReal) = 0
    rw [show (BitVec.setWidth 32 0#1).toInt = 0 from by decide]; simp

variable (z : FVec Ideal S8x2048x5400 .f32)
/-- The projection's entry of row `r`, batch elements one on the other. -/
def zr (r : Fin 16384) (n : Fin 5400) : EReal := z (ix3 ⟨r.val / 2048, by omega⟩ ⟨r.val % 2048, by omega⟩ n)

/-- Columns sliced off the projection, batch elements one on the other. -/
theorem kv_at (off : ℕ) (ho : off + 128 ≤ 5400) (h) (r : Fin 16384) (l : Fin 128) :
    (shapeCast S16384x128 (extractStridedSlice S8x2048x128 ![0, 0, off] z h) shapeCasts_S8x2048x128_S16384x128 (ix2 r l) : EReal) = zr z r ⟨off + l.val, by omega⟩ := by
  pointwise []
  rfl
/-- Batch elements one on the other: row `r` is a token of its batch element. -/
theorem merge_at (y : FVec Ideal S8x2048x128 .f32) (r : Fin 16384) (l : Fin 128) :
    (shapeCast S16384x128 y shapeCasts_S8x2048x128_S16384x128 (ix2 r l) : EReal) = y (ix3 ⟨r.val / 2048, by omega⟩ ⟨r.val % 2048, by omega⟩ l) := by
  pointwise []
/-- The branch gates' columns, padded with zeros, at a token. -/
theorem gates_at (b : Fin 8) (s : Fin 2048) (l : Fin 128) : (pad S8x2048x128 ![0, 0, 0] ![0, 0, 104] ![0, 0, 0] (extractStridedSlice S8x2048x24 ![0, 0, 1280] z slices_S8x2048x5400_S8x2048x24_0_0_1280) (sitofp (F := Ideal) .f32 (constantI S_ 32 0#32)) pads_S8x2048x24_S8x2048x128_000_000_01040 h_S_ (ix3 b s l) : EReal)
    = if h : l.val < 24 then z (ix3 b s ⟨1280 + l.val, by omega⟩) else (0 : EReal) := by
  pointwise []
  rw [word_zero]
/-- The branch gates' columns, padded with zeros. -/
theorem gn_at (r : Fin 16384) (l : Fin 128) : (shapeCast S16384x128 (pad S8x2048x128 ![0, 0, 0] ![0, 0, 104] ![0, 0, 0] (extractStridedSlice S8x2048x24 ![0, 0, 1280] z slices_S8x2048x5400_S8x2048x24_0_0_1280) (sitofp (F := Ideal) .f32 (constantI S_ 32 0#32)) pads_S8x2048x24_S8x2048x128_000_000_01040 h_S_) shapeCasts_S8x2048x128_S16384x128 (ix2 r l) : EReal)
    = if h : l.val < 24 then zr z r ⟨1280 + l.val, by omega⟩ else (0 : EReal) :=
  (merge_at _ r l).trans (gates_at z _ _ l)
/-- A column times the logistic of another. -/
theorem glu_at (off off' : ℕ) (ho : off + 512 ≤ 5400) (ho' : off' + 512 ≤ 5400) (h h') (r : Fin 16384) (l : Fin 512) : (shapeCast S16384x512 (mulf (extractStridedSlice S8x2048x512 ![0, 0, off] z h) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (extractStridedSlice S8x2048x512 ![0, 0, off'] z h')))))) shapeCasts_S8x2048x512_S16384x512 (ix2 r l) : EReal) = zr z r ⟨off + l.val, by omega⟩ * Ideal.logistic (zr z r ⟨off' + l.val, by omega⟩) := by
  pointwise []
  rfl
/-- The logistic of a column. -/
theorem sig_at (off : ℕ) (ho : off + 1024 ≤ 5400) (h) (r : Fin 16384) (l : Fin 1024) : (shapeCast S16384x1024 (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, off] z h))))) shapeCasts_S8x2048x1024_S16384x1024 (ix2 r l) : EReal) = Ideal.logistic (zr z r ⟨off + l.val, by omega⟩) := by
  pointwise []
  rfl
/-- The scaled queries by head, padded with zeros. -/
theorem qp_at (b : Fin 8) (h : Fin 8) (s : Fin 2048) (l : Fin 128) : (truncf (F := Ideal) .bf16 (pad S8x8x2048x128 ![0, 0, 0, 0] ![0, 0, 0, 64] ![0, 0, 0, 0] (mulf (transpose S8x8x2048x64 [0, 2, 1, 3] (shapeCast _ (extractStridedSlice S8x2048x512 ![0, 0, 0] z slices_S8x2048x5400_S8x2048x512_0_0_0) shapeCasts_S8x2048x512_S8x2048x8x64) transposes_S8x2048x8x64_S8x8x2048x64_0_2_1_3) (broadcastInDim S8x8x2048x64 ![] bcast_S_S8x8x2048x64 (constant S_ .f32 0x3E000000#32))) (sitofp (F := Ideal) .f32 (constantI S_ 32 0#32)) pads_S8x8x2048x64_S8x8x2048x128_000_000_000_0640 h_S_) bitsLt_bf16_f32 (ix4 b h s l) : EReal) = if hl : l.val < 64 then z (ix3 b s ⟨64 * h.val + l.val, by omega⟩) * Proj.scale else (0 : EReal) := by
  pointwise []
  rw [word_zero]
  simp only [Nat.mul_comm h.val 64]
  rfl
/-- The selected branch's keys by group, each token's block marked in the tail lanes. -/
theorem ks_at (b : Fin 8) (g : Fin 2) (s : Fin 2048) (l : Fin 128) : (truncf (F := Ideal) .bf16 (concatenate S8x2x2048x128 3 [⟨S8x2x2048x64, (transpose S8x2x2048x64 [0, 2, 1, 3] (shapeCast _ (extractStridedSlice S8x2048x128 ![0, 0, 768] z slices_S8x2048x5400_S8x2048x128_0_0_768) shapeCasts_S8x2048x128_S8x2048x2x64) transposes_S8x2048x2x64_S8x2x2048x64_0_2_1_3)⟩, ⟨S8x2x2048x64, (broadcastInDim S8x2x2048x64 ![2, 3] bcast_S2048x64_S8x2x2048x64_2_3 (sitofp .f32 (extui 32 (cmpi .eq (broadcastInDim S2048x64 ![0, 1] bcast_S2048x1_S2048x64_0_1 (broadcastInDim S2048x1 ![0] bcast_S2048_S2048x1_0 (Host.divsi (iotaInDim S2048 32 0) (broadcastInDim S2048 ![] bcast_S_S2048 (constantI S_ 32 64#32))))) (broadcastInDim S2048x64 ![0, 1] bcast_S1x64_S2048x64_0_1 (broadcastInDim S1x64 ![1] bcast_S64_S1x64_1 (iotaInDim S64 32 0)))) natLt_1_32)))⟩] concatenates_S8x2x2048x64_S8x2x2048x64_S8x2x2048x128_d3) bitsLt_bf16_f32 (ix4 b g s l) : EReal) = if h : l.val < 64 then z (ix3 b s ⟨768 + 64 * g.val + l.val, by omega⟩) else if l.val - 64 = s.val / 64 then (1 : EReal) else 0 := by
  pointwise []
  rw [mark_at s (l.val - 64) (by omega)]
  simp only [Nat.mul_comm g.val 64, ← Nat.add_assoc]
/-- A column slice by group, the other group's beside it. -/
theorem both_at (off : ℕ) (ho : off + 128 ≤ 5400) (h) (b : Fin 8) (g : Fin 2) (s : Fin 2048) (l : Fin 128) : (truncf (F := Ideal) .bf16 (concatenate S8x2x2048x128 3 [⟨S8x2x2048x64, (transpose S8x2x2048x64 [0, 2, 1, 3] (shapeCast _ (extractStridedSlice S8x2048x128 ![0, 0, off] z h) shapeCasts_S8x2048x128_S8x2048x2x64) transposes_S8x2048x2x64_S8x2x2048x64_0_2_1_3)⟩, ⟨S8x2x2048x64, (Host.reverse [1] (transpose S8x2x2048x64 [0, 2, 1, 3] (shapeCast _ (extractStridedSlice S8x2048x128 ![0, 0, off] z h) shapeCasts_S8x2048x128_S8x2048x2x64) transposes_S8x2048x2x64_S8x2x2048x64_0_2_1_3))⟩] concatenates_S8x2x2048x64_S8x2x2048x64_S8x2x2048x128_d3) bitsLt_bf16_f32 (ix4 b g s l) : EReal) = z (ix3 b s ⟨off + (64 * g.val + l.val) % 128, by omega⟩) := by
  pointwise []
  by_cases h' : l.val < 64
  · rw [dif_pos h']
    exact congrArg (fun k => z (ix3 b s k)) (Fin.ext (by simp only; omega))
  · rw [dif_neg h']
    have e0 : ¬ (0 : Fin 4) ∈ [(1 : Fin 4)] := by decide
    refine congrArg (fun k => z (ix3 b s k)) (Fin.ext ?_)
    simp
    omega
end Cert.Reference2Ideal.Value
end
-- ==== Proof.PVal.lean ====
module
public import proofs.«01_k».proof.Defs
public import proofs.«01_k».proof.Proof.PArr
public import proofs.«01_k».proof.Proof.PRef
public import proofs.«01_k».proof.Proof.Gen.Kernel2Ideal
public import proofs.«01_k».proof.Proof.Gen.Reference2Ideal
@[expose] public section
/-! # The projection: the kernel's arrays are the reference's -/
set_option maxRecDepth 16384
noncomputable section
open Idealize.ShloMosaic Idealize.SL.Sem
namespace Cert.Proj2
open Cert.Reference2Ideal.Value Cert.Kernel2Ideal.Gen

section
variable (m : (ℓ : Loc Cert.Kernel2Ideal.nD Cert.Kernel2Ideal.τ Cert.Kernel2Ideal.sig) → Buf (Elt Ideal) ℓ) (c : Dev Cert.Kernel2Ideal.nD)
  (x : FVec Ideal Cert.Reference2Ideal.S8x2048x1024 .f32) (g : FVec Ideal Cert.Reference2Ideal.S1x1024 .f32) (w : FVec Ideal Cert.Reference2Ideal.S1x1024x5400 .f32)
  (h0 : x = m ((c.tc : Thread Cert.Kernel2Ideal.nD Cert.Kernel2Ideal.τ).loc Cert.Kernel2Ideal.main_arg0))
  (h1 : g = m ((c.tc : Thread Cert.Kernel2Ideal.nD Cert.Kernel2Ideal.τ).loc Cert.Kernel2Ideal.main_arg1))
  (h2 : w = m ((c.tc : Thread Cert.Kernel2Ideal.nD Cert.Kernel2Ideal.τ).loc Cert.Kernel2Ideal.main_arg2))
include h0 h1 h2
/-- The reference's projection by rows is the kernel's when the arguments agree. -/
theorem rows_eq (r : Fin 16384) (n : Fin 5400) : zr (proj x g w) r n = zz m c r n := by
  refine (proj_at x g w _ _ n).trans ?_
  subst h0 h1 h2
  rfl
/-- The same by batch element and token. -/
theorem toks_eq (b : Fin 8) (s : Fin 2048) (n : Fin 5400) : (proj x g w (ix3 b s n) : EReal) = zz m c (brow b s) n := by
  refine Eq.trans ?_ (rows_eq m c x g w h0 h1 h2 (brow b s) n)
  refine congrArg₂ (fun b s => (proj x g w (ix3 b s n) : EReal)) (Fin.ext ?_) (Fin.ext ?_)
  · show b.val = (2048 * b.val + s.val) / 2048; omega
  · show s.val = (2048 * b.val + s.val) % 2048; omega
end

set_option maxHeartbeats 4000000 in
/-- THE PROJECTION'S VALUE: at the extended reals the kernel and the reference give the same seventeen result arrays. -/
theorem value : Cert.algebraic_Kernel2Ideal_Reference2Ideal := by
  intro m ρ m' ρ' hpre hagree
  refine ⟨_, _, _, _, _, _, _, _, _, _, _, _, _, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨a0, a1, a2⟩ := hagree c
  obtain ⟨h3, h4, h5, h6, h7, h8, h9, h10, h11, h12, h13, h14, h15, h16, h17, h18, h19, hk⟩ := h c
  have hz := rows_eq m c _ _ _ a0 a1 a2
  have hh := toks_eq m c _ _ _ a0 a1 a2
  refine ⟨h3.trans (Cert.Kernel2Ideal.Gen.arr3 m c _ ?_).symm, h4.trans (Cert.Kernel2Ideal.Gen.arr4 m c _ ?_).symm, h5.trans (Cert.Kernel2Ideal.Gen.arr5 m c _ ?_).symm, h6.trans (Cert.Kernel2Ideal.Gen.arr6 m c _ ?_).symm, h7.trans (Cert.Kernel2Ideal.Gen.arr7 m c _ ?_).symm, h8.trans (Cert.Kernel2Ideal.Gen.arr8 m c _ ?_).symm, h9.trans (Cert.Kernel2Ideal.Gen.arr9 m c _ ?_).symm, h10.trans (Cert.Kernel2Ideal.Gen.arr10 m c _ ?_).symm, h11.trans (Cert.Kernel2Ideal.Gen.arr11 m c _ ?_).symm, h12.trans (Cert.Kernel2Ideal.Gen.arr12 m c _ ?_).symm, h13.trans (Cert.Kernel2Ideal.Gen.arr13 m c _ ?_).symm, h14.trans (Cert.Kernel2Ideal.Gen.arr14 m c _ ?_).symm, h15.trans (Cert.Kernel2Ideal.Gen.arr15 m c _ ?_).symm, h16.trans (Cert.Kernel2Ideal.Gen.arr16 m c _ ?_).symm, h17.trans (Cert.Kernel2Ideal.Gen.arr17 m c _ ?_).symm, h18.trans (Cert.Kernel2Ideal.Gen.arr18 m c _ ?_).symm, h19.trans (Cert.Kernel2Ideal.Gen.arr19 m c _ ?_).symm, hk⟩
  · intro b g s l
    refine (qp_at (proj _ _ _) b g s l).trans ?_
    by_cases h : l.val < 64
    · rw [dif_pos h, dif_pos h, hh]
    · rw [dif_neg h, dif_neg h]
  · exact fun r l => (kv_at (proj _ _ _) 512 (by omega) _ r l).trans (hz _ _)
  · exact fun r l => (kv_at (proj _ _ _) 640 (by omega) _ r l).trans (hz _ _)
  · exact fun r l => (kv_at (proj _ _ _) 768 (by omega) _ r l).trans (hz _ _)
  · exact fun r l => (kv_at (proj _ _ _) 896 (by omega) _ r l).trans (hz _ _)
  · exact fun r l => (kv_at (proj _ _ _) 1024 (by omega) _ r l).trans (hz _ _)
  · exact fun r l => (kv_at (proj _ _ _) 1152 (by omega) _ r l).trans (hz _ _)
  · intro r l
    refine (gn_at (proj _ _ _) r l).trans ?_
    by_cases h : l.val < 24
    · rw [dif_pos h, dif_pos h, hz]
    · rw [dif_neg h, dif_neg h]
  · exact fun r l => (glu_at (proj _ _ _) 1304 1304 (by omega) (by omega) _ _ r l).trans (by rw [hz])
  · exact fun r l => (glu_at (proj _ _ _) 1816 2328 (by omega) (by omega) _ _ r l).trans (by rw [hz, hz])
  · exact fun r l => (glu_at (proj _ _ _) 2840 2840 (by omega) (by omega) _ _ r l).trans (by rw [hz])
  · exact fun r l => (sig_at (proj _ _ _) 3352 (by omega) _ r l).trans (by rw [hz])
  · exact fun r l => (sig_at (proj _ _ _) 4376 (by omega) _ r l).trans (by rw [hz])
  · intro b g s l
    refine (ks_at (proj _ _ _) b g s l).trans ?_
    by_cases h : l.val < 64
    · rw [dif_pos h, dif_pos h, hh]
    · rw [dif_neg h, dif_neg h]
  · exact fun b g s l => (both_at (proj _ _ _) 896 (by omega) _ b g s l).trans (hh _ _ _)
  · exact fun b g s l => (both_at (proj _ _ _) 1024 (by omega) _ b g s l).trans (hh _ _ _)
  · exact fun b g s l => (both_at (proj _ _ _) 1152 (by omega) _ b g s l).trans (hh _ _ _)
end Cert.Proj2
end
-- ==== Proof.TSpec.lean ====
module
public import proofs.«01_k».proof.Proof.Words
@[expose] public section
/-! # The layer's tail at a token

The convolution over the last thirty-one tokens, its normalization and gate, the two branches joined, and the output's
normalization: each a function of the token's rows and the weights. -/
noncomputable section
open Idealize.ShloMosaic
namespace Tail
/-- Terms added up one by one from zero. -/
def acc (f : ℕ → EReal) : ℕ → EReal
  | 0 => 0
  | n + 1 => acc f n + f n
theorem acc_congr {f g : ℕ → EReal} : ∀ {n : ℕ}, (∀ k < n, f k = g k) → acc f n = acc g n
  | 0, _ => rfl
  | n + 1, h => by rw [acc, acc, acc_congr (fun k hk => h k (by omega)), h n (by omega)]

/-- The token `k` places into the window that ends at token `s`, zero before the first. -/
def tap (u : ℕ → EReal) (s k : ℕ) : EReal := if s + k < 30 then 0 else u (s + k - 30)
/-- The convolution at token `s`. -/
def conv (u w : ℕ → EReal) (s : ℕ) : EReal := acc (fun k => tap u s k * w k) 31
/-- A finite row, continued by zero. -/
def ext {n : ℕ} (f : Fin n → EReal) (s : ℕ) : EReal := if h : s < n then f ⟨s, h⟩ else 0
theorem ext_lt {n : ℕ} (f : Fin n → EReal) (s : ℕ) (h : s < n) : ext f s = f ⟨s, h⟩ := dif_pos h

/-- One divided by the root of a mean square plus a small number. -/
def rs (s n : EReal) : EReal := Ideal.rsqrt (Ideal.div s n + Ideal.ofBits FTy.f32 897988541#32)
section
variable (c g b : Fin 512 → EReal)
def mu : EReal := Ideal.div (∑ j, c j) (Ideal.ofBits FTy.f32 1140850688#32)
def dev (j : Fin 512) : EReal := c j - mu c
/-- The convolution's row, normalized, with gains and offsets. -/
def cn (j : Fin 512) : EReal := dev c j * rs (∑ j, dev c j * dev c j) (Ideal.ofBits FTy.f32 1140850688#32) * g j + b j
/-- The gated row times a column. -/
def gate (w : Fin 512 → EReal) : EReal := ∑ k, cn c g b k * Ideal.logistic (cn c g b k) * w k
end
section
variable (x sma smb : Fin 1024 → EReal) (oa sga sgb cp : Fin 512 → EReal) (wa wb : Fin 512 → Fin 1024 → EReal) (wo : Fin 1024 → Fin 1024 → EReal) (fg : Fin 1024 → EReal)
/-- The two branches joined. -/
def join (n : Fin 1024) : EReal := sma n * (∑ k, oa k * sga k * wa k n) + smb n * (∑ k, cp k * sgb k * wb k n)
def res (n : Fin 1024) : EReal := x n + ∑ k, join sma smb oa sga sgb cp wa wb k * wo k n
/-- The output row. -/
def out (n : Fin 1024) : EReal :=
  res x sma smb oa sga sgb cp wa wb wo n * rs (∑ j, res x sma smb oa sga sgb cp wa wb wo j * res x sma smb oa sga sgb cp wa wb wo j) (Ideal.ofBits FTy.f32 1149239296#32) * fg n
end
end Tail
end
-- ==== Proof.TBlk.lean ====
module
public import proofs.«01_k».proof.Proof.Gen.Kernel3Ideal.Frame
public import Idealize.ShloMosaic.Lib.WritesUnit
public import proofs.«01_k».proof.Proof.TSpec
public import proofs.«01_k».proof.Proof.SelKeys
@[expose] public section
/-! # The tail's block

What each word the tail computes holds at an index. -/
set_option maxRecDepth 16384
noncomputable section
open Idealize.ShloMosaic
namespace Cert.Kernel3Ideal.Gen
open Cert.Kernel3Ideal

section
variable (v26 v31 s0 s1 s2 s3 s4 : Vec Ideal S256x512 .f32) (w0 w1 w2 w3 w4 : Vec Ideal S1x512 .f32) (ρ : Fin 256) (j : Fin 512)
theorem tap4 : (k0_pay4 (F := Ideal) s0 w0 s1 w1 s2 w2 (ix2 ρ j) : EReal)
    = 0 + s0 (ix2 ρ j) * w0 (ix2 0 j) + s1 (ix2 ρ j) * w1 (ix2 0 j) + s2 (ix2 ρ j) * w2 (ix2 0 j) := by
  pointwise [k0_pay4]
theorem tap5 : (k0_pay5 (F := Ideal) s0 w0 (ix2 ρ j) : EReal) = s0 (ix2 ρ j) * w0 (ix2 0 j) := by
  pointwise [k0_pay5]
theorem tap6 : (k0_pay6 (F := Ideal) v26 v31 s0 w0 s1 w1 s2 w2 s3 w3 s4 w4 (ix2 ρ j) : EReal)
    = v26 (ix2 ρ j) + v31 (ix2 ρ j) + s0 (ix2 ρ j) * w0 (ix2 0 j) + s1 (ix2 ρ j) * w1 (ix2 0 j) + s2 (ix2 ρ j) * w2 (ix2 0 j) + s3 (ix2 ρ j) * w3 (ix2 0 j) + s4 (ix2 ρ j) * w4 (ix2 0 j) := by
  pointwise [k0_pay6]
theorem tap8 : (k0_pay8 (F := Ideal) v26 v31 s0 w0 s1 w1 s2 w2 s3 w3 s4 w4 (ix2 ρ j) : EReal)
    = v26 (ix2 ρ j) + v31 (ix2 ρ j) + s0 (ix2 ρ j) * w0 (ix2 0 j) + s1 (ix2 ρ j) * w1 (ix2 0 j) + s2 (ix2 ρ j) * w2 (ix2 0 j) + s3 (ix2 ρ j) * w3 (ix2 0 j) + s4 (ix2 ρ j) * w4 (ix2 0 j) := by
  pointwise [k0_pay8]
theorem tap10 : (k0_pay10 (F := Ideal) v26 v31 s0 w0 s1 w1 s2 w2 s3 w3 s4 w4 (ix2 ρ j) : EReal)
    = v26 (ix2 ρ j) + v31 (ix2 ρ j) + s0 (ix2 ρ j) * w0 (ix2 0 j) + s1 (ix2 ρ j) * w1 (ix2 0 j) + s2 (ix2 ρ j) * w2 (ix2 0 j) + s3 (ix2 ρ j) * w3 (ix2 0 j) + s4 (ix2 ρ j) * w4 (ix2 0 j) := by
  pointwise [k0_pay10]
theorem tap12 : (k0_pay12 (F := Ideal) v26 v31 s0 w0 s1 w1 s2 w2 s3 w3 s4 w4 (ix2 ρ j) : EReal)
    = v26 (ix2 ρ j) + v31 (ix2 ρ j) + s0 (ix2 ρ j) * w0 (ix2 0 j) + s1 (ix2 ρ j) * w1 (ix2 0 j) + s2 (ix2 ρ j) * w2 (ix2 0 j) + s3 (ix2 ρ j) * w3 (ix2 0 j) + s4 (ix2 ρ j) * w4 (ix2 0 j) := by
  pointwise [k0_pay12]
theorem tap7 : (k0_pay7 (F := Ideal) s0 w0 (ix2 ρ j) : EReal) = s0 (ix2 ρ j) * w0 (ix2 0 j) := by
  pointwise [k0_pay7]
theorem tap9 : (k0_pay9 (F := Ideal) s0 w0 (ix2 ρ j) : EReal) = s0 (ix2 ρ j) * w0 (ix2 0 j) := by
  pointwise [k0_pay9]
theorem tap11 : (k0_pay11 (F := Ideal) s0 w0 (ix2 ρ j) : EReal) = s0 (ix2 ρ j) * w0 (ix2 0 j) := by
  pointwise [k0_pay11]
theorem tap13 : (k0_pay13 (F := Ideal) s0 w0 (ix2 ρ j) : EReal) = s0 (ix2 ρ j) * w0 (ix2 0 j) := by
  pointwise [k0_pay13]
theorem tap14 : (k0_pay14 (F := Ideal) v26 v31 s0 w0 s1 w1 s2 w2 (ix2 ρ j) : EReal)
    = v26 (ix2 ρ j) + v31 (ix2 ρ j) + s0 (ix2 ρ j) * w0 (ix2 0 j) + s1 (ix2 ρ j) * w1 (ix2 0 j) + s2 (ix2 ρ j) * w2 (ix2 0 j) := by
  pointwise [k0_pay14]
end
theorem gate_at (v : FVec Ideal S256x512 .f32) (b0 g b : Vec Ideal S1x512 .f32) (w : Vec Ideal S512x512 .bf16) (ρ : Fin 256) (n : Fin 512) :
    (k0_pay22 (F := Ideal) v b0 g b w (ix2 ρ n) : EReal)
      = Tail.gate (fun j => v (ix2 ρ j) + b0 (ix2 0 j)) (fun j => g (ix2 0 j)) (fun j => b (ix2 0 j)) (fun k => w (ix2 k n)) := by
  pointwise [k0_pay22]
  rfl
theorem out_at (x sma smb : FVec Ideal S256x1024 .f32) (oa sga sgb cp : FVec Ideal S256x512 .f32) (pb : Vec Ideal S1x512 .f32) (wa wb : Vec Ideal S512x1024 .bf16)
    (wo : Vec Ideal S1024x1024 .bf16) (fg : Vec Ideal S1x1024 .f32) (ρ : Fin 256) (n : Fin 1024) :
    (k0_pay23 (F := Ideal) x oa sga sgb sma smb cp pb wa wb wo fg (ix2 ρ n) : EReal)
      = Tail.out (fun n => x (ix2 ρ n)) (fun n => sma (ix2 ρ n)) (fun n => smb (ix2 ρ n)) (fun k => oa (ix2 ρ k)) (fun k => sga (ix2 ρ k)) (fun k => sgb (ix2 ρ k))
          (fun k => cp (ix2 ρ k) + pb (ix2 0 k)) (fun k n => wa (ix2 k n)) (fun k n => wb (ix2 k n)) (fun k n => wo (ix2 k n)) (fun n => fg (ix2 0 n)) n := by
  pointwise [k0_pay23]
  rfl
theorem unit1_at (v : FVec Ideal S256x1024 .f32) (ρ : Fin 256) (n : Fin 1024) : (k0_pay1 (F := Ideal) v (ix3 0 ρ n) : EReal) = v (ix2 ρ n) := by
  pointwise [k0_pay1]

/-- The window's rows: what an earlier tile left, then this tile's. -/
def Win (h : Fin 32 → EReal) (u : Fin 256 → EReal) (R : ℕ) : EReal := if hR : R < 32 then h ⟨R, hR⟩ else Tail.ext u (R - 32)

section
variable (v : View sig .tc .vmem S288x512 .f32) (f : v.ty.Contents (Elt Ideal)) (L : List (View.Piece (Elt Ideal) S288x512 .f32))
/-- This tile's rows lie from row 32 on. -/
theorem rows_at (inb) (w : Vec Ideal S1x256x512 .f32) (R : Fin 288) (j : Fin 512) :
    (v.read (Elt Ideal) (v.writes (Elt Ideal) f ((⟨Rect.unit (s := S288x512) ![32, 0] S256x512.size inb, k0_pay3 w⟩ : View.Piece (Elt Ideal) S288x512 .f32) :: L)) (ix2 R j) : EReal)
      = if h : R.val < 32 then v.read (Elt Ideal) (v.writes (Elt Ideal) f L) (ix2 R j) else w (ix3 0 ⟨R.val - 32, by omega⟩ j) := by
  by_cases h : R.val < 32
  · rw [dif_pos h]
    exact View.read_writes_cons_rows_of_not_mem v f (o := 32) (W := 256) inb _ L _ rfl rfl (Or.inl h)
  · rw [dif_neg h]
    refine (View.read_writes_cons_rows_of_mem v f (o := 32) inb _ L _ (ix2 (⟨R.val - 32, by omega⟩ : Fin 256) j) rfl ?_ rfl).trans ?_
    · show R.val = 32 + (R.val - 32); omega
    · pointwise [k0_pay3]
/-- The first 32 rows, written last. -/
theorem head_at (inb) (w : Vec Ideal S32x512 .f32) (R : Fin 32) (j : Fin 512) :
    (v.read (Elt Ideal) (v.writes (Elt Ideal) f ((⟨Rect.unit (s := S288x512) ![0, 0] S32x512.size inb, w⟩ : View.Piece (Elt Ideal) S288x512 .f32) :: L)) (ix2 (⟨R.val, by omega⟩ : Fin 288) j) : EReal)
      = w (ix2 R j) :=
  View.read_writes_cons_rows_of_mem v f (o := 0) inb _ L _ (ix2 R j) rfl (Nat.zero_add _).symm rfl
end
/-- The convolution's row in a tile. -/
def cv (h : Fin 32 → Fin 512 → EReal) (x3 : Vec Ideal S1x256x512 .f32) (x7 : Vec Ideal S32x512 .f32) (ρ : Fin 256) (j : Fin 512) : EReal :=
  Tail.acc (fun k => Win (fun r => h r j) (fun r => x3 (ix3 0 r j)) (k + 2 + ρ.val) * Tail.ext (fun k => x7 (ix2 k j)) k) 31

section
variable (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S32x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x256x1024 .f32) (harg19 : arg19.IsWhole) (arg20 : Memref sig .tc .vmem S288x512 .f32) (harg20 : arg20.IsWhole)
  (x0 : Vec Ideal S1x256x1024 .f32) (x1 : Vec Ideal S1x256x512 .f32) (x2 : Vec Ideal S1x256x512 .f32) (x3 : Vec Ideal S1x256x512 .f32) (x4 : Vec Ideal S1x256x512 .f32) (x5 : Vec Ideal S1x256x1024 .f32) (x6 : Vec Ideal S1x256x1024 .f32) (x7 : Vec Ideal S32x512 .f32) (x8 : Vec Ideal S1x512 .f32) (x9 : Vec Ideal S1x512 .f32) (x10 : Vec Ideal S1x512 .f32) (x11 : Vec Ideal S512x512 .bf16) (x12 : Vec Ideal S1x512 .f32) (x13 : Vec Ideal S512x1024 .bf16) (x14 : Vec Ideal S512x1024 .bf16) (x15 : Vec Ideal S1024x1024 .bf16) (x16 : Vec Ideal S1x1024 .f32) (xs0 : Vec Ideal S288x512 .f32)
/-- A tile's output word. -/
def blk (h : Fin 32 → Fin 512 → EReal) (ρ : Fin 256) (n : Fin 1024) : EReal :=
  Tail.out (fun n => x0 (ix3 0 ρ n)) (fun n => x5 (ix3 0 ρ n)) (fun n => x6 (ix3 0 ρ n)) (fun k => x1 (ix3 0 ρ k)) (fun k => x2 (ix3 0 ρ k)) (fun k => x4 (ix3 0 ρ k))
    (fun k => Tail.gate (fun j => cv h x3 x7 ρ j + x8 (ix2 0 j)) (fun j => x9 (ix2 0 j)) (fun j => x10 (ix2 0 j)) (fun i => x11 (ix2 i k)) + x12 (ix2 0 k))
    (fun k n => x13 (ix2 k n)) (fun k n => x14 (ix2 k n)) (fun k n => x15 (ix2 k n)) (fun n => x16 (ix2 0 n)) n

/-- What the window's rows hold. -/
theorem win_A (R : Fin 288) (j : Fin 512) : (arg20.view.read (Elt Ideal) (arg20.view.writes (Elt Ideal) arg20.view.junk (kernelRun0_A.sl.HS0_2 (F := Ideal) c arg5 harg5 x3)) (ix2 R j) : EReal)
    = Win (fun r => (fun _ _ => 0) r j) (fun r => x3 (ix3 0 r j)) R.val := by
  unfold kernelRun0_A.sl.HS0_2
  simp only [View.readAt_eq_ld, harg5.read_unread]
  refine (rows_at ..).trans ?_
  unfold Win
  by_cases hR : R.val < 32
  · rw [dif_pos hR, dif_pos hR]
    refine (head_at _ _ _ _ _ ⟨R.val, hR⟩ j).trans ?_
    pointwise [k0_pay2]
  · rw [dif_neg hR, dif_neg hR]
    pointwise []
    exact (Tail.ext_lt (fun r => x3 (ix3 0 r j)) _ (show R.val - 32 < 256 by omega)).symm
theorem conv_A (ρ : Fin 256) (j : Fin 512) : (kernelRun0_A.sl.r_10 (F := Ideal) c arg5 harg5 arg9 harg9 arg20 x3 x7 (ix2 ρ j) : EReal) = cv (fun _ _ => 0) x3 x7 ρ j := by
  have hX := win_A c arg5 harg5 arg20 x3
  unfold kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v9 kernelRun0_A.sl.v15 kernelRun0_A.sl.v21 kernelRun0_A.sl.v27 kernelRun0_A.sl.v33 kernelRun0_A.sl.v39 kernelRun0_A.sl.v45 kernelRun0_A.sl.v51 kernelRun0_A.sl.v57 kernelRun0_A.sl.v63 kernelRun0_A.sl.v69 kernelRun0_A.sl.v75 kernelRun0_A.sl.v81 kernelRun0_A.sl.v87 kernelRun0_A.sl.v93 kernelRun0_A.sl.v99 kernelRun0_A.sl.v105 kernelRun0_A.sl.v111 kernelRun0_A.sl.v117 kernelRun0_A.sl.v123 kernelRun0_A.sl.v129 kernelRun0_A.sl.v135 kernelRun0_A.sl.v141 kernelRun0_A.sl.v147 kernelRun0_A.sl.v153 kernelRun0_A.sl.v159 kernelRun0_A.sl.v165 kernelRun0_A.sl.v171 kernelRun0_A.sl.v177 kernelRun0_A.sl.v183 kernelRun0_A.sl.v189
  simp only [View.readCov, View.readAt_eq_ld, harg9.read_unread]
  generalize arg20.view.read (Elt Ideal) (arg20.view.writes (Elt Ideal) arg20.view.junk (kernelRun0_A.sl.HS0_2 (F := Ideal) c arg5 harg5 x3)) = X at hX ⊢
  simp only [tap14, tap13, tap12, tap11, tap10, tap9, tap8, tap7, tap6, tap5, tap4]
  pointwise []
  simp only [hX]
  unfold cv
  simp only [Tail.acc, zero_add]
  rfl
theorem r17_A (ρ : Fin 256) (k : Fin 512) : (kernelRun0_A.sl.r_17 (F := Ideal) c arg5 harg5 arg9 harg9 arg10 harg10 arg11 harg11 arg12 harg12 arg13 harg13 arg20 x3 x7 x8 x9 x10 x11 (ix2 ρ k) : EReal)
    = Tail.gate (fun j => cv (fun _ _ => 0) x3 x7 ρ j + x8 (ix2 0 j)) (fun j => x9 (ix2 0 j)) (fun j => x10 (ix2 0 j)) (fun i => x11 (ix2 i k)) := by
  unfold kernelRun0_A.sl.r_17
  simp only [View.readAt_eq_ld, harg10.read_unread, harg11.read_unread, harg12.read_unread, harg13.read_unread]
  rw [gate_at]
  simp only [conv_A]
  pointwise []
theorem r18_A (ρ : Fin 256) (n : Fin 1024) : (kernelRun0_A.sl.r_18 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 x0 x1 x2 x3 x4 x5 x6 x7 x8 x9 x10 x11 x12 x13 x14 x15 x16 (ix2 ρ n) : EReal) = blk x0 x1 x2 x3 x4 x5 x6 x7 x8 x9 x10 x11 x12 x13 x14 x15 x16 (fun _ _ => 0) ρ n := by
  unfold kernelRun0_A.sl.r_18
  rw [out_at]
  simp only [r17_A]
  unfold kernelRun0_A.sl.r_11 kernelRun0_A.sl.r_12 kernelRun0_A.sl.r_13 kernelRun0_A.sl.r_14 kernelRun0_A.sl.r_15 kernelRun0_A.sl.r_16
  simp only [View.readAt_eq_ld, harg2.read_unread, harg3.read_unread, harg4.read_unread, harg6.read_unread, harg7.read_unread, harg8.read_unread, harg14.read_unread, harg15.read_unread, harg16.read_unread, harg17.read_unread, harg18.read_unread]
  pointwise [k0_pay16, k0_pay17, k0_pay18, k0_pay19, k0_pay20, k0_pay21]
  rfl
/-- THE BLOCK in case A. -/
theorem block_A (hc0 : cond0_0 i) (ρ : Fin 256) (n : Fin 1024) :
    (out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 (ix3 0 ρ n) : EReal) = blk x0 x1 x2 x3 x4 x5 x6 x7 x8 x9 x10 x11 x12 x13 x14 x15 x16 (fun _ _ => 0) ρ n := by
  unfold out0_A_17 kernelRun0_A
  dsimp only
  refine (View.read_writes_cons_unit_of_mem VO0_17 VO0_17.junk (off' := ![0, 0, 0]) inb_S1x256x1024_S1x256x1024_0_0_0 _ [] _ (ix3 0 ρ n) rfl ?_).trans ?_
  · intro a
    match a with
    | ⟨0, _⟩ => exact (Nat.zero_add _).symm
    | ⟨1, _⟩ => exact (Nat.zero_add _).symm
    | ⟨2, _⟩ => exact (Nat.zero_add _).symm
  · exact (unit1_at _ ρ n).trans (r18_A ..)
/-- The rows the tile leaves for the next: its last 32. -/
theorem left_A (hc0 : cond0_0 i) (r : Fin 32) (j : Fin 512) :
    (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 (ix2 (⟨r.val, by omega⟩ : Fin 288) j) : EReal) = x3 (ix3 0 ⟨224 + r.val, by omega⟩ j) := by
  unfold sout0_A_0 kernelRun0_A
  dsimp only
  refine (head_at _ _ _ _ _ r j).trans ?_
  unfold kernelRun0_A.sl.v195
  simp only [View.readCov, View.readAt_eq_ld]
  have hX := win_A c arg5 harg5 arg20 x3
  generalize arg20.view.read (Elt Ideal) (arg20.view.writes (Elt Ideal) arg20.view.junk (kernelRun0_A.sl.HS0_2 (F := Ideal) c arg5 harg5 x3)) = X at hX ⊢
  pointwise [k0_pay15]
  rw [hX]
  unfold Win
  rw [dif_neg (by simp only; omega)]
  refine (Tail.ext_lt (fun r => x3 (ix3 0 r j)) _ (show 256 + r.val - 32 < 256 by omega)).trans ?_
  refine congrArg (fun s => x3 (ix3 0 s j)) (Fin.ext ?_)
  show 256 + r.val - 32 = 224 + r.val
  omega
/-- What the window's rows hold. -/
theorem win_B (R : Fin 288) (j : Fin 512) : (arg20.view.read (Elt Ideal) (arg20.view.writes (Elt Ideal) (harg20.unread xs0) (kernelRun0_B.sl.HS0_1 (F := Ideal) c arg5 harg5 x3)) (ix2 R j) : EReal)
    = Win (fun r => (fun r j => xs0 (ix2 ⟨r.val, by omega⟩ j)) r j) (fun r => x3 (ix3 0 r j)) R.val := by
  unfold kernelRun0_B.sl.HS0_1
  simp only [View.readAt_eq_ld, harg5.read_unread]
  refine (rows_at ..).trans ?_
  unfold Win
  by_cases hR : R.val < 32
  · rw [dif_pos hR, dif_pos hR]
    rw [View.writes_nil, harg20.read_unread]
  · rw [dif_neg hR, dif_neg hR]
    pointwise []
    exact (Tail.ext_lt (fun r => x3 (ix3 0 r j)) _ (show R.val - 32 < 256 by omega)).symm
theorem winj_B (R : Fin 288) (j : Fin 512) (hR : ¬R.val < 32) : (arg20.view.read (Elt Ideal) (arg20.view.writes (Elt Ideal) arg20.view.junk (kernelRun0_B.sl.HS0_1 (F := Ideal) c arg5 harg5 x3)) (ix2 R j) : EReal)
    = Win (fun r => (fun r j => xs0 (ix2 ⟨r.val, by omega⟩ j)) r j) (fun r => x3 (ix3 0 r j)) R.val := by
  unfold kernelRun0_B.sl.HS0_1
  simp only [View.readAt_eq_ld, harg5.read_unread]
  refine (rows_at ..).trans ?_
  unfold Win
  rw [dif_neg hR, dif_neg hR]
  pointwise []
  exact (Tail.ext_lt (fun r => x3 (ix3 0 r j)) _ (show R.val - 32 < 256 by omega)).symm
theorem conv_B (ρ : Fin 256) (j : Fin 512) : (kernelRun0_B.sl.r_10 (F := Ideal) c arg5 harg5 arg9 harg9 arg20 harg20 x3 x7 xs0 (ix2 ρ j) : EReal) = cv (fun r j => xs0 (ix2 ⟨r.val, by omega⟩ j)) x3 x7 ρ j := by
  have hX := win_B c arg5 harg5 arg20 harg20 x3 xs0
  have hY := winj_B c arg5 harg5 arg20 x3 xs0
  unfold kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v189
  simp only [View.readCov, View.readAt_eq_ld, harg9.read_unread]
  generalize arg20.view.read (Elt Ideal) (arg20.view.writes (Elt Ideal) (harg20.unread xs0) (kernelRun0_B.sl.HS0_1 (F := Ideal) c arg5 harg5 x3)) = X at hX ⊢
  generalize arg20.view.read (Elt Ideal) (arg20.view.writes (Elt Ideal) arg20.view.junk (kernelRun0_B.sl.HS0_1 (F := Ideal) c arg5 harg5 x3)) = Y at hY ⊢
  simp only [tap14, tap13, tap12, tap11, tap10, tap9, tap8, tap7, tap6, tap5, tap4]
  pointwise []
  simp only [hX]
  rw [hY _ _ (by simp only; omega)]
  unfold cv
  simp only [Tail.acc, zero_add]
  rfl
theorem r17_B (ρ : Fin 256) (k : Fin 512) : (kernelRun0_B.sl.r_17 (F := Ideal) c arg5 harg5 arg9 harg9 arg10 harg10 arg11 harg11 arg12 harg12 arg13 harg13 arg20 harg20 x3 x7 x8 x9 x10 x11 xs0 (ix2 ρ k) : EReal)
    = Tail.gate (fun j => cv (fun r j => xs0 (ix2 ⟨r.val, by omega⟩ j)) x3 x7 ρ j + x8 (ix2 0 j)) (fun j => x9 (ix2 0 j)) (fun j => x10 (ix2 0 j)) (fun i => x11 (ix2 i k)) := by
  unfold kernelRun0_B.sl.r_17
  simp only [View.readAt_eq_ld, harg10.read_unread, harg11.read_unread, harg12.read_unread, harg13.read_unread]
  rw [gate_at]
  simp only [conv_B]
  pointwise []
theorem r18_B (ρ : Fin 256) (n : Fin 1024) : (kernelRun0_B.sl.r_18 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 x0 x1 x2 x3 x4 x5 x6 x7 x8 x9 x10 x11 x12 x13 x14 x15 x16 xs0 (ix2 ρ n) : EReal) = blk x0 x1 x2 x3 x4 x5 x6 x7 x8 x9 x10 x11 x12 x13 x14 x15 x16 (fun r j => xs0 (ix2 ⟨r.val, by omega⟩ j)) ρ n := by
  unfold kernelRun0_B.sl.r_18
  rw [out_at]
  simp only [r17_B]
  unfold kernelRun0_B.sl.r_11 kernelRun0_B.sl.r_12 kernelRun0_B.sl.r_13 kernelRun0_B.sl.r_14 kernelRun0_B.sl.r_15 kernelRun0_B.sl.r_16
  simp only [View.readAt_eq_ld, harg2.read_unread, harg3.read_unread, harg4.read_unread, harg6.read_unread, harg7.read_unread, harg8.read_unread, harg14.read_unread, harg15.read_unread, harg16.read_unread, harg17.read_unread, harg18.read_unread]
  pointwise [k0_pay16, k0_pay17, k0_pay18, k0_pay19, k0_pay20, k0_pay21]
  rfl
/-- THE BLOCK in case B. -/
theorem block_B (hc0 : ¬cond0_0 i) (ρ : Fin 256) (n : Fin 1024) :
    (out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 xs0 (ix3 0 ρ n) : EReal) = blk x0 x1 x2 x3 x4 x5 x6 x7 x8 x9 x10 x11 x12 x13 x14 x15 x16 (fun r j => xs0 (ix2 ⟨r.val, by omega⟩ j)) ρ n := by
  unfold out0_B_17 kernelRun0_B
  dsimp only
  refine (View.read_writes_cons_unit_of_mem VO0_17 VO0_17.junk (off' := ![0, 0, 0]) inb_S1x256x1024_S1x256x1024_0_0_0 _ [] _ (ix3 0 ρ n) rfl ?_).trans ?_
  · intro a
    match a with
    | ⟨0, _⟩ => exact (Nat.zero_add _).symm
    | ⟨1, _⟩ => exact (Nat.zero_add _).symm
    | ⟨2, _⟩ => exact (Nat.zero_add _).symm
  · exact (unit1_at _ ρ n).trans (r18_B ..)
/-- The rows the tile leaves for the next: its last 32. -/
theorem left_B (hc0 : ¬cond0_0 i) (r : Fin 32) (j : Fin 512) :
    (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 xs0 (ix2 (⟨r.val, by omega⟩ : Fin 288) j) : EReal) = x3 (ix3 0 ⟨224 + r.val, by omega⟩ j) := by
  unfold sout0_B_0 kernelRun0_B
  dsimp only
  refine (head_at _ _ _ _ _ r j).trans ?_
  unfold kernelRun0_B.sl.v195
  simp only [View.readCov, View.readAt_eq_ld]
  have hX := winj_B c arg5 harg5 arg20 x3 xs0
  generalize arg20.view.read (Elt Ideal) (arg20.view.writes (Elt Ideal) arg20.view.junk (kernelRun0_B.sl.HS0_1 (F := Ideal) c arg5 harg5 x3)) = X at hX ⊢
  pointwise [k0_pay15]
  rw [hX _ _ (by simp only; omega)]
  unfold Win
  rw [dif_neg (by simp only; omega)]
  refine (Tail.ext_lt (fun r => x3 (ix3 0 r j)) _ (show 256 + r.val - 32 < 256 by omega)).trans ?_
  refine congrArg (fun s => x3 (ix3 0 s j)) (Fin.ext ?_)
  show 256 + r.val - 32 = 224 + r.val
  omega
end
end Cert.Kernel3Ideal.Gen
end
-- ==== Proof.TArr.lean ====
module
public import proofs.«01_k».proof.Proof.TBlk
public import proofs.«01_k».proof.Proof.Gen.Kernel3Ideal.Value
public import Idealize.ShloMosaic.Lib.Pipeline.ValueKit.Geometry
public import Idealize.ShloMosaic.Lib.KernelVsHost
@[expose] public section
/-! # The tail's result array -/
set_option maxRecDepth 16384
noncomputable section
open Idealize.ShloMosaic Idealize.ShloMosaic.TcCoe Idealize.ShloMosaic.StableHlo
namespace Cert.Kernel3Ideal.Gen
open Cert.Kernel3Ideal

/-- The window's row is the convolution's tap, when the first rows are the tile before's last. -/
theorem win_tap (T : ℕ) (hT : T < 8) (u : Fin 2048 → EReal) (h : Fin 32 → EReal) (x : Fin 256 → EReal) (hx : ∀ r : Fin 256, x r = u ⟨256 * T + r.val, by omega⟩)
    (h0 : T = 0 → ∀ r, h r = 0) (h1 : T ≠ 0 → ∀ r : Fin 32, h r = Tail.ext u (256 * T + r.val - 32)) (ρ : Fin 256) (k : ℕ) (hk : k < 31) :
    Win h x (k + 2 + ρ.val) = Tail.tap (Tail.ext u) (256 * T + ρ.val) k := by
  unfold Win Tail.tap
  by_cases hR : k + 2 + ρ.val < 32
  · rw [dif_pos hR]
    by_cases hz : T = 0
    · rw [h0 hz, if_pos (by omega)]
    · rw [h1 hz, if_neg (by omega)]
      exact congrArg (Tail.ext u) (by simp only; omega)
  · rw [dif_neg hR, if_neg (by omega), Tail.ext_lt _ _ (by omega), hx, Tail.ext_lt _ _ (by omega)]
    exact congrArg u (Fin.ext (by simp only; omega))

theorem taps_at (x : FVec Ideal S1x31x512 .f32) (k : Fin 31) (j : Fin 512) : (shapeCast S31x512 x shapeCasts_S1x31x512_S31x512 (ix2 k j) : EReal) = x (ix3 0 k j) := by
  pointwise []
theorem wt_512_512 (x : FVec Ideal S1x512x512 .f32) (k j : Fin 512) : (truncf (F := Ideal) .bf16 (shapeCast S512x512 x shapeCasts_S1x512x512_S512x512 : FVec Ideal S512x512 .f32) bitsLt_bf16_f32 (ix2 k j) : EReal) = x (ix3 0 k j) := by
  pointwise []
theorem wt_512_1024 (x : FVec Ideal S1x512x1024 .f32) (k : Fin 512) (j : Fin 1024) : (truncf (F := Ideal) .bf16 (shapeCast S512x1024 x shapeCasts_S1x512x1024_S512x1024 : FVec Ideal S512x1024 .f32) bitsLt_bf16_f32 (ix2 k j) : EReal) = x (ix3 0 k j) := by
  pointwise []
theorem wt_1024_1024 (x : FVec Ideal S1x1024x1024 .f32) (k j : Fin 1024) : (truncf (F := Ideal) .bf16 (shapeCast S1024x1024 x shapeCasts_S1x1024x1024_S1024x1024 : FVec Ideal S1024x1024 .f32) bitsLt_bf16_f32 (ix2 k j) : EReal) = x (ix3 0 k j) := by
  pointwise []
variable (m : (ℓ : Loc nD τ sig) → Buf (Elt Ideal) ℓ) (c : Dev nD)
theorem V1 : V m c main_v1 = pad S32x512 ![0, 0] ![1, 0] ![0, 0] (shapeCast _ (m ((c.tc : Thread nD τ).loc main_arg7)) shapeCasts_S1x31x512_S31x512) (sitofp (F := Ideal) .f32 (constantI S_ 32 0#32)) pads_S31x512_S32x512_010_000 h_S_ := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V3 : V m c main_v3 = shapeCast _ (shapeCast _ (m ((c.tc : Thread nD τ).loc main_arg8)) shapeCasts_S1x512_S512) shapeCasts_S512_S1x512 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V5 : V m c main_v5 = shapeCast _ (shapeCast _ (m ((c.tc : Thread nD τ).loc main_arg9)) shapeCasts_S1x512_S512) shapeCasts_S512_S1x512 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V7 : V m c main_v7 = shapeCast _ (shapeCast _ (m ((c.tc : Thread nD τ).loc main_arg10)) shapeCasts_S1x512_S512) shapeCasts_S512_S1x512 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V11 : V m c main_v11 = shapeCast _ (shapeCast _ (m ((c.tc : Thread nD τ).loc main_arg12)) shapeCasts_S1x512_S512) shapeCasts_S512_S1x512 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V9 : V m c main_v9 = truncf (F := Ideal) .bf16 (shapeCast _ (m ((c.tc : Thread nD τ).loc main_arg11)) shapeCasts_S1x512x512_S512x512 : FVec Ideal S512x512 .f32) bitsLt_bf16_f32 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V13 : V m c main_v13 = truncf (F := Ideal) .bf16 (shapeCast _ (m ((c.tc : Thread nD τ).loc main_arg13)) shapeCasts_S1x512x1024_S512x1024 : FVec Ideal S512x1024 .f32) bitsLt_bf16_f32 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V15 : V m c main_v15 = truncf (F := Ideal) .bf16 (shapeCast _ (m ((c.tc : Thread nD τ).loc main_arg14)) shapeCasts_S1x512x1024_S512x1024 : FVec Ideal S512x1024 .f32) bitsLt_bf16_f32 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V17 : V m c main_v17 = truncf (F := Ideal) .bf16 (shapeCast _ (m ((c.tc : Thread nD τ).loc main_arg15)) shapeCasts_S1x1024x1024_S1024x1024 : FVec Ideal S1024x1024 .f32) bitsLt_bf16_f32 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl
theorem V18 : V m c main_v18 = shapeCast _ (m ((c.tc : Thread nD τ).loc main_arg16)) shapeCasts_S1024_S1x1024 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem idx_tok : ∀ t : Fin cfg0.N,
(win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = t.val % 8 ∧ win0_6.index t (2 : Fin 3) = 0)
    ∧ (win0_17.index t (0 : Fin 3) = t.val / 8 ∧ win0_17.index t (1 : Fin 3) = t.val % 8 ∧ win0_17.index t (2 : Fin 3) = 0) :=
  (by decide +kernel : ∀ t : Fin grid0.N, _)
theorem idx_wt : ∀ t : Fin cfg0.N,
(win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)
theorem t_lt (t : Fin cfg0.N) : t.val < 64 := t.isLt
/-- The batch element of a grid point. -/
abbrev bat (t : Fin cfg0.N) : Fin 8 := ⟨t.val / 8, by have := t_lt t; omega⟩
/-- The token of row `ρ` there. -/
abbrev tokn (t : Fin cfg0.N) (ρ : Fin 256) : Fin 2048 := ⟨256 * (t.val % 8) + ρ.val, by omega⟩
theorem iblk0_at (t : Fin cfg0.N) (ρ : Fin 256) (k : Fin 1024) : (iblk m c 0 t (ix3 0 ρ k) : EReal) = (m ((c.tc : Thread nD τ).loc main_arg0)) (ix3 (bat t) (tokn t ρ) k) := by
  have f := idx_tok t
  have := t_lt t
  show V m c main_arg0 (((cfg0.win 0).blk t).view.emb _) = _
  rw [V_main_arg0]
  refine congrArg (m ((c.tc : Thread nD τ).loc main_arg0)) ?_
  funext a
  apply Fin.ext
  match a with
  | ⟨0, _⟩ => show win0_0.index t (0 : Fin 3) * 1 + 1 * 0 = t.val / 8; omega
  | ⟨1, _⟩ => show win0_0.index t (1 : Fin 3) * 256 + 1 * ρ.val = 256 * (t.val % 8) + ρ.val; omega
  | ⟨2, _⟩ => show win0_0.index t (2 : Fin 3) * 1024 + 1 * k.val = k.val; omega
theorem iblk1_at (t : Fin cfg0.N) (ρ : Fin 256) (k : Fin 512) : (iblk m c 1 t (ix3 0 ρ k) : EReal) = (m ((c.tc : Thread nD τ).loc main_arg1)) (ix3 (bat t) (tokn t ρ) k) := by
  have f := idx_tok t
  have := t_lt t
  show V m c main_arg1 (((cfg0.win 1).blk t).view.emb _) = _
  rw [V_main_arg1]
  refine congrArg (m ((c.tc : Thread nD τ).loc main_arg1)) ?_
  funext a
  apply Fin.ext
  match a with
  | ⟨0, _⟩ => show win0_1.index t (0 : Fin 3) * 1 + 1 * 0 = t.val / 8; omega
  | ⟨1, _⟩ => show win0_1.index t (1 : Fin 3) * 256 + 1 * ρ.val = 256 * (t.val % 8) + ρ.val; omega
  | ⟨2, _⟩ => show win0_1.index t (2 : Fin 3) * 512 + 1 * k.val = k.val; omega
theorem iblk2_at (t : Fin cfg0.N) (ρ : Fin 256) (k : Fin 512) : (iblk m c 2 t (ix3 0 ρ k) : EReal) = (m ((c.tc : Thread nD τ).loc main_arg2)) (ix3 (bat t) (tokn t ρ) k) := by
  have f := idx_tok t
  have := t_lt t
  show V m c main_arg2 (((cfg0.win 2).blk t).view.emb _) = _
  rw [V_main_arg2]
  refine congrArg (m ((c.tc : Thread nD τ).loc main_arg2)) ?_
  funext a
  apply Fin.ext
  match a with
  | ⟨0, _⟩ => show win0_2.index t (0 : Fin 3) * 1 + 1 * 0 = t.val / 8; omega
  | ⟨1, _⟩ => show win0_2.index t (1 : Fin 3) * 256 + 1 * ρ.val = 256 * (t.val % 8) + ρ.val; omega
  | ⟨2, _⟩ => show win0_2.index t (2 : Fin 3) * 512 + 1 * k.val = k.val; omega
theorem iblk3_at (t : Fin cfg0.N) (ρ : Fin 256) (k : Fin 512) : (iblk m c 3 t (ix3 0 ρ k) : EReal) = (m ((c.tc : Thread nD τ).loc main_arg3)) (ix3 (bat t) (tokn t ρ) k) := by
  have f := idx_tok t
  have := t_lt t
  show V m c main_arg3 (((cfg0.win 3).blk t).view.emb _) = _
  rw [V_main_arg3]
  refine congrArg (m ((c.tc : Thread nD τ).loc main_arg3)) ?_
  funext a
  apply Fin.ext
  match a with
  | ⟨0, _⟩ => show win0_3.index t (0 : Fin 3) * 1 + 1 * 0 = t.val / 8; omega
  | ⟨1, _⟩ => show win0_3.index t (1 : Fin 3) * 256 + 1 * ρ.val = 256 * (t.val % 8) + ρ.val; omega
  | ⟨2, _⟩ => show win0_3.index t (2 : Fin 3) * 512 + 1 * k.val = k.val; omega
theorem iblk4_at (t : Fin cfg0.N) (ρ : Fin 256) (k : Fin 512) : (iblk m c 4 t (ix3 0 ρ k) : EReal) = (m ((c.tc : Thread nD τ).loc main_arg4)) (ix3 (bat t) (tokn t ρ) k) := by
  have f := idx_tok t
  have := t_lt t
  show V m c main_arg4 (((cfg0.win 4).blk t).view.emb _) = _
  rw [V_main_arg4]
  refine congrArg (m ((c.tc : Thread nD τ).loc main_arg4)) ?_
  funext a
  apply Fin.ext
  match a with
  | ⟨0, _⟩ => show win0_4.index t (0 : Fin 3) * 1 + 1 * 0 = t.val / 8; omega
  | ⟨1, _⟩ => show win0_4.index t (1 : Fin 3) * 256 + 1 * ρ.val = 256 * (t.val % 8) + ρ.val; omega
  | ⟨2, _⟩ => show win0_4.index t (2 : Fin 3) * 512 + 1 * k.val = k.val; omega
theorem iblk5_at (t : Fin cfg0.N) (ρ : Fin 256) (k : Fin 1024) : (iblk m c 5 t (ix3 0 ρ k) : EReal) = (m ((c.tc : Thread nD τ).loc main_arg5)) (ix3 (bat t) (tokn t ρ) k) := by
  have f := idx_tok t
  have := t_lt t
  show V m c main_arg5 (((cfg0.win 5).blk t).view.emb _) = _
  rw [V_main_arg5]
  refine congrArg (m ((c.tc : Thread nD τ).loc main_arg5)) ?_
  funext a
  apply Fin.ext
  match a with
  | ⟨0, _⟩ => show win0_5.index t (0 : Fin 3) * 1 + 1 * 0 = t.val / 8; omega
  | ⟨1, _⟩ => show win0_5.index t (1 : Fin 3) * 256 + 1 * ρ.val = 256 * (t.val % 8) + ρ.val; omega
  | ⟨2, _⟩ => show win0_5.index t (2 : Fin 3) * 1024 + 1 * k.val = k.val; omega
theorem iblk6_at (t : Fin cfg0.N) (ρ : Fin 256) (k : Fin 1024) : (iblk m c 6 t (ix3 0 ρ k) : EReal) = (m ((c.tc : Thread nD τ).loc main_arg6)) (ix3 (bat t) (tokn t ρ) k) := by
  have f := idx_tok t
  have := t_lt t
  show V m c main_arg6 (((cfg0.win 6).blk t).view.emb _) = _
  rw [V_main_arg6]
  refine congrArg (m ((c.tc : Thread nD τ).loc main_arg6)) ?_
  funext a
  apply Fin.ext
  match a with
  | ⟨0, _⟩ => show win0_6.index t (0 : Fin 3) * 1 + 1 * 0 = t.val / 8; omega
  | ⟨1, _⟩ => show win0_6.index t (1 : Fin 3) * 256 + 1 * ρ.val = 256 * (t.val % 8) + ρ.val; omega
  | ⟨2, _⟩ => show win0_6.index t (2 : Fin 3) * 1024 + 1 * k.val = k.val; omega
theorem iblk7_at (t : Fin cfg0.N) (k : Fin 31) (j : Fin 512) : (iblk m c 7 t (ix2 (⟨k.val, by omega⟩ : Fin 32) j) : EReal) = (m ((c.tc : Thread nD τ).loc main_arg7)) (ix3 0 k j) := by
  have f := idx_wt t
  show V m c main_v1 (((cfg0.win 7).blk t).view.emb _) = _
  refine Eq.trans (b := V m c main_v1 (ix2 (⟨k.val, by omega⟩ : Fin 32) j)) (congrArg (V m c main_v1) ?_) ?_
  · funext a
    apply Fin.ext
    match a with
    | ⟨0, _⟩ => show win0_7.index t (0 : Fin 2) * 32 + 1 * k.val = k.val; omega
    | ⟨1, _⟩ => show win0_7.index t (1 : Fin 2) * 512 + 1 * j.val = j.val; omega
  · rw [V1]
    refine (pad_apply_of_inside _ _ _ _ _ _ _ _ (ix2 k j) fun a => ?_).trans ?_
    · match a with
      | ⟨0, _⟩ => show k.val = 0 + k.val * (0 + 1); omega
      | ⟨1, _⟩ => show j.val = 0 + j.val * (0 + 1); omega
    · exact taps_at _ k j
theorem iblk8_at (t : Fin cfg0.N) (j : Fin 512) : (iblk m c 8 t (ix2 0 j) : EReal) = (m ((c.tc : Thread nD τ).loc main_arg8)) (ix2 0 j) := by
  have f := idx_wt t
  show V m c main_v3 (((cfg0.win 8).blk t).view.emb _) = _
  refine Eq.trans (b := V m c main_v3 (ix2 0 j)) (congrArg (V m c main_v3) ?_) ?_
  · funext a
    apply Fin.ext
    match a with
    | ⟨0, _⟩ => show win0_8.index t (0 : Fin 2) * 1 + 1 * 0 = 0; omega
    | ⟨1, _⟩ => show win0_8.index t (1 : Fin 2) * 512 + 1 * j.val = j.val; omega
  · rw [V3]
    pointwise []
theorem iblk9_at (t : Fin cfg0.N) (j : Fin 512) : (iblk m c 9 t (ix2 0 j) : EReal) = (m ((c.tc : Thread nD τ).loc main_arg9)) (ix2 0 j) := by
  have f := idx_wt t
  show V m c main_v5 (((cfg0.win 9).blk t).view.emb _) = _
  refine Eq.trans (b := V m c main_v5 (ix2 0 j)) (congrArg (V m c main_v5) ?_) ?_
  · funext a
    apply Fin.ext
    match a with
    | ⟨0, _⟩ => show win0_9.index t (0 : Fin 2) * 1 + 1 * 0 = 0; omega
    | ⟨1, _⟩ => show win0_9.index t (1 : Fin 2) * 512 + 1 * j.val = j.val; omega
  · rw [V5]
    pointwise []
theorem iblk10_at (t : Fin cfg0.N) (j : Fin 512) : (iblk m c 10 t (ix2 0 j) : EReal) = (m ((c.tc : Thread nD τ).loc main_arg10)) (ix2 0 j) := by
  have f := idx_wt t
  show V m c main_v7 (((cfg0.win 10).blk t).view.emb _) = _
  refine Eq.trans (b := V m c main_v7 (ix2 0 j)) (congrArg (V m c main_v7) ?_) ?_
  · funext a
    apply Fin.ext
    match a with
    | ⟨0, _⟩ => show win0_10.index t (0 : Fin 2) * 1 + 1 * 0 = 0; omega
    | ⟨1, _⟩ => show win0_10.index t (1 : Fin 2) * 512 + 1 * j.val = j.val; omega
  · rw [V7]
    pointwise []
theorem iblk12_at (t : Fin cfg0.N) (j : Fin 512) : (iblk m c 12 t (ix2 0 j) : EReal) = (m ((c.tc : Thread nD τ).loc main_arg12)) (ix2 0 j) := by
  have f := idx_wt t
  show V m c main_v11 (((cfg0.win 12).blk t).view.emb _) = _
  refine Eq.trans (b := V m c main_v11 (ix2 0 j)) (congrArg (V m c main_v11) ?_) ?_
  · funext a
    apply Fin.ext
    match a with
    | ⟨0, _⟩ => show win0_12.index t (0 : Fin 2) * 1 + 1 * 0 = 0; omega
    | ⟨1, _⟩ => show win0_12.index t (1 : Fin 2) * 512 + 1 * j.val = j.val; omega
  · rw [V11]
    pointwise []
theorem iblk11_at (t : Fin cfg0.N) (k : Fin 512) (j : Fin 512) : (iblk m c 11 t (ix2 k j) : EReal) = (m ((c.tc : Thread nD τ).loc main_arg11)) (ix3 0 k j) := by
  have f := idx_wt t
  show V m c main_v9 (((cfg0.win 11).blk t).view.emb _) = _
  refine Eq.trans (b := V m c main_v9 (ix2 k j)) (congrArg (V m c main_v9) ?_) ?_
  · funext a
    apply Fin.ext
    match a with
    | ⟨0, _⟩ => show win0_11.index t (0 : Fin 2) * 512 + 1 * k.val = k.val; omega
    | ⟨1, _⟩ => show win0_11.index t (1 : Fin 2) * 512 + 1 * j.val = j.val; omega
  · rw [V9]
    exact wt_512_512 _ k j
theorem iblk13_at (t : Fin cfg0.N) (k : Fin 512) (j : Fin 1024) : (iblk m c 13 t (ix2 k j) : EReal) = (m ((c.tc : Thread nD τ).loc main_arg13)) (ix3 0 k j) := by
  have f := idx_wt t
  show V m c main_v13 (((cfg0.win 13).blk t).view.emb _) = _
  refine Eq.trans (b := V m c main_v13 (ix2 k j)) (congrArg (V m c main_v13) ?_) ?_
  · funext a
    apply Fin.ext
    match a with
    | ⟨0, _⟩ => show win0_13.index t (0 : Fin 2) * 512 + 1 * k.val = k.val; omega
    | ⟨1, _⟩ => show win0_13.index t (1 : Fin 2) * 1024 + 1 * j.val = j.val; omega
  · rw [V13]
    exact wt_512_1024 _ k j
theorem iblk14_at (t : Fin cfg0.N) (k : Fin 512) (j : Fin 1024) : (iblk m c 14 t (ix2 k j) : EReal) = (m ((c.tc : Thread nD τ).loc main_arg14)) (ix3 0 k j) := by
  have f := idx_wt t
  show V m c main_v15 (((cfg0.win 14).blk t).view.emb _) = _
  refine Eq.trans (b := V m c main_v15 (ix2 k j)) (congrArg (V m c main_v15) ?_) ?_
  · funext a
    apply Fin.ext
    match a with
    | ⟨0, _⟩ => show win0_14.index t (0 : Fin 2) * 512 + 1 * k.val = k.val; omega
    | ⟨1, _⟩ => show win0_14.index t (1 : Fin 2) * 1024 + 1 * j.val = j.val; omega
  · rw [V15]
    exact wt_512_1024 _ k j
theorem iblk15_at (t : Fin cfg0.N) (k : Fin 1024) (j : Fin 1024) : (iblk m c 15 t (ix2 k j) : EReal) = (m ((c.tc : Thread nD τ).loc main_arg15)) (ix3 0 k j) := by
  have f := idx_wt t
  show V m c main_v17 (((cfg0.win 15).blk t).view.emb _) = _
  refine Eq.trans (b := V m c main_v17 (ix2 k j)) (congrArg (V m c main_v17) ?_) ?_
  · funext a
    apply Fin.ext
    match a with
    | ⟨0, _⟩ => show win0_15.index t (0 : Fin 2) * 1024 + 1 * k.val = k.val; omega
    | ⟨1, _⟩ => show win0_15.index t (1 : Fin 2) * 1024 + 1 * j.val = j.val; omega
  · rw [V17]
    exact wt_1024_1024 _ k j
theorem iblk16_at (t : Fin cfg0.N) (j : Fin 1024) : (iblk m c 16 t (ix2 0 j) : EReal) = (m ((c.tc : Thread nD τ).loc main_arg16)) (ix1 j) := by
  have f := idx_wt t
  show V m c main_v18 (((cfg0.win 16).blk t).view.emb _) = _
  refine Eq.trans (b := V m c main_v18 (ix2 0 j)) (congrArg (V m c main_v18) ?_) ?_
  · funext a
    apply Fin.ext
    match a with
    | ⟨0, _⟩ => show win0_16.index t (0 : Fin 2) * 1 + 1 * 0 = 0; omega
    | ⟨1, _⟩ => show win0_16.index t (1 : Fin 2) * 1024 + 1 * j.val = j.val; omega
  · rw [V18]
    pointwise []

/-- The output word of token `s` of batch element `b`. -/
def word (b : Fin 8) (s : Fin 2048) (n : Fin 1024) : EReal :=
  Tail.out (fun n => (m ((c.tc : Thread nD τ).loc main_arg0)) (ix3 b s n)) (fun n => (m ((c.tc : Thread nD τ).loc main_arg5)) (ix3 b s n)) (fun n => (m ((c.tc : Thread nD τ).loc main_arg6)) (ix3 b s n)) (fun k => (m ((c.tc : Thread nD τ).loc main_arg1)) (ix3 b s k)) (fun k => (m ((c.tc : Thread nD τ).loc main_arg2)) (ix3 b s k)) (fun k => (m ((c.tc : Thread nD τ).loc main_arg4)) (ix3 b s k))
    (fun k => Tail.gate (fun j => Tail.conv (Tail.ext (fun s : Fin 2048 => (m ((c.tc : Thread nD τ).loc main_arg3)) (ix3 b s j))) (Tail.ext (fun k : Fin 31 => (m ((c.tc : Thread nD τ).loc main_arg7)) (ix3 0 k j))) s.val + (m ((c.tc : Thread nD τ).loc main_arg8)) (ix2 0 j))
      (fun j => (m ((c.tc : Thread nD τ).loc main_arg9)) (ix2 0 j)) (fun j => (m ((c.tc : Thread nD τ).loc main_arg10)) (ix2 0 j)) (fun i => (m ((c.tc : Thread nD τ).loc main_arg11)) (ix3 0 i k)) + (m ((c.tc : Thread nD τ).loc main_arg12)) (ix2 0 k))
    (fun k n => (m ((c.tc : Thread nD τ).loc main_arg13)) (ix3 0 k n)) (fun k n => (m ((c.tc : Thread nD τ).loc main_arg14)) (ix3 0 k n)) (fun k n => (m ((c.tc : Thread nD τ).loc main_arg15)) (ix3 0 k n)) (fun n => (m ((c.tc : Thread nD τ).loc main_arg16)) (ix1 n)) n

/-- A block's word is the token's, when the first rows are the tile before's last. -/
theorem blk_word (t : Fin cfg0.N) (h : Fin 32 → Fin 512 → EReal) (h0 : t.val % 8 = 0 → ∀ r j, h r j = 0)
    (h1 : t.val % 8 ≠ 0 → ∀ (r : Fin 32) j, h r j = Tail.ext (fun s : Fin 2048 => ((m ((c.tc : Thread nD τ).loc main_arg3)) (ix3 (bat t) s j) : EReal)) (256 * (t.val % 8) + r.val - 32)) (ρ : Fin 256) (n : Fin 1024) :
    blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) h ρ n = word m c (bat t) (tokn t ρ) n := by
  have hc : ∀ j, cv h (iblk m c 3 t) (iblk m c 7 t) ρ j = Tail.conv (Tail.ext (fun s : Fin 2048 => (m ((c.tc : Thread nD τ).loc main_arg3)) (ix3 (bat t) s j))) (Tail.ext (fun k : Fin 31 => (m ((c.tc : Thread nD τ).loc main_arg7)) (ix3 0 k j))) (tokn t ρ).val := by
    intro j
    unfold cv Tail.conv
    refine Tail.acc_congr fun k hk => ?_
    refine congrArg₂ (· * ·) (win_tap (t.val % 8) (by omega) _ _ _ (fun r => iblk3_at m c t r j) (fun e r => h0 e r j) (fun e r => h1 e r j) ρ k hk) ?_
    exact (Tail.ext_lt _ k (show k < 32 by omega)).trans ((iblk7_at m c t ⟨k, hk⟩ j).trans (Tail.ext_lt (fun k : Fin 31 => ((m ((c.tc : Thread nD τ).loc main_arg7)) (ix3 0 k j) : EReal)) k hk).symm)
  unfold blk word
  simp only [hc, iblk0_at, iblk1_at, iblk2_at, iblk4_at, iblk5_at, iblk6_at, iblk8_at, iblk9_at, iblk10_at, iblk11_at, iblk12_at, iblk13_at, iblk14_at, iblk15_at, iblk16_at]

end Cert.Kernel3Ideal.Gen
end
-- ==== Proof.TOut.lean ====
module
public import proofs.«01_k».proof.Proof.TArr
@[expose] public section
/-! # The tail's result array, from its blocks -/
set_option maxRecDepth 16384
noncomputable section
open Idealize.ShloMosaic Idealize.ShloMosaic.TcCoe Idealize.ShloMosaic.StableHlo
namespace Cert.Kernel3Ideal.Gen
open Cert.Kernel3Ideal
variable (m : (ℓ : Loc nD τ sig) → Buf (Elt Ideal) ℓ) (c : Dev nD)
/-- What a grid point leaves for the next: its last 32 rows. -/
theorem left_at (t : Fin cfg0.N) (r : Fin 32) (j : Fin 512) :
    ((outsAt0 m c t.val t.isLt).2 (ix2 (⟨r.val, by omega⟩ : Fin 288) j) : EReal) = (m ((c.tc : Thread nD τ).loc main_arg3)) (ix3 (bat t) (tokn t ⟨224 + r.val, by omega⟩) j) := by
  by_cases h0 : t.val % 8 = 0
  · rw [outsAt0_A m c t h0]
    dsimp only
    rw [left_A, iblk3_at]
  · rw [outsAt0_B m c t h0]
    dsimp only
    rw [left_B, iblk3_at]
/-- What it leaves in the output's block. -/
theorem outs_at (t : Fin cfg0.N) (ρ : Fin 256) (n : Fin 1024) :
    ((outsAt0 m c t.val t.isLt).1 (ix3 0 ρ n) : EReal) = word m c (bat t) (tokn t ρ) n := by
  by_cases h0 : t.val % 8 = 0
  · rw [outsAt0_A m c t h0]
    dsimp only
    rw [block_A]
    exact blk_word m c t _ (fun _ _ _ => rfl) (fun e => absurd h0 e) ρ n
  · rw [outsAt0_B m c t h0]
    dsimp only
    rw [block_B]
    refine blk_word m c t _ (fun e => absurd e h0) (fun _ r j => ?_) ρ n
    have ht := t_lt t
    refine (left_at m c ⟨t.val - 1, by have := t.isLt; omega⟩ r j).trans ?_
    refine Eq.trans ?_ (Tail.ext_lt _ _ (show 256 * (t.val % 8) + r.val - 32 < 2048 by omega)).symm
    refine congrArg₂ (fun b s => (m ((c.tc : Thread nD τ).loc main_arg3)) (ix3 b s j)) (Fin.ext ?_) (Fin.ext ?_)
    · show (t.val - 1) / 8 = t.val / 8; omega
    · show 256 * ((t.val - 1) % 8) + (224 + r.val) = 256 * (t.val % 8) + r.val - 32; omega

/-- THE ARRAY: every word the launch leaves. -/
theorem arr17 (G : S8x2048x1024.Idx → EReal) (hG : ∀ b s n, G (ix3 b s n) = word m c b s n) : (dats m 0 c).arrAt 17 cfg0.N = G := by
  refine (dats m 0 c).arrAt_eq_of_covers 17 _ (by decide +kernel) fun t hf y => ?_
  obtain ⟨ρ, l, rfl⟩ : ∃ (ρ : Fin 256) (l : Fin 1024), y = ix3 0 ρ l := ⟨y 1, y 2, by rw [eq_ix3 y]; congr 1; exact Subsingleton.elim (α := Fin 1) _ _⟩
  have f := idx_tok t
  blk_simp
  rw [after0_17]
  refine (outs_at m c t ρ l).trans ((hG _ _ _).symm.trans (congrArg G ?_))
  funext a
  apply Fin.ext
  match a with
  | ⟨0, _⟩ => show t.val / 8 = win0_17.index t (0 : Fin 3) * 1 + 1 * 0; omega
  | ⟨1, _⟩ => show 256 * (t.val % 8) + ρ.val = win0_17.index t (1 : Fin 3) * 256 + 1 * ρ.val; omega
  | ⟨2, _⟩ => show l.val = win0_17.index t (2 : Fin 3) * 1024 + 1 * l.val; omega
end Cert.Kernel3Ideal.Gen
end
-- ==== Proof.TRef.lean ====
module
public import proofs.«01_k».proof.Proof.Gen.Reference3Ideal.Run
public import proofs.«01_k».proof.Proof.TSpec
public import proofs.«01_k».proof.Proof.SelKeys
@[expose] public section
/-! # The tail's reference at an index -/
set_option maxRecDepth 16384
noncomputable section
open Idealize.ShloMosaic Idealize.ShloMosaic.TcCoe Idealize.ShloMosaic.StableHlo
namespace Cert.Reference3Ideal.Value
open Cert.Reference3Ideal Cert.Reference3Ideal.Gen
variable (V0 : Valuation τ sig (Elt Ideal)) (b : Fin 8) (s : Fin 2048)
/-- The convolved channel `j` of batch element `b`. -/
abbrev urow (j : Fin 512) : ℕ → EReal := Tail.ext (fun s : Fin 2048 => (V0 (Proc.devRef .tc main_arg3) : FVec Ideal S8x2048x512 .f32) (ix3 b s j))
/-- The taps of channel `j`. -/
abbrev wrow (j : Fin 512) : ℕ → EReal := Tail.ext (fun k : Fin 31 => (V0 (Proc.devRef .tc main_arg7) : FVec Ideal S1x31x512 .f32) (ix3 0 k j))

theorem up_at (k : ℕ) (j : Fin 512) (h) : (res_main_v1 (F := Ideal) V0 (ix3 b ⟨k + s.val, h⟩ j) : EReal) = Tail.tap (urow V0 b j) s.val k := by
  have hs := s.isLt
  unfold Tail.tap
  pointwise [res_main_v1]
  by_cases hk : k + s.val < 30
  · rw [dif_pos hk, if_pos (by omega)]
  · rw [dif_neg hk]
    refine Eq.trans ?_ (if_neg (show ¬s.val + k < 30 by omega)).symm
    refine Eq.trans ?_ (dif_pos (show s.val + k - 30 < 2048 by omega)).symm
    refine congrArg (fun s => (V0 (Proc.devRef .tc main_arg3) : FVec Ideal S8x2048x512 .f32) (ix3 b s j)) (Fin.ext ?_)
    show k + s.val - 30 = s.val + k - 30
    omega
theorem up0_at (j : Fin 512) (h) : (res_main_v1 (F := Ideal) V0 (ix3 b ⟨s.val, h⟩ j) : EReal) = Tail.tap (urow V0 b j) s.val 0 := by
  refine Eq.trans ?_ (up_at V0 b s 0 j (by omega))
  congr 2
  exact Fin.ext (by simp)
theorem v79_at (j : Fin 512) : (res_main_v79 (F := Ideal) V0 (ix3 b s j) : EReal) = Tail.acc (fun k => Tail.tap (urow V0 b j) s.val k * wrow V0 j k) 11 := by
  pointwise [res_main_v79]
  simp only [Tail.acc, zero_add, up_at, up0_at]
  rfl
theorem v156_at (j : Fin 512) : (res_main_v156 (F := Ideal) V0 (ix3 b s j) : EReal) = Tail.acc (fun k => Tail.tap (urow V0 b j) s.val k * wrow V0 j k) 22 := by
  refine Eq.trans ?_ (Eq.refl _)
  pointwise [res_main_v156]
  rw [v79_at]
  simp only [up_at]
  rfl
/-- The convolution with its offset. -/
def crow (j : Fin 512) : EReal := Tail.conv (urow V0 b j) (wrow V0 j) s.val + (V0 (Proc.devRef .tc main_arg8) : FVec Ideal S1x512 .f32) (ix2 0 j)
theorem v223_at (j : Fin 512) : (res_main_v223 (F := Ideal) V0 (ix3 b s j) : EReal) = crow V0 b s j := by
  pointwise [res_main_v223]
  rw [v156_at]
  simp only [up_at]
  rfl
theorem v227_at : (res_main_v227 (F := Ideal) V0 (ix3 b s 0) : EReal) = Tail.mu (crow V0 b s) := by
  pointwise [res_main_v227]
  simp only [v223_at]
  rfl
theorem v229_at (j : Fin 512) : (res_main_v229 (F := Ideal) V0 (ix3 b s j) : EReal) = Tail.dev (crow V0 b s) j := by
  pointwise [res_main_v229]
  rw [v223_at, v227_at]
  rfl
abbrev grow (j : Fin 512) : EReal := (V0 (Proc.devRef .tc main_arg9) : FVec Ideal S1x512 .f32) (ix2 0 j)
abbrev brow (j : Fin 512) : EReal := (V0 (Proc.devRef .tc main_arg10) : FVec Ideal S1x512 .f32) (ix2 0 j)
theorem v249_at (j : Fin 512) : (res_main_v249 (F := Ideal) V0 (ix3 b s j) : EReal) = Tail.cn (crow V0 b s) (grow V0) (brow V0) j := by
  pointwise [res_main_v249]
  simp only [v223_at, v227_at, v229_at]
  rfl
/-- The gated convolution's row with its offset. -/
def cprow (k : Fin 512) : EReal := Tail.gate (crow V0 b s) (grow V0) (brow V0) (fun i => (V0 (Proc.devRef .tc main_arg11) : FVec Ideal S1x512x512 .f32) (ix3 0 i k))
  + (V0 (Proc.devRef .tc main_arg12) : FVec Ideal S1x512 .f32) (ix2 0 k)
abbrev tok (V : FVec Ideal S8x2048x1024 .f32) (n : Fin 1024) : EReal := V (ix3 b s n)
abbrev chan (V : FVec Ideal S8x2048x512 .f32) (n : Fin 512) : EReal := V (ix3 b s n)
theorem v268_at (n : Fin 1024) : (res_main_v268 (F := Ideal) V0 (ix3 b s n) : EReal)
    = Tail.res (tok b s (V0 (Proc.devRef .tc main_arg0))) (tok b s (V0 (Proc.devRef .tc main_arg5))) (tok b s (V0 (Proc.devRef .tc main_arg6)))
        (chan b s (V0 (Proc.devRef .tc main_arg1))) (chan b s (V0 (Proc.devRef .tc main_arg2))) (chan b s (V0 (Proc.devRef .tc main_arg4))) (cprow V0 b s)
        (fun k n => (V0 (Proc.devRef .tc main_arg13) : FVec Ideal S1x512x1024 .f32) (ix3 0 k n)) (fun k n => (V0 (Proc.devRef .tc main_arg14) : FVec Ideal S1x512x1024 .f32) (ix3 0 k n))
        (fun k n => (V0 (Proc.devRef .tc main_arg15) : FVec Ideal S1x1024x1024 .f32) (ix3 0 k n)) n := by
  pointwise [res_main_v268]
  simp only [v249_at]
  rfl
/-- The result at an index. -/
theorem result_at (n : Fin 1024) : (val5 (F := Ideal) V0 (Proc.devRef .tc main_v281) (ix3 b s n) : EReal)
    = Tail.out (tok b s (V0 (Proc.devRef .tc main_arg0))) (tok b s (V0 (Proc.devRef .tc main_arg5))) (tok b s (V0 (Proc.devRef .tc main_arg6)))
        (chan b s (V0 (Proc.devRef .tc main_arg1))) (chan b s (V0 (Proc.devRef .tc main_arg2))) (chan b s (V0 (Proc.devRef .tc main_arg4))) (cprow V0 b s)
        (fun k n => (V0 (Proc.devRef .tc main_arg13) : FVec Ideal S1x512x1024 .f32) (ix3 0 k n)) (fun k n => (V0 (Proc.devRef .tc main_arg14) : FVec Ideal S1x512x1024 .f32) (ix3 0 k n))
        (fun k n => (V0 (Proc.devRef .tc main_arg15) : FVec Ideal S1x1024x1024 .f32) (ix3 0 k n)) (fun n => (V0 (Proc.devRef .tc main_arg16) : FVec Ideal S1024 .f32) (ix1 n)) n := by
  rw [val5_main_v281]
  pointwise []
  simp only [v268_at]
  rfl
end Cert.Reference3Ideal.Value
end
-- ==== Proof.TVal.lean ====
module
public import proofs.«01_k».proof.Defs
public import proofs.«01_k».proof.Proof.TOut
public import proofs.«01_k».proof.Proof.TRef
public import proofs.«01_k».proof.Proof.Gen.Kernel3Ideal
public import proofs.«01_k».proof.Proof.Gen.Reference3Ideal
@[expose] public section
/-! # The tail: the kernel's array is the reference's -/
set_option maxRecDepth 16384
noncomputable section
open Idealize.ShloMosaic Idealize.SL.Sem
namespace Cert.Tail3

/-- The reference's word, by its arguments. -/
theorem ref_word (V : Valuation Cert.Reference3Ideal.τ Cert.Reference3Ideal.sig (Elt Ideal)) (a0 : FVec Ideal Cert.Reference3Ideal.S8x2048x1024 .f32) (a1 : FVec Ideal Cert.Reference3Ideal.S8x2048x512 .f32) (a2 : FVec Ideal Cert.Reference3Ideal.S8x2048x512 .f32) (a3 : FVec Ideal Cert.Reference3Ideal.S8x2048x512 .f32) (a4 : FVec Ideal Cert.Reference3Ideal.S8x2048x512 .f32) (a5 : FVec Ideal Cert.Reference3Ideal.S8x2048x1024 .f32) (a6 : FVec Ideal Cert.Reference3Ideal.S8x2048x1024 .f32) (a7 : FVec Ideal Cert.Reference3Ideal.S1x31x512 .f32) (a8 : FVec Ideal Cert.Reference3Ideal.S1x512 .f32) (a9 : FVec Ideal Cert.Reference3Ideal.S1x512 .f32) (a10 : FVec Ideal Cert.Reference3Ideal.S1x512 .f32) (a11 : FVec Ideal Cert.Reference3Ideal.S1x512x512 .f32) (a12 : FVec Ideal Cert.Reference3Ideal.S1x512 .f32) (a13 : FVec Ideal Cert.Reference3Ideal.S1x512x1024 .f32) (a14 : FVec Ideal Cert.Reference3Ideal.S1x512x1024 .f32) (a15 : FVec Ideal Cert.Reference3Ideal.S1x1024x1024 .f32) (a16 : FVec Ideal Cert.Reference3Ideal.S1024 .f32)
    (e0 : V (Proc.devRef .tc Cert.Reference3Ideal.main_arg0) = a0) (e1 : V (Proc.devRef .tc Cert.Reference3Ideal.main_arg1) = a1) (e2 : V (Proc.devRef .tc Cert.Reference3Ideal.main_arg2) = a2) (e3 : V (Proc.devRef .tc Cert.Reference3Ideal.main_arg3) = a3) (e4 : V (Proc.devRef .tc Cert.Reference3Ideal.main_arg4) = a4) (e5 : V (Proc.devRef .tc Cert.Reference3Ideal.main_arg5) = a5) (e6 : V (Proc.devRef .tc Cert.Reference3Ideal.main_arg6) = a6) (e7 : V (Proc.devRef .tc Cert.Reference3Ideal.main_arg7) = a7) (e8 : V (Proc.devRef .tc Cert.Reference3Ideal.main_arg8) = a8) (e9 : V (Proc.devRef .tc Cert.Reference3Ideal.main_arg9) = a9) (e10 : V (Proc.devRef .tc Cert.Reference3Ideal.main_arg10) = a10) (e11 : V (Proc.devRef .tc Cert.Reference3Ideal.main_arg11) = a11) (e12 : V (Proc.devRef .tc Cert.Reference3Ideal.main_arg12) = a12) (e13 : V (Proc.devRef .tc Cert.Reference3Ideal.main_arg13) = a13) (e14 : V (Proc.devRef .tc Cert.Reference3Ideal.main_arg14) = a14) (e15 : V (Proc.devRef .tc Cert.Reference3Ideal.main_arg15) = a15) (e16 : V (Proc.devRef .tc Cert.Reference3Ideal.main_arg16) = a16) (b : Fin 8) (s : Fin 2048) (n : Fin 1024) :
    (Cert.Reference3Ideal.Value.val5 (F := Ideal) V (Proc.devRef .tc Cert.Reference3Ideal.main_v281) (ix3 b s n) : EReal)
      = Tail.out (fun n => a0 (ix3 b s n)) (fun n => a5 (ix3 b s n)) (fun n => a6 (ix3 b s n)) (fun k => a1 (ix3 b s k)) (fun k => a2 (ix3 b s k)) (fun k => a4 (ix3 b s k))
    (fun k => Tail.gate (fun j => Tail.conv (Tail.ext (fun s : Fin 2048 => a3 (ix3 b s j))) (Tail.ext (fun k : Fin 31 => a7 (ix3 0 k j))) s.val + a8 (ix2 0 j))
      (fun j => a9 (ix2 0 j)) (fun j => a10 (ix2 0 j)) (fun i => a11 (ix3 0 i k)) + a12 (ix2 0 k))
    (fun k n => a13 (ix3 0 k n)) (fun k n => a14 (ix3 0 k n)) (fun k n => a15 (ix3 0 k n)) (fun n => a16 (ix1 n)) n := by
  subst e0 e1 e2 e3 e4 e5 e6 e7 e8 e9 e10 e11 e12 e13 e14 e15 e16
  exact Cert.Reference3Ideal.Value.result_at V b s n

set_option maxHeartbeats 4000000 in
/-- The two result arrays are one. -/
theorem arrays_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) (h14 : m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) (h15 : m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) (h16 : m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) :
    (Cert.Reference3Ideal.Value.val5 (F := Ideal) (StableHlo.launchContents m' c) (Proc.devRef .tc Cert.Reference3Ideal.main_v281) : FVec Ideal Cert.Reference3Ideal.S8x2048x1024 .f32)
      = (Cert.Kernel3Ideal.Gen.dats (F := Ideal) m 0 c).arrAt 17 Cert.Kernel3Ideal.cfg0.N :=
  (Cert.Kernel3Ideal.Gen.arr17 m c _ fun b s n => ref_word (StableHlo.launchContents m' c) _ _ _ _ _ _ _ _ _ _ _ _ _ _ _ _ _ h0 h1 h2 h3 h4 h5 h6 h7 h8 h9 h10 h11 h12 h13 h14 h15 h16 b s n).symm

/-- THE TAIL'S VALUE: at the extended reals the kernel and the reference give the same result array. -/
theorem value : Cert.algebraic_Kernel3Ideal_Reference3Ideal := by
  intro m ρ m' ρ' hpre hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3, h4, h5, h6, h7, h8, h9, h10, h11, h12, h13, h14, h15, h16⟩ := hagree c
  exact (Cert.Reference3Ideal.Value.val5_main_v281 (StableHlo.launchContents m' c)).symm.trans (arrays_eq m m' c h0 h1 h2 h3 h4 h5 h6 h7 h8 h9 h10 h11 h12 h13 h14 h15 h16)
end Cert.Tail3
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_layout
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.KArr
public import proofs.«01_k».proof.Proof.ROut
public import proofs.«01_k».proof.Proof.Pre
public import proofs.«01_k».proof.Proof.PVal
public import proofs.«01_k».proof.Proof.TVal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends, leaves its arguments as they were and every counter at zero, at bit patterns. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized kernel from arguments of the layout. -/
theorem frame_pi_layout : Cert.quiescent_KernelIdeal_pre_layout := fun m ρ _ => Cert.KernelIdeal.Gen.frame m ρ

/-- The reference ends, leaves its arguments as they were and every counter at zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same of the reference from arguments of the layout. -/
theorem frame_ri_layout : Cert.quiescent_ReferenceIdeal_pre_layout := fun m ρ _ => frame_ri m ρ trivial

/-- The idealized kernel is the kernel with its two mask constants read as minus infinity. -/
theorem preserves : Cert.preserves_Kernel_KernelIdeal :=
  ⟨IdealRules.named_const.statement Cert.KernelIdeal.κ "mask" .f32 0xF149F2CA#32 ⊥ rfl,
    IdealRules.named_const.statement Cert.KernelIdeal.κ "bias" .f32 0xC61C4000#32 ⊥ rfl⟩

/-- The row of the reference's arguments is the row of the kernel's when the arguments agree. -/
theorem rows_eq (V : Valuation Cert.ReferenceIdeal.τ Cert.ReferenceIdeal.sig (Elt Ideal))
    (a0 : FVec Ideal Cert.ReferenceIdeal.S8x8x2048x128 .bf16)
    (a2 a3 : FVec Ideal Cert.ReferenceIdeal.S8x2x128x128 .bf16) (a4 a5 a6 a7 : FVec Ideal Cert.ReferenceIdeal.S8x2x2048x128 .bf16)
    (a8 : FVec Ideal Cert.ReferenceIdeal.S128x128 .bf16)
    (e0 : V (Proc.devRef .tc Cert.ReferenceIdeal.main_arg0) = a0) (e2 : V (Proc.devRef .tc Cert.ReferenceIdeal.main_arg2) = a2)
    (e3 : V (Proc.devRef .tc Cert.ReferenceIdeal.main_arg3) = a3) (e4 : V (Proc.devRef .tc Cert.ReferenceIdeal.main_arg4) = a4)
    (e5 : V (Proc.devRef .tc Cert.ReferenceIdeal.main_arg5) = a5) (e6 : V (Proc.devRef .tc Cert.ReferenceIdeal.main_arg6) = a6)
    (e7 : V (Proc.devRef .tc Cert.ReferenceIdeal.main_arg7) = a7) (e8 : V (Proc.devRef .tc Cert.ReferenceIdeal.main_arg8) = a8)
    (b : Fin 8) (t : Fin 2048) (G : Fin 2) :
    Cert.ReferenceIdeal.Value.rrow V b t G = Attn.grow (fun b h t l => a0 (ix4 b h t l)) (fun b h t l => a2 (ix4 b h t l))
      (fun b h t l => a3 (ix4 b h t l)) (fun b h t l => a4 (ix4 b h t l)) (fun b h t l => a5 (ix4 b h t l)) (fun b h t l => a6 (ix4 b h t l))
      (fun b h t l => a7 (ix4 b h t l)) (fun k l => a8 (ix2 k l)) b t G := by
  subst e0 e2 e3 e4 e5 e6 e7 e8
  rfl

/-- The two result arrays are one. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_layout m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.val4 (F := Ideal) (StableHlo.launchContents m' c) (Proc.devRef .tc Cert.ReferenceIdeal.main_v149) : FVec Ideal Cert.ReferenceIdeal.S8x2048x512 .f32)
      = (Cert.KernelIdeal.Gen.dats (F := Ideal) m 0 c).arrAt 9 Cert.KernelIdeal.cfg0.N := by
  obtain ⟨fq, hq, fk, hk⟩ := Cert.Pre_layout.layout_facts _ _ _ _ _ _ _ _ _ ix0 (congrFun (hpre c) ix0)
  funext y
  obtain ⟨b, s, L, rfl⟩ : ∃ (b : Fin 8) (s : Fin 2048) (L : Fin 512), y = ix3 b s L := ⟨y 0, y 1, y 2, eq_ix3 y⟩
  obtain ⟨G, h, d, rfl⟩ : ∃ (G : Fin 2) (h : Fin 4) (d : Fin 64), L = (⟨256 * G.val + 64 * h.val + d.val, by omega⟩ : Fin 512) :=
    ⟨⟨L.val / 256, by omega⟩, ⟨L.val / 64 % 4, by omega⟩, ⟨L.val % 64, by omega⟩, Fin.ext (by simp only; omega)⟩
  refine (Cert.ReferenceIdeal.Value.result_at (StableHlo.launchContents m' c) b s G h d).trans ?_
  refine Eq.trans ?_ (Cert.KernelIdeal.Gen.arr_at m c hq hk fq fk b s G h d).symm
  rw [rows_eq (StableHlo.launchContents m' c) _ _ _ _ _ _ _ _ h0 h2 h3 h4 h5 h6 h7 h8]
  refine congrArg (fun w : Fin 3 → EReal => Attn.Row.out _ w h d) (funext fun g => congrArg Ideal.logistic ?_)
  exact congrFun h1 (ix3 b s ⟨3 * (4 * G.val + h.val) + g.val, by omega⟩)

/-- THE VALUE: at the extended reals the kernel and the reference give the same result array, from arguments of the
    layout. -/
theorem value : Cert.algebraic_KernelIdeal_ReferenceIdeal_pre_layout := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  exact (Cert.ReferenceIdeal.Value.val4_main_v149 (StableHlo.launchContents m' c)).symm.trans (arrays_eq m m' c hpre h0 h1 h2 h3 h4 h5 h6 h7 h8)

/-- The projection's kernel ends, leaves its arguments as they were and every counter at zero, at bit patterns. -/
theorem frame_p2 : Cert.quiescent_Kernel2 := fun m ρ _ => Cert.Kernel2.Gen.frame m ρ

/-- The same of the idealized projection's kernel. -/
theorem frame_pi2 : Cert.quiescent_Kernel2Ideal := fun m ρ _ => Cert.Kernel2Ideal.Gen.frame m ρ

/-- The projection's reference ends, leaves its arguments as they were and every counter at zero. -/
theorem frame_ri2 : Cert.quiescent_Reference2Ideal := fun m ρ _ =>
  (θ_run Cert.Reference2Ideal.defs _ _).mono (fun r h => ⟨fun c => by obtain ⟨-, -, -, -, -, -, -, -, -, -, -, -, -, -, -, -, -, hk⟩ := h c; exact hk,
      Idealize.ShloMosaic.sem_eq_zero_of_no_sems (by decide) r.2⟩)
    (Cert.Reference2Ideal.Value.run (F := Ideal) m ρ)

/-- The idealized projection's kernel replaces no word of the kernel. -/
theorem preserves2 : Cert.preserves_Kernel2_Kernel2Ideal := trivial

/-- The tail's kernel ends, leaves its arguments as they were and every counter at zero, at bit patterns. -/
theorem frame_p3 : Cert.quiescent_Kernel3 := fun m ρ _ => Cert.Kernel3.Gen.frame m ρ

/-- The same of the idealized tail's kernel. -/
theorem frame_pi3 : Cert.quiescent_Kernel3Ideal := fun m ρ _ => Cert.Kernel3Ideal.Gen.frame m ρ

/-- The tail's reference ends, leaves its arguments as they were and every counter at zero. -/
theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The idealized tail's kernel replaces no word of the kernel. -/
theorem preserves3 : Cert.preserves_Kernel3_Kernel3Ideal := trivial

/-- Every claim. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_layout.Gen.facts,
  frame_p, frame_pi, frame_pi_layout, frame_ri, frame_ri_layout, frame_p2, frame_pi2, frame_ri2, frame_p3, frame_pi3, frame_ri3,
  preserves, value, preserves2, Cert.Proj2.value, preserves3, Cert.Tail3.value⟩

end Cert.Proof

end
